-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_real [hPre_scales_real : Cert.Pre_scales_real.Facts] (m : (ℓ : Loc Cert.KernelIdeal.nD Cert.KernelIdeal.τ Cert.KernelIdeal.sig) → Buf (Elt Ideal) ℓ) : Prop :=
  ∀ c : Dev Cert.KernelIdeal.nD,
    (Cert.Pre_scales_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_scales_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_scales_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_scales_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_scales_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_real [hPre_scales_real : Cert.Pre_scales_real.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_scales_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_scales_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_scales_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_scales_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_scales_real [hKernelIdeal : Cert.KernelIdeal.Facts] [hPre_scales_real : Cert.Pre_scales_real.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_real m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_scales_real [hReferenceIdeal : Cert.ReferenceIdeal.Facts] [hPre_scales_real : Cert.Pre_scales_real.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_real m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "sm_log2e" .f32 0x3E38AA3B#32 (((1 / 8) * (Real.log 2)⁻¹ : ℝ) : EReal)

def algebraic_KernelIdeal_ReferenceIdeal_pre_scales_real [hKernelIdeal : Cert.KernelIdeal.Facts] [hReferenceIdeal : Cert.ReferenceIdeal.Facts] [hPre_scales_real : Cert.Pre_scales_real.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_real m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_v135) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_v138) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_scales_real : Cert.Pre_scales_real.Facts),
    quiescent_Kernel (hKernel := hKernel)
    ∧ quiescent_KernelIdeal (hKernelIdeal := hKernelIdeal)
    ∧ quiescent_KernelIdeal_pre_scales_real (hKernelIdeal := hKernelIdeal) (hPre_scales_real := hPre_scales_real)
    ∧ quiescent_ReferenceIdeal (hReferenceIdeal := hReferenceIdeal)
    ∧ quiescent_ReferenceIdeal_pre_scales_real (hReferenceIdeal := hReferenceIdeal) (hPre_scales_real := hPre_scales_real)
    ∧ preserves_Kernel_KernelIdeal
    ∧ algebraic_KernelIdeal_ReferenceIdeal_pre_scales_real (hKernelIdeal := hKernelIdeal) (hReferenceIdeal := hReferenceIdeal) (hPre_scales_real := hPre_scales_real)
-- ==== Pre_scales_real.lean ====
abbrev S2x1024x20x64 : Shape := ⟨4, ![2, 1024, 20, 64]⟩
abbrev S2x8x20 : Shape := ⟨3, ![2, 8, 20]⟩
abbrev S20x32 : Shape := ⟨2, ![20, 32]⟩
abbrev S_ : Shape := ⟨0, ![]⟩

class Facts : Prop where
  bcast_S_S2x8x20 : S_.BroadcastsInDim S2x8x20 (![] : Fin 0 → Fin S2x8x20.rank)
  bcast_S_S20x32 : S_.BroadcastsInDim S20x32 (![] : Fin 0 → Fin S20x32.rank)

variable [Facts]

def fn_part1 {F : FTy → Type} [FloatOps F] (main_arg7 : FVec F S2x8x20 .f32) (main_arg8 : FVec F S20x32 .f32) (main_v4 : IVec S2x8x20 1) (main_v9 : IVec S2x8x20 1) (main_v14 : IVec S2x8x20 1) (main_v16 : IVec S2x8x20 1) : IVec S2x8x20 1 × IVec S2x8x20 1 × IVec S2x8x20 1 × IVec S2x8x20 1 × IVec S20x32 1 :=
  let main_cst_6 : FVec F S_ .f32 := constant S_ .f32 0x7F800000#32
  let main_v17 : FVec F S2x8x20 .f32 := broadcastInDim S2x8x20 ![] bcast_S_S2x8x20 main_cst_6
  let main_v18 : IVec S2x8x20 1 := cmpf .olt main_arg7 main_v17
  let main_v19 : IVec S2x8x20 1 := andi main_v16 main_v18
  let main_cst_7 : FVec F S_ .f32 := constant S_ .f32 0xFF800000#32
  let main_v20 : FVec F S20x32 .f32 := broadcastInDim S20x32 ![] bcast_S_S20x32 main_cst_7
  let main_v21 : IVec S20x32 1 := cmpf .ogt main_arg8 main_v20
  let main_cst_8 : FVec F S_ .f32 := constant S_ .f32 0x7F800000#32
  let main_v22 : FVec F S20x32 .f32 := broadcastInDim S20x32 ![] bcast_S_S20x32 main_cst_8
  let main_v23 : IVec S20x32 1 := cmpf .olt main_arg8 main_v22
  let main_v24 : IVec S20x32 1 := andi main_v21 main_v23
  (main_v4, main_v9, main_v14, main_v19, main_v24)

def fn {F : FTy → Type} [FloatOps F] (main_arg0 : FVec F S2x1024x20x64 .fp8e4m3) (main_arg1 : FVec F S2x8x20 .f32) (main_arg2 : FVec F S2x1024x20x64 .fp8e4m3) (main_arg3 : FVec F S2x8x20 .f32) (main_arg4 : FVec F S2x1024x20x64 .fp8e4m3) (main_arg5 : FVec F S2x8x20 .f32) (main_arg6 : FVec F S2x1024x20x64 .fp8e5m2) (main_arg7 : FVec F S2x8x20 .f32) (main_arg8 : FVec F S20x32 .f32) : IVec S2x8x20 1 × IVec S2x8x20 1 × IVec S2x8x20 1 × IVec S2x8x20 1 × IVec S20x32 1 :=
  let main_cst : FVec F S_ .f32 := constant S_ .f32 0x00000000#32
  let main_v0 : FVec F S2x8x20 .f32 := broadcastInDim S2x8x20 ![] bcast_S_S2x8x20 main_cst
  let main_v1 : IVec S2x8x20 1 := cmpf .oge main_arg1 main_v0
  let main_cst_0 : FVec F S_ .f32 := constant S_ .f32 0x7F800000#32
  let main_v2 : FVec F S2x8x20 .f32 := broadcastInDim S2x8x20 ![] bcast_S_S2x8x20 main_cst_0
  let main_v3 : IVec S2x8x20 1 := cmpf .olt main_arg1 main_v2
  let main_v4 : IVec S2x8x20 1 := andi main_v1 main_v3
  let main_cst_1 : FVec F S_ .f32 := constant S_ .f32 0x00000000#32
  let main_v5 : FVec F S2x8x20 .f32 := broadcastInDim S2x8x20 ![] bcast_S_S2x8x20 main_cst_1
  let main_v6 : IVec S2x8x20 1 := cmpf .oge main_arg3 main_v5
  let main_cst_2 : FVec F S_ .f32 := constant S_ .f32 0x7F800000#32
  let main_v7 : FVec F S2x8x20 .f32 := broadcastInDim S2x8x20 ![] bcast_S_S2x8x20 main_cst_2
  let main_v8 : IVec S2x8x20 1 := cmpf .olt main_arg3 main_v7
  let main_v9 : IVec S2x8x20 1 := andi main_v6 main_v8
  let main_cst_3 : FVec F S_ .f32 := constant S_ .f32 0x00000000#32
  let main_v10 : FVec F S2x8x20 .f32 := broadcastInDim S2x8x20 ![] bcast_S_S2x8x20 main_cst_3
  let main_v11 : IVec S2x8x20 1 := cmpf .ogt main_arg5 main_v10
  let main_cst_4 : FVec F S_ .f32 := constant S_ .f32 0x7F800000#32
  let main_v12 : FVec F S2x8x20 .f32 := broadcastInDim S2x8x20 ![] bcast_S_S2x8x20 main_cst_4
  let main_v13 : IVec S2x8x20 1 := cmpf .olt main_arg5 main_v12
  let main_v14 : IVec S2x8x20 1 := andi main_v11 main_v13
  let main_cst_5 : FVec F S_ .f32 := constant S_ .f32 0x00000000#32
  let main_v15 : FVec F S2x8x20 .f32 := broadcastInDim S2x8x20 ![] bcast_S_S2x8x20 main_cst_5
  let main_v16 : IVec S2x8x20 1 := cmpf .oge main_arg7 main_v15
  fn_part1 (F := F) main_arg7 main_arg8 main_v4 main_v9 main_v14 main_v16
-- ==== Kernel.lean ====
abbrev S2x1024x20x64 : Shape := ⟨4, ![2, 1024, 20, 64]⟩
abbrev S2x8x20 : Shape := ⟨3, ![2, 8, 20]⟩
abbrev S20x32 : Shape := ⟨2, ![20, 32]⟩
abbrev S320 : Shape := ⟨1, ![320]⟩
abbrev S640 : Shape := ⟨1, ![640]⟩
abbrev S2x20x1024x64 : Shape := ⟨4, ![2, 20, 1024, 64]⟩
abbrev S20x1x128 : Shape := ⟨3, ![20, 1, 128]⟩
abbrev S1x1x1024x64 : Shape := ⟨4, ![1, 1, 1024, 64]⟩
abbrev S1x1x128 : Shape := ⟨3, ![1, 1, 128]⟩
abbrev S128x512 : Shape := ⟨2, ![128, 512]⟩
abbrev S1024x256 : Shape := ⟨2, ![1024, 256]⟩
abbrev S1024x1024 : Shape := ⟨2, ![1024, 1024]⟩
abbrev S64x1024 : Shape := ⟨2, ![64, 1024]⟩
abbrev S1024x64 : Shape := ⟨2, ![1024, 64]⟩
abbrev S8x512 : Shape := ⟨2, ![8, 512]⟩
abbrev S1 : Shape := ⟨1, ![1]⟩
abbrev S1x1x128x64 : Shape := ⟨4, ![1, 1, 128, 64]⟩
abbrev S128x64 : Shape := ⟨2, ![128, 64]⟩
abbrev S64x128 : Shape := ⟨2, ![64, 128]⟩
abbrev S1x128 : Shape := ⟨2, ![1, 128]⟩
abbrev S1x1x256x64 : Shape := ⟨4, ![1, 1, 256, 64]⟩
abbrev S256x64 : Shape := ⟨2, ![256, 64]⟩
abbrev S8x128 : Shape := ⟨2, ![8, 128]⟩
abbrev S128x128 : Shape := ⟨2, ![128, 128]⟩
abbrev S16x8x128 : Shape := ⟨3, ![16, 8, 128]⟩
abbrev S128 : Shape := ⟨1, ![128]⟩
abbrev S64x256 : Shape := ⟨2, ![64, 256]⟩
abbrev S128x1024 : Shape := ⟨2, ![128, 1024]⟩
abbrev S1x1 : Shape := ⟨2, ![1, 1]⟩
abbrev S64x512 : Shape := ⟨2, ![64, 512]⟩
abbrev S32x512 : Shape := ⟨2, ![32, 512]⟩
abbrev S16x512 : Shape := ⟨2, ![16, 512]⟩
abbrev S4x512 : Shape := ⟨2, ![4, 512]⟩
abbrev S2x512 : Shape := ⟨2, ![2, 512]⟩
abbrev S1x512 : Shape := ⟨2, ![1, 512]⟩
abbrev S32 : Shape := ⟨1, ![32]⟩
abbrev S32x1 : Shape := ⟨2, ![32, 1]⟩
abbrev S32x128 : Shape := ⟨2, ![32, 128]⟩
abbrev S20x1x32 : Shape := ⟨3, ![20, 1, 32]⟩

abbrev nBuf : Space → Nat
  | .hbm => 27
  | .vmem => 26
  | .smem => 5
  | _ => 0

abbrev bufTy : (tb : Table) → Fin (tcTables nBuf tb) → BufTy
  | .hbm, ⟨0, _⟩ => ⟨S2x1024x20x64, .fp8e4m3⟩
  | .hbm, ⟨1, _⟩ => ⟨S2x8x20, .f32⟩
  | .hbm, ⟨2, _⟩ => ⟨S2x1024x20x64, .fp8e4m3⟩
  | .hbm, ⟨3, _⟩ => ⟨S2x8x20, .f32⟩
  | .hbm, ⟨4, _⟩ => ⟨S2x1024x20x64, .fp8e4m3⟩
  | .hbm, ⟨5, _⟩ => ⟨S2x8x20, .f32⟩
  | .hbm, ⟨6, _⟩ => ⟨S2x1024x20x64, .fp8e5m2⟩
  | .hbm, ⟨7, _⟩ => ⟨S2x8x20, .f32⟩
  | .hbm, ⟨8, _⟩ => ⟨S20x32, .f32⟩
  | .hbm, ⟨9, _⟩ => ⟨S320, .f32⟩
  | .hbm, ⟨10, _⟩ => ⟨S320, .f32⟩
  | .hbm, ⟨11, _⟩ => ⟨S320, .f32⟩
  | .hbm, ⟨12, _⟩ => ⟨S320, .f32⟩
  | .hbm, ⟨13, _⟩ => ⟨S640, .f32⟩
  | .hbm, ⟨14, _⟩ => ⟨S2x20x1024x64, .fp8e4m3⟩
  | .hbm, ⟨15, _⟩ => ⟨S2x20x1024x64, .fp8e4m3⟩
  | .hbm, ⟨16, _⟩ => ⟨S2x20x1024x64, .fp8e4m3⟩
  | .hbm, ⟨17, _⟩ => ⟨S2x20x1024x64, .fp8e5m2⟩
  | .hbm, ⟨18, _⟩ => ⟨S2x20x1024x64, .bf16⟩
  | .hbm, ⟨19, _⟩ => ⟨S2x20x1024x64, .bf16⟩
  | .hbm, ⟨20, _⟩ => ⟨S2x20x1024x64, .bf16⟩
  | .hbm, ⟨21, _⟩ => ⟨S20x1x128, .f32⟩
  | .hbm, ⟨22, _⟩ => ⟨S2x1024x20x64, .bf16⟩
  | .hbm, ⟨23, _⟩ => ⟨S2x1024x20x64, .bf16⟩
  | .hbm, ⟨24, _⟩ => ⟨S2x1024x20x64, .bf16⟩
  | .hbm, ⟨25, _⟩ => ⟨S20x1x32, .f32⟩
  | .hbm, ⟨26, _⟩ => ⟨S20x32, .f32⟩
  | .local _ .vmem, ⟨0, _⟩ => ⟨S1x1x1024x64, .fp8e4m3⟩
  | .local _ .vmem, ⟨1, _⟩ => ⟨S1x1x1024x64, .fp8e4m3⟩
  | .local _ .vmem, ⟨2, _⟩ => ⟨S1x1x1024x64, .fp8e4m3⟩
  | .local _ .vmem, ⟨3, _⟩ => ⟨S1x1x1024x64, .fp8e4m3⟩
  | .local _ .vmem, ⟨4, _⟩ => ⟨S1x1x1024x64, .fp8e4m3⟩
  | .local _ .vmem, ⟨5, _⟩ => ⟨S1x1x1024x64, .fp8e4m3⟩
  | .local _ .vmem, ⟨6, _⟩ => ⟨S1x1x1024x64, .fp8e5m2⟩
  | .local _ .vmem, ⟨7, _⟩ => ⟨S1x1x1024x64, .fp8e5m2⟩
  | .local _ .vmem, ⟨8, _⟩ => ⟨S1x1x1024x64, .bf16⟩
  | .local _ .vmem, ⟨9, _⟩ => ⟨S1x1x1024x64, .bf16⟩
  | .local _ .vmem, ⟨10, _⟩ => ⟨S1x1x1024x64, .bf16⟩
  | .local _ .vmem, ⟨11, _⟩ => ⟨S1x1x1024x64, .bf16⟩
  | .local _ .vmem, ⟨12, _⟩ => ⟨S1x1x1024x64, .bf16⟩
  | .local _ .vmem, ⟨13, _⟩ => ⟨S1x1x1024x64, .bf16⟩
  | .local _ .vmem, ⟨14, _⟩ => ⟨S1x1x128, .f32⟩
  | .local _ .vmem, ⟨15, _⟩ => ⟨S1x1x128, .f32⟩
  | .local _ .vmem, ⟨16, _⟩ => ⟨S128x512, .f32⟩
  | .local _ .vmem, ⟨17, _⟩ => ⟨S128x512, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x1024, .bf16⟩
  | .local _ .vmem, ⟨22, _⟩ => ⟨S1024x1024, .bf16⟩
  | .local _ .vmem, ⟨23, _⟩ => ⟨S64x1024, .bf16⟩
  | .local _ .vmem, ⟨24, _⟩ => ⟨S1024x64, .bf16⟩
  | .local _ .vmem, ⟨25, _⟩ => ⟨S1024x64, .bf16⟩
  | .local _ .smem, ⟨0, _⟩ => ⟨S320, .f32⟩
  | .local _ .smem, ⟨1, _⟩ => ⟨S320, .f32⟩
  | .local _ .smem, ⟨2, _⟩ => ⟨S320, .f32⟩
  | .local _ .smem, ⟨3, _⟩ => ⟨S320, .f32⟩
  | .local _ .smem, ⟨4, _⟩ => ⟨S640, .f32⟩
  | _, _ => ⟨S2x1024x20x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg6_1 : Ref sig .tc := ⟨.vmem, 3, rfl⟩
abbrev cc0_stg7_0 : Ref sig .tc := ⟨.vmem, 4, rfl⟩
abbrev cc0_stg7_1 : Ref sig .tc := ⟨.vmem, 5, rfl⟩
abbrev cc0_stg8_0 : Ref sig .tc := ⟨.vmem, 6, rfl⟩
abbrev cc0_stg8_1 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![20, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_3215 : BitVec 32) : Fin 1 → Nat :=
  let arg0 : BitVec 32 := BitVec.ofNat 32 (i 0).val
  let c32_i32_3214 : BitVec 32 := 32#32
  let v6626 : BitVec 32 := Scalar.muli arg0 c32_i32_3214
  let v6627 : BitVec 32 := Scalar.addi v6626 c0_i32_3215
  let v6628 : Index := Scalar.indexCast v6627
  ![v6628.toNat]
def k0_off2 (i : grid0.Coords) (c0_i32_4 : BitVec 32) : Fin 1 → Nat :=
  let arg1 : BitVec 32 := BitVec.ofNat 32 (i 1).val
  let c8_i32 : BitVec 32 := 8#32
  let v6 : BitVec 32 := Scalar.muli arg1 c8_i32
  let v7 : BitVec 32 := Scalar.addi v6 c0_i32_4
  let c20_i32 : BitVec 32 := 20#32
  let v8 : BitVec 32 := Scalar.muli v7 c20_i32
  let arg0 : BitVec 32 := BitVec.ofNat 32 (i 0).val
  let v9 : BitVec 32 := Scalar.addi v8 arg0
  let v10 : Index := Scalar.indexCast v9
  ![v10.toNat]
def k0_off3 (i : grid0.Coords) (c16_i32 : BitVec 32) : Fin 1 → Nat :=
  let arg0 : BitVec 32 := BitVec.ofNat 32 (i 0).val
  let c32_i32 : BitVec 32 := 32#32
  let v483 : BitVec 32 := Scalar.muli arg0 c32_i32
  let v484 : BitVec 32 := Scalar.addi v483 c16_i32
  let c1_i32_248 : BitVec 32 := 1#32
  let v485 : BitVec 32 := Scalar.subi v484 c1_i32_248
  let v486 : Index := Scalar.indexCast v485
  ![v486.toNat]
def k0_cond2 (i : grid0.Coords) : BitVec 1 :=
  let arg1 : BitVec 32 := BitVec.ofNat 32 (i 1).val
  let c0_i32_3197 : BitVec 32 := 0#32
  let v6565 : BitVec 1 := Scalar.cmpi .eq arg1 c0_i32_3197
  let v6566 : BitVec 32 := Scalar.extui v6565
  let c0_i32_3198 : BitVec 32 := 0#32
  let v6567 : BitVec 1 := Scalar.cmpi .ne v6566 c0_i32_3198
  v6567

def k0_cond3 (i : grid0.Coords) : BitVec 1 :=
  let arg1 : BitVec 32 := BitVec.ofNat 32 (i 1).val
  let c0_i32_3199 : BitVec 32 := 0#32
  let v6568 : BitVec 1 := Scalar.cmpi .ne arg1 c0_i32_3199
  let v6569 : BitVec 32 := Scalar.extui v6568
  let c0_i32_3200 : BitVec 32 := 0#32
  let v6570 : BitVec 1 := Scalar.cmpi .ne v6569 c0_i32_3200
  v6570

def k0_cond4 (i : grid0.Coords) : BitVec 1 :=
  let arg1 : BitVec 32 := BitVec.ofNat 32 (i 1).val
  let c1_i32_3201 : BitVec 32 := 1#32
  let v6571 : BitVec 1 := Scalar.cmpi .eq arg1 c1_i32_3201
  let v6572 : BitVec 32 := Scalar.extui v6571
  let c0_i32_3202 : BitVec 32 := 0#32
  let v6573 : BitVec 1 := Scalar.cmpi .ne v6572 c0_i32_3202
  v6573

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024x64 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x64 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024x64 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024x64 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "log2e" => some (((Real.log 2)⁻¹ : ℝ) : EReal)
  | "sm_log2e" => some (((1 / 8) * (Real.log 2)⁻¹ : ℝ) : EReal)
  | _ => none
-- ==== ReferenceIdeal.lean ====
abbrev S2x1024x20x64 : Shape := ⟨4, ![2, 1024, 20, 64]⟩
abbrev S2x8x20 : Shape := ⟨3, ![2, 8, 20]⟩
abbrev S20x32 : Shape := ⟨2, ![20, 32]⟩
abbrev S2x20x8 : Shape := ⟨3, ![2, 20, 8]⟩
abbrev S2x20x8x1 : Shape := ⟨4, ![2, 20, 8, 1]⟩
abbrev S2x20x8x128 : Shape := ⟨4, ![2, 20, 8, 128]⟩
abbrev S2x20x1024 : Shape := ⟨3, ![2, 20, 1024]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S_ : Shape := ⟨0, ![]⟩
abbrev S1024x1024x1 : Shape := ⟨3, ![1024, 1024, 1]⟩
abbrev S32 : Shape := ⟨1, ![32]⟩
abbrev S1x1x32 : Shape := ⟨3, ![1, 1, 32]⟩
abbrev S1024x1024x32 : Shape := ⟨3, ![1024, 1024, 32]⟩
abbrev S2x20x1024x1024 : Shape := ⟨4, ![2, 20, 1024, 1024]⟩
abbrev S20x1024x1024 : Shape := ⟨3, ![20, 1024, 1024]⟩
abbrev S2x20x1024x1 : Shape := ⟨4, ![2, 20, 1024, 1]⟩
abbrev S2x20x1x1024 : Shape := ⟨4, ![2, 20, 1, 1024]⟩
abbrev S1x20x1024x1024 : Shape := ⟨4, ![1, 20, 1024, 1024]⟩
abbrev S2x8x1x20x1 : Shape := ⟨5, ![2, 8, 1, 20, 1]⟩
abbrev S2x8x128x20x64 : Shape := ⟨5, ![2, 8, 128, 20, 64]⟩
abbrev S2x20x64x1024 : Shape := ⟨4, ![2, 20, 64, 1024]⟩

abbrev nBuf : Space → Nat
  | .hbm => 174
  | .vmem => 8
  | .smem => 0
  | _ => 0

abbrev hbmTy0_0 (i : Nat) : BufTy := match i % 128 with
  | 0 => ⟨S2x1024x20x64, .fp8e4m3⟩
  | 1 => ⟨S2x8x20, .f32⟩
  | 2 => ⟨S2x1024x20x64, .fp8e4m3⟩
  | 3 => ⟨S2x8x20, .f32⟩
  | 4 => ⟨S2x1024x20x64, .fp8e4m3⟩
  | 5 => ⟨S2x8x20, .f32⟩
  | 6 => ⟨S2x1024x20x64, .fp8e5m2⟩
  | 7 => ⟨S2x8x20, .f32⟩
  | 8 => ⟨S20x32, .f32⟩
  | 9 => ⟨S2x1024x20x64, .bf16⟩
  | 10 => ⟨S2x1024x20x64, .bf16⟩
  | 11 => ⟨S2x1024x20x64, .bf16⟩
  | 12 => ⟨S2x1024x20x64, .bf16⟩
  | 13 => ⟨S2x20x8, .f32⟩
  | 14 => ⟨S2x20x8x1, .f32⟩
  | 15 => ⟨S2x20x8x128, .f32⟩
  | 16 => ⟨S2x20x1024, .f32⟩
  | 17 => ⟨S2x20x8, .f32⟩
  | 18 => ⟨S2x20x8x1, .f32⟩
  | 19 => ⟨S2x20x8x128, .f32⟩
  | 20 => ⟨S2x20x1024, .f32⟩
  | 21 => ⟨S2x20x8, .f32⟩
  | 22 => ⟨S2x20x8x1, .f32⟩
  | 23 => ⟨S2x20x8x128, .f32⟩
  | 24 => ⟨S2x20x1024, .f32⟩
  | 25 => ⟨S2x20x8, .f32⟩
  | 26 => ⟨S2x20x8x1, .f32⟩
  | 27 => ⟨S2x20x8x128, .f32⟩
  | 28 => ⟨S2x20x1024, .f32⟩
  | 29 => ⟨S1024, .i32⟩
  | 30 => ⟨S1x1024, .i32⟩
  | 31 => ⟨S1024x1, .i32⟩
  | 32 => ⟨S1024x1024, .i32⟩
  | 33 => ⟨S1024x1024, .i32⟩
  | 34 => ⟨S1024x1024, .i32⟩
  | 35 => ⟨S1024x1024, .i32⟩
  | 36 => ⟨S_, .i32⟩
  | 37 => ⟨S1024x1024, .i32⟩
  | 38 => ⟨S1024x1024, .i1⟩
  | 39 => ⟨S1024x1024, .i32⟩
  | 40 => ⟨S_, .i32⟩
  | 41 => ⟨S1024x1024, .i32⟩
  | 42 => ⟨S1024x1024, .i32⟩
  | 43 => ⟨S_, .i32⟩
  | 44 => ⟨S1024x1024, .i32⟩
  | 45 => ⟨S1024x1024, .i1⟩
  | 46 => ⟨S1024x1024, .i32⟩
  | 47 => ⟨S1024x1024, .i32⟩
  | 48 => ⟨S_, .i32⟩
  | 49 => ⟨S1024x1024, .i32⟩
  | 50 => ⟨S1024x1024, .i1⟩
  | 51 => ⟨S1024x1024, .i32⟩
  | 52 => ⟨S1024x1024, .i32⟩
  | 53 => ⟨S_, .i32⟩
  | 54 => ⟨S1024x1024, .i32⟩
  | 55 => ⟨S1024x1024, .i1⟩
  | 56 => ⟨S1024x1024, .i32⟩
  | 57 => ⟨S1024x1024, .i32⟩
  | 58 => ⟨S_, .i32⟩
  | 59 => ⟨S1024x1024, .i32⟩
  | 60 => ⟨S1024x1024, .i1⟩
  | 61 => ⟨S1024x1024, .i32⟩
  | 62 => ⟨S1024x1024, .i32⟩
  | 63 => ⟨S_, .i32⟩
  | 64 => ⟨S1024x1024, .i32⟩
  | 65 => ⟨S1024x1024, .i1⟩
  | 66 => ⟨S1024x1024, .i32⟩
  | 67 => ⟨S1024x1024, .i32⟩
  | 68 => ⟨S_, .i32⟩
  | 69 => ⟨S1024x1024, .i32⟩
  | 70 => ⟨S1024x1024, .i1⟩
  | 71 => ⟨S1024x1024, .i32⟩
  | 72 => ⟨S1024x1024, .i32⟩
  | 73 => ⟨S_, .i32⟩
  | 74 => ⟨S1024x1024, .i32⟩
  | 75 => ⟨S1024x1024, .i1⟩
  | 76 => ⟨S_, .i32⟩
  | 77 => ⟨S1024x1024, .i32⟩
  | 78 => ⟨S1024x1024, .i32⟩
  | 79 => ⟨S1024x1024, .i32⟩
  | 80 => ⟨S_, .i32⟩
  | 81 => ⟨S1024x1024, .i32⟩
  | 82 => ⟨S1024x1024, .i1⟩
  | 83 => ⟨S_, .i32⟩
  | 84 => ⟨S_, .i32⟩
  | 85 => ⟨S1024x1024, .i32⟩
  | 86 => ⟨S1024x1024, .i32⟩
  | 87 => ⟨S1024x1024, .i32⟩
  | 88 => ⟨S1024x1024, .i32⟩
  | 89 => ⟨S1024x1024, .i32⟩
  | 90 => ⟨S1024x1024x1, .i32⟩
  | 91 => ⟨S32, .i32⟩
  | 92 => ⟨S1x1x32, .i32⟩
  | 93 => ⟨S1024x1024x32, .i32⟩
  | 94 => ⟨S1024x1024x32, .i32⟩
  | 95 => ⟨S1024x1024x32, .i1⟩
  | 96 => ⟨S1024x1024x32, .f32⟩
  | 97 => ⟨S2x20x1024x1024, .f32⟩
  | 98 => ⟨S20x1024x1024, .f32⟩
  | 99 => ⟨S_, .f32⟩
  | 100 => ⟨S2x20x1024, .f32⟩
  | 101 => ⟨S2x20x1024, .f32⟩
  | 102 => ⟨S2x20x1024x1, .f32⟩
  | 103 => ⟨S2x20x1024x1024, .f32⟩
  | 104 => ⟨S2x20x1024x1024, .f32⟩
  | 105 => ⟨S2x20x1x1024, .f32⟩
  | 106 => ⟨S2x20x1024x1024, .f32⟩
  | 107 => ⟨S2x20x1024x1024, .f32⟩
  | 108 => ⟨S1x20x1024x1024, .f32⟩
  | 109 => ⟨S2x20x1024x1024, .f32⟩
  | 110 => ⟨S2x20x1024x1024, .f32⟩
  | 111 => ⟨S_, .f32⟩
  | 112 => ⟨S2x20x1024, .f32⟩
  | 113 => ⟨S2x20x1024x1, .f32⟩
  | 114 => ⟨S2x20x1024x1024, .f32⟩
  | 115 => ⟨S2x20x1024x1024, .f32⟩
  | 116 => ⟨S2x20x1024x1024, .f32⟩
  | 117 => ⟨S_, .f32⟩
  | 118 => ⟨S2x20x1024, .f32⟩
  | 119 => ⟨S2x20x1024x1, .f32⟩
  | 120 => ⟨S_, .f32⟩
  | 121 => ⟨S2x20x1024x1, .f32⟩
  | 122 => ⟨S2x20x1024x1, .f32⟩
  | 123 => ⟨S2x20x1024x1024, .f32⟩
  | 124 => ⟨S2x20x1024x1024, .f32⟩
  | 125 => ⟨S2x20x1024x1024, .f32⟩
  | 126 => ⟨S2x20x1024x1, .f32⟩
  | 127 => ⟨S2x20x1024x1024, .f32⟩
  | _ => ⟨S2x1024x20x64, .fp8e4m3⟩

abbrev hbmTy0_1 (i : Nat) : BufTy := match i % 128 with
  | 0 => ⟨S2x20x1024x1024, .f32⟩
  | 1 => ⟨S2x20x1x1024, .f32⟩
  | 2 => ⟨S2x20x1024x1024, .f32⟩
  | 3 => ⟨S2x20x1024x1024, .f32⟩
  | 4 => ⟨S2x20x1024x1024, .f32⟩
  | 5 => ⟨S_, .f32⟩
  | 6 => ⟨S2x20x1024, .f32⟩
  | 7 => ⟨S2x20x1024x1, .f32⟩
  | 8 => ⟨S2x20x1024x1024, .f32⟩
  | 9 => ⟨S2x20x1024x1024, .f32⟩
  | 10 => ⟨S2x20x1024x1024, .f32⟩
  | 11 => ⟨S2x20x1024x1024, .bf16⟩
  | 12 => ⟨S2x20x1024x1024, .bf16⟩
  | 13 => ⟨S2x8x20, .bf16⟩
  | 14 => ⟨S2x8x1x20x1, .bf16⟩
  | 15 => ⟨S2x8x128x20x64, .bf16⟩
  | 16 => ⟨S2x1024x20x64, .bf16⟩
  | 17 => ⟨S2x1024x20x64, .bf16⟩
  | 18 => ⟨S2x20x64x1024, .f32⟩
  | 19 => ⟨S2x1024x20x64, .f32⟩
  | 20 => ⟨S2x8x20, .bf16⟩
  | 21 => ⟨S2x8x1x20x1, .bf16⟩
  | 22 => ⟨S2x8x128x20x64, .bf16⟩
  | 23 => ⟨S2x1024x20x64, .bf16⟩
  | 24 => ⟨S2x1024x20x64, .bf16⟩
  | 25 => ⟨S2x20x64x1024, .f32⟩
  | 26 => ⟨S2x1024x20x64, .f32⟩
  | 27 => ⟨S_, .f32⟩
  | 28 => ⟨S2x1024x20x64, .f32⟩
  | 29 => ⟨S2x1024x20x64, .f32⟩
  | 30 => ⟨S2x8x20, .bf16⟩
  | 31 => ⟨S2x8x1x20x1, .bf16⟩
  | 32 => ⟨S2x8x128x20x64, .bf16⟩
  | 33 => ⟨S2x1024x20x64, .bf16⟩
  | 34 => ⟨S2x1024x20x64, .bf16⟩
  | 35 => ⟨S2x20x64x1024, .f32⟩
  | 36 => ⟨S2x1024x20x64, .f32⟩
  | 37 => ⟨S_, .f32⟩
  | 38 => ⟨S2x1024x20x64, .f32⟩
  | 39 => ⟨S2x1024x20x64, .f32⟩
  | 40 => ⟨S2x1024x20x64, .bf16⟩
  | 41 => ⟨S2x1024x20x64, .bf16⟩
  | 42 => ⟨S2x1024x20x64, .bf16⟩
  | 43 => ⟨S_, .f32⟩
  | 44 => ⟨S20x1024x1024, .f32⟩
  | 45 => ⟨S20x32, .f32⟩
  | _ => ⟨S2x1024x20x64, .fp8e4m3⟩

abbrev hbmTy (i : Nat) : BufTy := match i / 128 with
  | 0 => hbmTy0_0 i
  | 1 => hbmTy0_1 i
  | _ => ⟨S2x1024x20x64, .fp8e4m3⟩

abbrev bufTy : (tb : Table) → Fin (tcTables nBuf tb) → BufTy
  | .hbm, ⟨i, _⟩ => hbmTy i
  | .local _ .vmem, ⟨0, _⟩ => ⟨S2x1024x20x64, .fp8e4m3⟩
  | .local _ .vmem, ⟨1, _⟩ => ⟨S2x1024x20x64, .fp8e4m3⟩
  | .local _ .vmem, ⟨2, _⟩ => ⟨S2x1024x20x64, .fp8e4m3⟩
  | .local _ .vmem, ⟨3, _⟩ => ⟨S2x1024x20x64, .fp8e5m2⟩
  | .local _ .vmem, ⟨4, _⟩ => ⟨S2x1024x20x64, .bf16⟩
  | .local _ .vmem, ⟨5, _⟩ => ⟨S2x1024x20x64, .bf16⟩
  | .local _ .vmem, ⟨6, _⟩ => ⟨S2x1024x20x64, .bf16⟩
  | .local _ .vmem, ⟨7, _⟩ => ⟨S2x1024x20x64, .bf16⟩
  | _, _ => ⟨S2x1024x20x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_0 : Ref sig .tc := ⟨.hbm, 40, rfl⟩
abbrev main_v27 : Ref sig .tc := ⟨.hbm, 41, rfl⟩
abbrev main_v28 : Ref sig .tc := ⟨.hbm, 42, rfl⟩
abbrev main_c_1 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_6 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_7 : Ref sig .tc := ⟨.hbm, 73, rfl⟩
abbrev main_v53 : Ref sig .tc := ⟨.hbm, 74, rfl⟩
abbrev main_v54 : Ref sig .tc := ⟨.hbm, 75, rfl⟩
abbrev main_c_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_9 : Ref sig .tc := ⟨.hbm, 80, rfl⟩
abbrev main_v58 : Ref sig .tc := ⟨.hbm, 81, rfl⟩
abbrev main_v59 : Ref sig .tc := ⟨.hbm, 82, rfl⟩
abbrev main_c_10 : Ref sig .tc := ⟨.hbm, 83, rfl⟩
abbrev main_c_11 : Ref sig .tc := ⟨.hbm, 84, rfl⟩
abbrev main_call1_v0 : Ref sig .tc := ⟨.hbm, 85, rfl⟩
abbrev main_call1_v1 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_12 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_13 : Ref sig .tc := ⟨.hbm, 117, rfl⟩
abbrev main_v88 : Ref sig .tc := ⟨.hbm, 118, rfl⟩
abbrev main_v89 : Ref sig .tc := ⟨.hbm, 119, rfl⟩
abbrev main_cst_14 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_15 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_16 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_cst_17 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_cst_18 : Ref sig .tc := ⟨.hbm, 171, rfl⟩
abbrev main_v137 : Ref sig .tc := ⟨.hbm, 172, rfl⟩
abbrev main_v138 : Ref sig .tc := ⟨.hbm, 173, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x1024x20x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x20x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x20x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x20x64 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x20x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x20x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x20x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x20x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Folded.lean ====
module

public import proofs.«01_k».proof.Proof.Gen.KernelIdeal.Skeleton

@[expose] public section

/-! # The kernel body with its loops written as loops

The printed body is a straight line of about two thousand memory operations, cut into parts of equal length.
Here the same operations are written by the tile they work on: three passes over the eight key blocks for each of
the eight query blocks. `body_eq` says that the two are the same program. -/

noncomputable section

namespace Cert.KernelIdeal.Folded

open Idealize.ShloMosaic Idealize.ShloMosaic.TcCoe Idealize.ShloMosaic.Tactic Idealize.SL.Sem Cert.KernelIdeal Cert.KernelIdeal.Gen

variable {F : FTy → Type} [FloatOps F] [Named F]

/-- The programs of the body. -/
abbrev PR (F : FTy → Type) [FloatOps F] [Named F] (α : Type) := Prog (TpuEff nD τ sig (Elt F) Λ₀ .tc) α

/-- The buffers the body works on, each a whole one. -/
structure Refs where
  a2 : Memref sig .tc .smem S320 .f32
  a3 : Memref sig .tc .smem S320 .f32
  a4 : Memref sig .tc .smem S320 .f32
  a5 : Memref sig .tc .smem S320 .f32
  a6 : Memref sig .tc .smem S640 .f32
  a7 : Memref sig .tc .vmem S1x1x1024x64 .fp8e4m3
  a8 : Memref sig .tc .vmem S1x1x1024x64 .fp8e4m3
  a9 : Memref sig .tc .vmem S1x1x1024x64 .fp8e4m3
  a10 : Memref sig .tc .vmem S1x1x1024x64 .fp8e5m2
  a11 : Memref sig .tc .vmem S1x1x1024x64 .bf16
  a12 : Memref sig .tc .vmem S1x1x1024x64 .bf16
  a13 : Memref sig .tc .vmem S1x1x1024x64 .bf16
  a14 : Memref sig .tc .vmem S1x1x128 .f32
  a15 : Memref sig .tc .vmem S128x512 .f32
  a16 : Memref sig .tc .vmem S128x512 .f32
  a17 : Memref sig .tc .vmem S1024x256 .f32
  a18 : Memref sig .tc .vmem S1024x256 .f32
  a19 : Memref sig .tc .vmem S1024x256 .f32
  a20 : Memref sig .tc .vmem S1024x1024 .bf16
  a21 : Memref sig .tc .vmem S1024x1024 .bf16
  a22 : Memref sig .tc .vmem S64x1024 .bf16
  a23 : Memref sig .tc .vmem S1024x64 .bf16
  a24 : Memref sig .tc .vmem S1024x64 .bf16
  h11 : a11.IsWhole
  h12 : a12.IsWhole
  h13 : a13.IsWhole
  h20 : a20.IsWhole
  h21 : a21.IsWhole
  h22 : a22.IsWhole
  h23 : a23.IsWhole
  h24 : a24.IsWhole

/-! ## Loads and stores at a rectangle -/

/-- A load of the rectangle of sizes `size` at `off`. -/
def ld {s : Shape} {e : EltTy} (a : Memref sig .tc .vmem s e) (off size : Fin s.rank → ℕ) (h : ∀ x, off x + size x ≤ s.size x)
    (hl : a.view.LoadsAt (Rect.unit (s := s) off size h).toLoadRect) : PR F ((Rect.unit (s := s) off size h).shape.Idx → Elt F e) :=
  Prog.lift (.load a (Rect.unit (s := s) off size h).toLoadRect hl)

/-- A store to the rectangle of sizes `size` at `off`. -/
def st {s : Shape} {e : EltTy} (a : Memref sig .tc .vmem s e) (off size : Fin s.rank → ℕ) (h : ∀ x, off x + size x ≤ s.size x)
    (w : (Rect.unit (s := s) off size h).shape.Idx → Elt F e) (hx : (a.access (Rect.unit (s := s) off size h)).Stores Finset.univ) : PR F PUnit :=
  Prog.lift (.store a (Rect.unit (s := s) off size h) w Finset.univ hx (.inl rfl))

/-- The scale of block `j` of the point's batch row and head. -/
def sc (i : grid0.Coords) (a : Memref sig .tc .smem S320 .f32) (j : Fin 8) : PR F (Elt F .f32) :=
  smemLoad a (Rect.unit (s := S320) (k0_off2 i (BitVec.ofNat 32 j.val)) S1.size (k0_off2_inb i j)) numel1_S1 rfl

/-- Query block `t` of the pair `n`. -/
def qb (n : Fin 4) (t : Fin 2) : Fin 8 := ⟨2 * n.val + t.val, by omega⟩

theorem tIn (kb : Fin 8) (t : Fin 2) : ∀ a, (![128 * kb.val, 128 * t.val] : Fin 2 → ℕ) a + S128x128.size a ≤ S1024x256.size a := by
  intro a; fin_cases a
  · show 128 * kb.val + 128 ≤ 1024; omega
  · show 128 * t.val + 128 ≤ 256; omega

theorem pIn (kb q : Fin 8) : ∀ a, (![128 * kb.val, 128 * q.val] : Fin 2 → ℕ) a + S128x128.size a ≤ S1024x1024.size a := by
  intro a; fin_cases a
  · show 128 * kb.val + 128 ≤ 1024; omega
  · show 128 * q.val + 128 ≤ 1024; omega

theorem pPk (kb q : Fin 8) : (Rect.unit (s := S1024x1024) ![128 * kb.val, 128 * q.val] S128x128.size (pIn kb q)).PackedRows (EltTy.packing .bf16) := by
  revert kb q; decide

/-- The group of 128 lanes of the bias strip that belongs to key block `kb` against query block `q`. -/
def grp (kb q : Fin 8) : ℕ := 128 * ((4 + q.val - kb.val) % 4)

theorem gIn (kb q : Fin 8) : ∀ a, (![0, grp kb q] : Fin 2 → ℕ) a + S128x128.size a ≤ S128x512.size a := by
  intro a; fin_cases a
  · show 0 + 128 ≤ 128; omega
  · show 128 * ((4 + q.val - kb.val) % 4) + 128 ≤ 512; omega

theorem rIn (j : Fin 8) : ∀ a, (![128 * j.val, 0] : Fin 2 → ℕ) a + S128x64.size a ≤ S1024x64.size a := by
  intro a; fin_cases a
  · show 128 * j.val + 128 ≤ 1024; omega
  · show 0 + 64 ≤ 64; omega

theorem rPk (j : Fin 8) : (Rect.unit (s := S1024x64) ![128 * j.val, 0] S128x64.size (rIn j)).PackedRows (EltTy.packing .bf16) := by
  revert j; decide

theorem cIn (j : Fin 8) : ∀ a, (![0, 128 * j.val] : Fin 2 → ℕ) a + S64x128.size a ≤ S64x1024.size a := by
  intro a; fin_cases a
  · show 0 + 64 ≤ 64; omega
  · show 128 * j.val + 128 ≤ 1024; omega

theorem cPk (j : Fin 8) : (Rect.unit (s := S64x1024) ![0, 128 * j.val] S64x128.size (cIn j)).PackedRows (EltTy.packing .bf16) := by
  revert j; decide

theorem bIn (j : Fin 8) : ∀ a, (![0, 0, 128 * j.val, 0] : Fin 4 → ℕ) a + S1x1x128x64.size a ≤ S1x1x1024x64.size a := by
  intro a; fin_cases a
  · show 0 + 1 ≤ 1; omega
  · show 0 + 1 ≤ 1; omega
  · show 128 * j.val + 128 ≤ 1024; omega
  · show 0 + 64 ≤ 64; omega

theorem bPk (j : Fin 8) : (Rect.unit (s := S1x1x1024x64) ![0, 0, 128 * j.val, 0] S1x1x128x64.size (bIn j)).PackedRows (EltTy.packing .bf16) := by
  revert j; decide

theorem wIn (n : Fin 4) : ∀ a, (![0, 0, 256 * n.val, 0] : Fin 4 → ℕ) a + S1x1x256x64.size a ≤ S1x1x1024x64.size a := by
  intro a; fin_cases a
  · show 0 + 1 ≤ 1; omega
  · show 0 + 1 ≤ 1; omega
  · show 256 * n.val + 256 ≤ 1024; omega
  · show 0 + 64 ≤ 64; omega

theorem uIn (n : Fin 4) : ∀ a, (![0, 256 * n.val] : Fin 2 → ℕ) a + S1024x256.size a ≤ S1024x1024.size a := by
  intro a; fin_cases a
  · show 0 + 1024 ≤ 1024; omega
  · show 256 * n.val + 256 ≤ 1024; omega

theorem lIn (kb : Fin 8) : ∀ a, (![128 * kb.val, 0] : Fin 2 → ℕ) a + S128x1024.size a ≤ S1024x1024.size a := by
  intro a; fin_cases a
  · show 128 * kb.val + 128 ≤ 1024; omega
  · show 0 + 1024 ≤ 1024; omega

theorem sIn (t : Fin 2) : S64x256.Slices ![0, 128 * t.val] S64x128 := by
  revert t; decide

/-- A load of one tile of the score-sized scratch. -/
def ldT (a : Memref sig .tc .vmem S1024x256 .f32) (kb : Fin 8) (t : Fin 2) : PR F (FVec F S128x128 .f32) :=
  ld a ![128 * kb.val, 128 * t.val] S128x128.size (tIn kb t) (View.loadsAt_vmem h_S128x128)
/-- A store of one tile of the score-sized scratch. -/
def stT (a : Memref sig .tc .vmem S1024x256 .f32) (kb : Fin 8) (t : Fin 2) (w : FVec F S128x128 .f32) : PR F PUnit :=
  st a ![128 * kb.val, 128 * t.val] S128x128.size (tIn kb t) w (View.stores_vmem_bits_univ h_S128x128 rfl)
/-- A store of one tile of a square scratch, after a load of it that nothing reads. -/
def stP (a : Memref sig .tc .vmem S1024x1024 .bf16) (ha : a.IsWhole) (kb q : Fin 8) (w : FVec F S128x128 .bf16) : PR F PUnit := do
  let _ ← ld (F := F) a ![128 * kb.val, 128 * q.val] S128x128.size (pIn kb q) (View.loadsAt_vmem h_S128x128)
  st a ![128 * kb.val, 128 * q.val] S128x128.size (pIn kb q) w (View.stores_vmem h_S128x128 (ha.storeExact_slice rfl _ (pPk kb q)) (fun _ => rfl))
/-- A load of one group of lanes of a strip. -/
def ldG (a : Memref sig .tc .vmem S128x512 .f32) (kb q : Fin 8) : PR F (FVec F S128x128 .f32) :=
  ld a ![0, grp kb q] S128x128.size (gIn kb q) (View.loadsAt_vmem h_S128x128)
/-- A load of one block of rows of an operand. -/
def ldB {e : EltTy} (a : Memref sig .tc .vmem S1x1x1024x64 e) (j : Fin 8) : PR F (Vec F S1x1x128x64 e) :=
  ld a ![0, 0, 128 * j.val, 0] S1x1x128x64.size (bIn j) (View.loadsAt_vmem h_S1x1x128x64)
/-- A load of two blocks of rows of an operand. -/
def ldW {e : EltTy} (a : Memref sig .tc .vmem S1x1x1024x64 e) (n : Fin 4) : PR F (Vec F S1x1x256x64 e) :=
  ld a ![0, 0, 256 * n.val, 0] S1x1x256x64.size (wIn n) (View.loadsAt_vmem h_S1x1x256x64)
/-- A load of a whole operand. -/
def ldA {e : EltTy} (a : Memref sig .tc .vmem S1x1x1024x64 e) : PR F (Vec F S1x1x1024x64 e) :=
  ld a ![0, 0, 0, 0] S1x1x1024x64.size inb_S1x1x1024x64_S1x1x1024x64_0_0_0_0 (View.loadsAt_vmem h_S1x1x1024x64)
/-- A store of one block of rows of a result, after a load of it that nothing reads. -/
def stB (a : Memref sig .tc .vmem S1x1x1024x64 .bf16) (ha : a.IsWhole) (j : Fin 8) (w : FVec F S1x1x128x64 .bf16) : PR F PUnit := do
  let _ ← ldB (F := F) a j
  st a ![0, 0, 128 * j.val, 0] S1x1x128x64.size (bIn j) w (View.stores_vmem h_S1x1x128x64 (ha.storeExact_slice rfl _ (bPk j)) (fun _ => rfl))
/-- A store of one block of rows of a row-major scratch, after a load of it that nothing reads. -/
def stR (a : Memref sig .tc .vmem S1024x64 .bf16) (ha : a.IsWhole) (j : Fin 8) (w : FVec F S128x64 .bf16) : PR F PUnit := do
  let _ ← ld (F := F) a ![128 * j.val, 0] S128x64.size (rIn j) (View.loadsAt_vmem h_S128x64)
  st a ![128 * j.val, 0] S128x64.size (rIn j) w (View.stores_vmem h_S128x64 (ha.storeExact_slice rfl _ (rPk j)) (fun _ => rfl))
/-- A store of one block of columns of the transposed scratch, after a load of it that nothing reads. -/
def stC (a : Memref sig .tc .vmem S64x1024 .bf16) (ha : a.IsWhole) (j : Fin 8) (w : FVec F S64x128 .bf16) : PR F PUnit := do
  let _ ← ld (F := F) a ![0, 128 * j.val] S64x128.size (cIn j) (View.loadsAt_vmem h_S64x128)
  st a ![0, 128 * j.val] S64x128.size (cIn j) w (View.stores_vmem h_S64x128 (ha.storeExact_slice rfl _ (cPk j)) (fun _ => rfl))
/-- A store of the whole score-sized scratch, after a load of it that nothing reads. -/
def stS (a : Memref sig .tc .vmem S1024x256 .f32) (w : FVec F S1024x256 .f32) : PR F PUnit := do
  let _ ← ld (F := F) a ![0, 0] S1024x256.size inb_S1024x256_S1024x256_0_0 (View.loadsAt_vmem h_S1024x256)
  st a ![0, 0] S1024x256.size inb_S1024x256_S1024x256_0_0 w (View.stores_vmem_bits_univ h_S1024x256 rfl)
/-- A store of a whole strip, after a load of it that nothing reads. -/
def stG (a : Memref sig .tc .vmem S128x512 .f32) (w : FVec F S128x512 .f32) : PR F PUnit := do
  let _ ← ld (F := F) a ![0, 0] S128x512.size inb_S128x512_S128x512_0_0 (View.loadsAt_vmem h_S128x512)
  st a ![0, 0] S128x512.size inb_S128x512_S128x512_0_0 w (View.stores_vmem_bits_univ h_S128x512 rfl)
/-- A load of the block of the table's gradient. -/
def ldD (a : Memref sig .tc .vmem S1x1x128 .f32) : PR F (FVec F S1x1x128 .f32) :=
  ld a ![0, 0, 0] S1x1x128.size inb_S1x1x128_S1x1x128_0_0_0 (View.loadsAt_vmem h_S1x1x128)
/-- A store of the block of the table's gradient, after a load of it that nothing reads. -/
def stD (a : Memref sig .tc .vmem S1x1x128 .f32) (w : FVec F S1x1x128 .f32) : PR F PUnit := do
  let _ ← ldD (F := F) a
  st a ![0, 0, 0] S1x1x128.size inb_S1x1x128_S1x1x128_0_0_0 w (View.stores_vmem_bits_univ h_S1x1x128 rfl)

/-! ## The values -/

/-- A row of zeros. -/
def zero1 : FVec F S1x128 .f32 := broadcast S1x128 (Scalar.ofBits .f32 0x00000000#32)

/-- The largest of each 16 rows of a tile. -/
def max8 (x : FVec F S128x128 .f32) : FVec F S8x128 .f32 :=
  multiReduction .maximumf [0] S8x128 (shapeCast S16x8x128 x shapeCasts_S128x128_S16x8x128) 0xFF800000#32 reduces_S16x8x128_S8x128 (.inl rfl) rfl
/-- The sum of each 16 rows of a tile. -/
def sum8 (x : FVec F S128x128 .f32) : FVec F S8x128 .f32 :=
  multiReduction .add [0] S8x128 (shapeCast S16x8x128 x shapeCasts_S128x128_S16x8x128) 0x00000000#32 reduces_S16x8x128_S8x128 (.inl rfl) rfl
/-- The largest of the eight rows. -/
def max1 (x : FVec F S8x128 .f32) : FVec F S1x128 .f32 :=
  shapeCast S1x128 (multiReduction .maximumf [0] S128 x 0xFF800000#32 reduces_S8x128_S128 (.inl rfl) rfl) shapeCasts_S128_S1x128
/-- The sum of the eight rows. -/
def sum1 (x : FVec F S8x128 .f32) : FVec F S1x128 .f32 :=
  shapeCast S1x128 (multiReduction .add [0] S128 x 0x00000000#32 reduces_S8x128_S128 (.inl rfl) rfl) shapeCasts_S128_S1x128
/-- A row repeated over a tile. -/
def rows (x : FVec F S1x128 .f32) : FVec F S128x128 .f32 := broadcastTo S128x128 x broadcasts_S1x128_S128x128
/-- A tile as it is stored. -/
def same {e : FTy} (x : FVec F S128x128 e) : FVec F S128x128 e := shapeCast S128x128 x shapeCasts_S128x128_S128x128

/-- Scores of a near tile: scaled, and the bias added. -/
def nearX (cq ks : F .f32) (x b : FVec F S128x128 .f32) : FVec F S128x128 .f32 :=
  addf (mulf x (broadcast S128x128 (Scalar.mulf cq ks))) b
/-- The largest scores of a far tile, scaled, and the bias added. -/
def farMax (cq ks : F .f32) (x : FVec F S128x128 .f32) (b : F .f32) : FVec F S8x128 .f32 :=
  addf (mulf (max8 x) (broadcast S8x128 (Scalar.mulf cq ks))) (broadcast S8x128 b)
/-- Exponentials of a near tile. -/
def nearE (x : FVec F S128x128 .f32) (m : FVec F S1x128 .f32) : FVec F S128x128 .f32 := exp2 (subf x (rows m))
/-- Exponentials of a far tile. -/
def farE (cq ks : F .f32) (x : FVec F S128x128 .f32) (m : FVec F S1x128 .f32) : FVec F S128x128 .f32 :=
  exp2 (subf (mulf x (broadcast S128x128 (Scalar.mulf cq ks))) (rows m))
/-- The row sums of the exponentials times the output gradients. -/
def tileA (e dp : FVec F S128x128 .f32) (vs dos : F .f32) : FVec F S8x128 .f32 :=
  mulf (sum8 (mulf e dp)) (broadcast S8x128 (Scalar.mulf vs dos))
/-- Probabilities of a tile. -/
def tileP (e : FVec F S128x128 .f32) (rl : FVec F S1x128 .f32) : FVec F S128x128 .f32 := mulf e (rows rl)
/-- Score gradients of a tile, over the product of the two scales. -/
def tileU (e dp : FVec F S128x128 .f32) (rl drow : FVec F S1x128 .f32) (vs dos : F .f32) : FVec F S128x128 .f32 :=
  mulf (tileP e rl) (subf dp (rows (divf drow (broadcast S1x128 (Scalar.mulf vs dos)))))
/-- A tile rounded as it is stored. -/
def rnd (x : FVec F S128x128 .f32) : FVec F S128x128 .bf16 := same (truncf .bf16 x bitsLt_bf16_f32)

/-- The two running sums of one side. -/
abbrev Acc (F : FTy → Type) := Option (FVec F S8x128 .f32 × FVec F S8x128 .f32)
/-- The running sums of the far left, the near and the far right tiles. -/
structure Accs (F : FTy → Type) where
  lo : Acc F
  mid : Acc F
  hi : Acc F

/-- One more tile's sums. -/
def accAdd (o : Acc F) (e a : FVec F S8x128 .f32) : Acc F :=
  match o with
  | none => some (e, a)
  | some (x, y) => some (addf x e, addf y a)
/-- A total over the sides that occur. -/
def tot1 (x : FVec F S1x128 .f32) (o : Acc F) : FVec F S1x128 .f32 :=
  match o with | none => x | some (e, _) => addf x (sum1 e)
/-- A total over the sides that occur. -/
def tot2 (x : FVec F S1x128 .f32) (o : Acc F) : FVec F S1x128 .f32 :=
  match o with | none => x | some (_, a) => addf x (sum1 a)
/-- One over the sum of a column's exponentials. -/
def rlOf (s : Accs F) : FVec F S1x128 .f32 :=
  divf (broadcast S1x128 (Scalar.ofBits .f32 0x3F800000#32)) (tot1 (tot1 (tot1 zero1 s.lo) s.mid) s.hi)
/-- A column's sum of probabilities times output gradients. -/
def drowOf (s : Accs F) : FVec F S1x128 .f32 := mulf (tot2 (tot2 (tot2 zero1 s.lo) s.mid) s.hi) (rlOf s)
/-- The bias gradient of one far side, one more column added. -/
def farOf (x rl drow : FVec F S1x128 .f32) (o : Acc F) : FVec F S1x128 .f32 :=
  match o with | none => x | some (e, a) => addf x (mulf rl (subf (sum1 a) (mulf drow (sum1 e))))

/-! ## The passes -/

/-- Whether the bias of the tile depends on the element. -/
abbrev near (kb q : Fin 8) : Prop := kb.val ≤ q.val + 1 ∧ q.val ≤ kb.val + 1

variable (R : Refs) (i : grid0.Coords)

/-- The eight key blocks in turn. -/
def loop8 {α : Type} (f : Fin 8 → α → PR F α) (a : α) : PR F α := do
  let a ← f 0 a
  let a ← f 1 a
  let a ← f 2 a
  let a ← f 3 a
  let a ← f 4 a
  let a ← f 5 a
  let a ← f 6 a
  f 7 a

/-- Pass 1 over one tile: the largest score so far. -/
def pass1 (n : Fin 4) (t : Fin 2) (cq blo bhi : F .f32) (kb : Fin 8) (m : FVec F S8x128 .f32) : PR F (FVec F S8x128 .f32) :=
  if near kb (qb n t) then do
    let ks ← sc i R.a3 kb
    let x ← ldT R.a17 kb t
    let b ← ldG R.a15 kb (qb n t)
    let _ ← ldT (F := F) R.a17 kb t
    stT R.a17 kb t (same (nearX cq ks x b))
    pure (maximumf m (max8 (nearX cq ks x b)))
  else do
    let ks ← sc i R.a3 kb
    let x ← ldT R.a17 kb t
    pure (maximumf m (farMax cq ks x (if kb.val < (qb n t).val then blo else bhi)))

/-- Pass 2 over one tile: its exponentials, and the sums so far. -/
def pass2 (n : Fin 4) (t : Fin 2) (cq : F .f32) (m mlo mhi : FVec F S1x128 .f32) (kb : Fin 8) (s : Accs F) : PR F (Accs F) :=
  if near kb (qb n t) then do
    let x ← ldT R.a17 kb t
    let _ ← ldT (F := F) R.a18 kb t
    stT R.a18 kb t (same (nearE x m))
    let dp ← ldT R.a19 kb t
    let vs ← sc i R.a4 kb
    let dos ← sc i R.a5 (qb n t)
    pure { s with mid := accAdd s.mid (sum8 (nearE x m)) (tileA (nearE x m) dp vs dos) }
  else do
    let x ← ldT R.a17 kb t
    let ks ← sc i R.a3 kb
    let _ ← ldT (F := F) R.a18 kb t
    stT R.a18 kb t (same (farE cq ks x (if kb.val < (qb n t).val then mlo else mhi)))
    let dp ← ldT R.a19 kb t
    let vs ← sc i R.a4 kb
    let dos ← sc i R.a5 (qb n t)
    if kb.val < (qb n t).val then
      pure { s with lo := accAdd s.lo (sum8 (farE cq ks x mlo)) (tileA (farE cq ks x mlo) dp vs dos) }
    else
      pure { s with hi := accAdd s.hi (sum8 (farE cq ks x mhi)) (tileA (farE cq ks x mhi) dp vs dos) }

/-- Pass 3 over one tile: its probabilities and score gradients. -/
def pass3 (n : Fin 4) (t : Fin 2) (rl drow : FVec F S1x128 .f32) (kb : Fin 8) (_ : PUnit) : PR F PUnit := do
  let vs ← sc i R.a4 kb
  let dos ← sc i R.a5 (qb n t)
  let e ← ldT R.a18 kb t
  let dp ← ldT R.a19 kb t
  stP R.a20 R.h20 kb (qb n t) (rnd (tileP e rl))
  stP R.a21 R.h21 kb (qb n t) (rnd (tileU e dp rl drow vs dos))
  if near kb (qb n t) then do
    let x ← ldG R.a16 kb (qb n t)
    let _ ← ldG (F := F) R.a16 kb (qb n t)
    st R.a16 ![0, grp kb (qb n t)] S128x128.size (gIn kb (qb n t))
      (same (addf x (mulf (tileU e dp rl drow vs dos) (broadcast S128x128 (Scalar.mulf vs dos))))) (View.stores_vmem_bits_univ h_S128x128 rfl)
  else pure ⟨⟩

/-- One query block: the three passes. -/
def column (n : Fin 4) (t : Fin 2) (blo bhi : F .f32) (far : FVec F S1x128 .f32 × FVec F S1x128 .f32) :
    PR F (FVec F S1x128 .f32 × FVec F S1x128 .f32) := do
  let qs ← sc i R.a2 (qb n t)
  let m8 ← loop8 (pass1 R i n t (k0_pay68 qs) blo bhi) (broadcast S8x128 (Scalar.ofBits .f32 0xFF800000#32))
  let s ← loop8 (pass2 R i n t (k0_pay68 qs) (max1 m8) (subf (max1 m8) (broadcast S1x128 blo)) (subf (max1 m8) (broadcast S1x128 bhi))) ⟨none, none, none⟩
  let _ ← loop8 (pass3 (F := F) R i n t (rlOf s) (drowOf s)) ⟨⟩
  pure (farOf far.1 (rlOf s) (drowOf s) s.lo, farOf far.2 (rlOf s) (drowOf s) s.hi)

/-- The query gradient of one block. -/
def dqTile (kT : FVec F S64x1024 .bf16) (u : FVec F S1024x256 .bf16) (t : Fin 2) (dos : F .f32) : FVec F S1x1x128x64 .bf16 :=
  shapeCast S1x1x128x64 (truncf .bf16 (transpose S128x64 [1, 0]
    (mulf (extractStridedSlice S64x128 ![0, 128 * t.val] (k0_pay244 kT u) (sIn t))
      (broadcast S64x128 (Scalar.mulf (Scalar.ofBits .f32 0x3E000000#32) dos))) transposes_S64x128_p1_0_S128x64) bitsLt_bf16_f32) shapeCasts_S128x64_S1x1x128x64

/-- A pair of query blocks. -/
def pair (blo bhi : F .f32) (n : Fin 4) (far : FVec F S1x128 .f32 × FVec F S1x128 .f32) : PR F (FVec F S1x128 .f32 × FVec F S1x128 .f32) := do
  let k ← ldA R.a8
  let q ← ldW R.a7 n
  stS R.a17 (k0_pay66 k q)
  let v ← ldA R.a9
  let o ← ldW R.a10 n
  stS R.a19 (k0_pay67 v o)
  let far ← column R i n 0 blo bhi far
  let far ← column R i n 1 blo bhi far
  let kT ← ld R.a22 ![0, 0] S64x1024.size inb_S64x1024_S64x1024_0_0 (View.loadsAt_vmem h_S64x1024)
  let u ← ld R.a21 ![0, 256 * n.val] S1024x256.size (uIn n) (View.loadsAt_vmem h_S1024x256)
  let dos ← sc i R.a5 (qb n 0)
  stB R.a11 R.h11 (qb n 0) (dqTile kT u 0 dos)
  let dos ← sc i R.a5 (qb n 1)
  stB R.a11 R.h11 (qb n 1) (dqTile kT u 1 dos)
  pure far

/-- The scaled copies of the operands, one block. -/
def prep (j : Fin 8) (_ : PUnit) : PR F PUnit := do
  let k ← ldB R.a8 j
  let ks ← sc i R.a3 j
  let vs ← sc i R.a4 j
  stC R.a22 R.h22 j (k0_pay30 k ks vs)
  let q ← ldB R.a7 j
  let qs ← sc i R.a2 j
  let dos ← sc i R.a5 j
  stR R.a23 R.h23 j (k0_pay32 (k0_pay31 q) qs dos)
  let o ← ldB R.a10 j
  let dos ← sc i R.a5 j
  stR R.a24 R.h24 j (k0_pay33 o dos)

/-- The value and key gradients of one key block. -/
def tail (kb : Fin 8) (_ : PUnit) : PR F PUnit := do
  let p ← ld R.a20 ![128 * kb.val, 0] S128x1024.size (lIn kb) (View.loadsAt_vmem h_S128x1024)
  let o ← ld R.a24 ![0, 0] S1024x64.size inb_S1024x64_S1024x64_0_0 (View.loadsAt_vmem h_S1024x64)
  stB R.a13 R.h13 kb (k0_pay848 p o)
  let u ← ld R.a21 ![128 * kb.val, 0] S128x1024.size (lIn kb) (View.loadsAt_vmem h_S128x1024)
  let q ← ld R.a23 ![0, 0] S1024x64.size inb_S1024x64_S1024x64_0_0 (View.loadsAt_vmem h_S1024x64)
  let vs ← sc i R.a4 kb
  stB R.a12 R.h12 kb (k0_pay849 u q vs)

/-- The bias of each distance between key and query, bucket by bucket. -/
def biasStep (u : Fin 32) (x : Elt F .f32) (g : FVec F S8x512 .f32) : FVec F S8x512 .f32 :=
  select (cmpi .eq (k0_pay5 k0_pay3 k0_pay4 16#32) (broadcast S8x512 (BitVec.ofNat 32 u.val)))
    (broadcast S8x512 (Scalar.mulf x (Named.named κ "log2e" 0x3FB8AA3B#32))) g

/-- The buckets from `u` on. -/
def biasLoop (h : k0_cond1 i = 1#1) : List (Fin 32) → FVec F S8x512 .f32 → PR F (FVec F S8x512 .f32)
  | [], g => pure g
  | u :: us, g => do
    let x ← smemLoad R.a6 (Rect.unit (s := S640) (k0_off1 i (BitVec.ofNat 32 u.val)) S1.size (k0_off1_inb i h u)) numel1_S1 rfl
    biasLoop h us (biasStep u x g)

/-- The bias strip is built and the strip of bias gradients cleared at the first batch row. -/
def start : PR F PUnit :=
  if h : k0_cond1 i = 1#1 then do
    let g ← biasLoop (F := F) R i h (List.finRange 31 |>.map Fin.castSucc) (broadcast S8x512 (Scalar.ofBits .f32 0x00000000#32))
    let x ← smemLoad R.a6 (Rect.unit (s := S640) (k0_off1 i 31#32) S1.size (k0_off1_inb i h 31)) numel1_S1 rfl
    stG R.a15 (k0_pay28 g (k0_pay19 (k0_pay5 k0_pay3 k0_pay4 16#32)) x (Named.named κ "log2e" 0x3FB8AA3B#32))
    stG R.a16 (k0_pay29 (F := F))
  else pure ⟨⟩

/-- The gradient of the table's row from the two far sums. -/
def finishFar (far : FVec F S1x128 .f32 × FVec F S1x128 .f32) : PR F PUnit := do
  if h2 : k0_cond2 i = 1#1 then do
    stD R.a14 (k0_pay866 (k0_pay865 far.2 far.1))
    pure ⟨⟩
  else do
    pure ⟨⟩
  if h3 : k0_cond3 i = 1#1 then do
    let x ← ldD R.a14
    stD R.a14 (k0_pay867 (k0_pay865 far.2 far.1) x)
    pure ⟨⟩
  else do
    pure ⟨⟩
  pure ⟨⟩

/-- The gradient of the table's row from the strip. -/
def finishNear : PR F PUnit := do
  if h4 : k0_cond4 i = 1#1 then do
    let g ← ld R.a16 ![0, 0] S128x512.size inb_S128x512_S128x512_0_0 (View.loadsAt_vmem h_S128x512)
    let x ← ldD R.a14
    stD R.a14 (k0_pay1 k0_pay25 (k0_pay26 (k0_pay20 g) k0_pay21 k0_pay22 k0_pay23 k0_pay24) (k0_pay27 (F := F)) x)
    pure ⟨⟩
  else do
    pure ⟨⟩
  pure ⟨⟩

/-- The body after its start. -/
def rest : PR F PUnit := do
  loop8 (prep (F := F) R i) ⟨⟩
  let blo ← smemLoad R.a6 (Rect.unit (s := S640) (k0_off3 i 16#32) S1.size (k0_off3_inb i 0)) numel1_S1 rfl
  let bhi ← smemLoad R.a6 (Rect.unit (s := S640) (k0_off3 i 32#32) S1.size (k0_off3_inb i 1)) numel1_S1 rfl
  let far ← pair (F := F) R i (k0_pay62 blo) (k0_pay63 bhi) 0 (zero1, zero1)
  let far ← pair R i (k0_pay62 blo) (k0_pay63 bhi) 1 far
  let far ← pair R i (k0_pay62 blo) (k0_pay63 bhi) 2 far
  let far ← pair R i (k0_pay62 blo) (k0_pay63 bhi) 3 far
  loop8 (tail (F := F) R i) ⟨⟩
  finishFar R i far
  finishNear (F := F) R i

/-- The body. -/
def body : PR F PUnit := do
  start (F := F) R i
  rest (F := F) R i

end Cert.KernelIdeal.Folded
-- ==== Proof.State.lean ====
module

public import Idealize.ShloMosaic.Lib.Tactic
public import Idealize.ShloMosaic.Lib.VecWindow
public import proofs.«01_k».proof.Proof.Gen.KernelIdeal.Frame.Runs
public import proofs.«01_k».proof.Proof.Folded

@[expose] public section

/-! # What a program of the body does to the contents of its buffers

`Ok p s Q`: from the contents `s`, the program `p` ends with an answer and contents that satisfy `Q`. The answer and the
contents are determined by `s`. The rules below give the operations of the body and the sequencing. -/

noncomputable section

namespace Cert.KernelIdeal.Folded

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open VecWindow

variable {F : FTy → Type} [FloatOps F] [Named F]

local notation "𝕄" => MT nD τ sig Unit (Elt F) ℕ (UR sig nD τ) ℕ

/-- The vector buffers. -/
inductive B | q | k | v | o | dq | dk | dv | db | bias | strip | s | e | dp | p | u | kT | qq | oo
  deriving DecidableEq

/-- Their shapes. -/
@[reducible] def B.shp : B → Shape
  | q | k | v | o | dq | dk | dv => S1x1x1024x64
  | db => S1x1x128
  | bias | strip => S128x512
  | s | e | dp => S1024x256
  | p | u => S1024x1024
  | kT => S64x1024
  | qq | oo => S1024x64
/-- Their element types. -/
@[reducible] def B.ty : B → EltTy
  | q | k | v => .fp8e4m3
  | o => .fp8e5m2
  | dq | dk | dv | p | u | kT | qq | oo => .bf16
  | db | bias | strip | s | e | dp => .f32

/-- The buffer of each. -/
@[reducible] def Refs.ref (R : Refs) : (b : B) → Memref sig .tc .vmem b.shp b.ty
  | .q => R.a7 | .k => R.a8 | .v => R.a9 | .o => R.a10 | .dq => R.a11 | .dk => R.a12 | .dv => R.a13 | .db => R.a14
  | .bias => R.a15 | .strip => R.a16 | .s => R.a17 | .e => R.a18 | .dp => R.a19 | .p => R.a20 | .u => R.a21
  | .kT => R.a22 | .qq => R.a23 | .oo => R.a24

/-- The contents of the vector buffers. -/
abbrev Sta (F : FTy → Type) := (b : B) → (b.shp).Idx → Elt F b.ty

/-- The words the body reads: the scales by operand, and the bias table. -/
structure Words (F : FTy → Type) where
  w : Fin 4 → S320.Idx → Elt F .f32
  b : S640.Idx → Elt F .f32

/-- One buffer's contents replaced. -/
def Sta.set (s : Sta F) (b : B) (x : (b.shp).Idx → Elt F b.ty) : Sta F := Function.update s b x

@[simp] theorem Sta.set_self (s : Sta F) (b : B) (x) : s.set b x b = x := Function.update_self ..
theorem Sta.set_of_ne (s : Sta F) {b b' : B} (x) (h : b' ≠ b) : s.set b x b' = s b' := Function.update_of_ne h ..

variable (c : Dev nD) (R : Refs) (i : grid0.Coords) (W : Words F)

/-- The buffers of a list, at their contents. -/
def ownL (s : Sta F) : List B → sProp 𝕄
  | [] => iprop(emp)
  | b :: l => iprop(owns (c : Thread nD τ) (R.ref b) fullShare (s b) ∗ ownL s l)

/-- The buffers in the order of the body's arguments. -/
def allB : List B := [.q, .k, .v, .o, .dq, .dk, .dv, .db, .bias, .strip, .s, .e, .dp, .p, .u, .kT, .qq, .oo]

/-- The scale buffer of each operand. -/
@[reducible] def Refs.sref (R : Refs) : Fin 4 → Memref sig .tc .smem S320 .f32
  | 0 => R.a2 | 1 => R.a3 | 2 => R.a4 | 3 => R.a5

/-- The buffers of words. -/
def ownW : sProp 𝕄 :=
  iprop(owns (c : Thread nD τ) R.a2 fullShare (W.w 0) ∗ owns (c : Thread nD τ) R.a3 fullShare (W.w 1) ∗ owns (c : Thread nD τ) R.a4 fullShare (W.w 2)
    ∗ owns (c : Thread nD τ) R.a5 fullShare (W.w 3) ∗ owns (c : Thread nD τ) R.a6 fullShare W.b)

/-- Everything the body owns. -/
def own (s : Sta F) : sProp 𝕄 := iprop(ownW c R W ∗ ownL c R s allB)

theorem ownL_set_of_notMem (s : Sta F) (b : B) (x) : (l : List B) → b ∉ l → ownL c R (s.set b x) l = ownL c R s l
  | [], _ => rfl
  | b' :: l, h => by
    have h1 : b' ≠ b := fun e => h (e ▸ List.mem_cons_self ..)
    have h2 : b ∉ l := fun e => h (List.mem_cons_of_mem _ e)
    simp only [ownL, Sta.set_of_ne s x h1, ownL_set_of_notMem s b x l h2]

/-- One buffer taken out of a list and put back with other contents. -/
theorem ownL_take (s : Sta F) (b : B) : (l : List B) → b ∈ l → l.Nodup →
    ownL c R s l ⊢ iprop(owns (c : Thread nD τ) (R.ref b) fullShare (s b)
      ∗ ∀ x, owns (c : Thread nD τ) (R.ref b) fullShare x -∗ ownL c R (s.set b x) l)
  | [], h, _ => by cases h
  | b' :: l, h, hn => by
    obtain ⟨hb', hn⟩ := List.nodup_cons.mp hn
    by_cases hb : b' = b
    · subst hb
      simp only [ownL, Sta.set_self]
      iintro ⟨H, HL⟩
      isplitl [H]
      · iexact H
      iintro %x Hx
      isplitl [Hx]
      · iexact Hx
      rw [ownL_set_of_notMem c R s b' x l hb']
      iexact HL
    · have hm : b ∈ l := (List.mem_cons.mp h).resolve_left fun e => hb e.symm
      have ih := ownL_take s b l hm hn
      simp only [ownL]
      iintro ⟨H, HL⟩
      ihave HL := ih $$ HL
      icases HL with ⟨Hb, HL⟩
      isplitl [Hb]
      · iexact Hb
      iintro %x Hx
      rw [Sta.set_of_ne s x hb]
      isplitl [H]
      · iexact H
      iapply HL $$ Hx

theorem own_take (s : Sta F) (b : B) :
    own c R W s ⊢ iprop(owns (c : Thread nD τ) (R.ref b) fullShare (s b)
      ∗ ∀ x, owns (c : Thread nD τ) (R.ref b) fullShare x -∗ own c R W (s.set b x)) := by
  have h := ownL_take c R s b allB (by cases b <;> decide) (by decide)
  unfold own
  iintro ⟨HW, HL⟩
  ihave HL := h $$ HL
  icases HL with ⟨Hb, HL⟩
  isplitl [Hb]
  · iexact Hb
  iintro %x Hx
  isplitl [HW]
  · iexact HW
  iapply HL $$ Hx

theorem own_word (s : Sta F) (j : Fin 4) :
    own c R W s ⊢ iprop(owns (c : Thread nD τ) (R.sref j) fullShare (W.w j)
      ∗ (owns (c : Thread nD τ) (R.sref j) fullShare (W.w j) -∗ own c R W s)) := by
  unfold own ownW
  match j with
  | 0 =>
    iintro ⟨⟨H0, H1, H2, H3, H4⟩, HL⟩
    isplitl [H0]
    · iexact H0
    iintro H0
    iframe
  | 1 =>
    iintro ⟨⟨H0, H1, H2, H3, H4⟩, HL⟩
    isplitl [H1]
    · iexact H1
    iintro H1
    iframe
  | 2 =>
    iintro ⟨⟨H0, H1, H2, H3, H4⟩, HL⟩
    isplitl [H2]
    · iexact H2
    iintro H2
    iframe
  | 3 =>
    iintro ⟨⟨H0, H1, H2, H3, H4⟩, HL⟩
    isplitl [H3]
    · iexact H3
    iintro H3
    iframe

theorem own_table (s : Sta F) :
    own c R W s ⊢ iprop(owns (c : Thread nD τ) R.a6 fullShare W.b
      ∗ (owns (c : Thread nD τ) R.a6 fullShare W.b -∗ own c R W s)) := by
  unfold own ownW
  iintro ⟨⟨H0, H1, H2, H3, H4⟩, HL⟩
  iframe
  iintro H
  iframe

/-- From contents `s` the program answers `a` and leaves contents `s'`. -/
def Does {α : Type} (p : PR F α) (s : Sta F) (a : α) (s' : Sta F) : Prop :=
  ∀ (E : Set ℕ) (K : α → sProp 𝕄),
    iprop(own c R W s ∗ (own c R W s' -∗ K a)) ⊢ wp frame (wpE (defs₀ (F := F)) Variants.none c none) E p K

/-- From contents `s` the program ends with an answer and contents that satisfy `Q`. -/
def Ok {α : Type} (p : PR F α) (s : Sta F) (Q : α → Sta F → Prop) : Prop := ∃ a s', Does c R W p s a s' ∧ Q a s'

variable {c R i W}

theorem Ok.pure {α : Type} {a : α} {s : Sta F} {Q : α → Sta F → Prop} (h : Q a s) : Ok c R W (Pure.pure a) s Q := by
  refine ⟨a, s, fun E K => ?_, h⟩
  rw [wp_pure]
  iintro ⟨H, Hk⟩
  imodintro
  iapply Hk $$ H

theorem Ok.mono {α : Type} {p : PR F α} {s : Sta F} {Q Q' : α → Sta F → Prop} (h : Ok c R W p s Q) (hq : ∀ a s', Q a s' → Q' a s') :
    Ok c R W p s Q' := by
  obtain ⟨a, s', h, hQ⟩ := h
  exact ⟨a, s', h, hq _ _ hQ⟩

theorem Ok.bind {α β : Type} {p : PR F α} {f : α → PR F β} {s : Sta F} {Q : β → Sta F → Prop}
    (h : Ok c R W p s (fun a s' => Ok c R W (f a) s' Q)) : Ok c R W (p >>= f) s Q := by
  obtain ⟨a, s', h, b, s'', h', hQ⟩ := h
  refine ⟨b, s'', fun E K => ?_, hQ⟩
  rw [wp_bind]
  iintro ⟨H, Hk⟩
  iapply (h E (fun a => wp frame (wpE (defs₀ (F := F)) Variants.none c none) E (f a) K))
  isplitl [H]
  · iexact H
  iintro H
  iapply (h' E K)
  isplitl [H]
  · iexact H
  iexact Hk

/-- The rule for a load. -/
theorem Ok.ld (b : B) {off size : Fin b.shp.rank → ℕ} {h : ∀ x, off x + size x ≤ b.shp.size x}
    {hl : (R.ref b).view.LoadsAt (Rect.unit (s := b.shp) off size h).toLoadRect} {s : Sta F} {Q : _ → Sta F → Prop}
    (hQ : Q (window (s b) off size h) s) : Ok c R W (ld (F := F) (R.ref b) off size h hl) s Q := by
  refine ⟨_, s, fun E K => ?_, hQ⟩
  unfold Folded.ld
  have ht := own_take c R W s b
  iintro ⟨H, Hk⟩
  ihave H := ht $$ H
  icases H with ⟨Hb, HL⟩
  unfold owns
  icases Hb with ⟨%f, %hf, Hb⟩
  iapply (wp_load Variants.none (c : Thread nD τ) none E (m := R.ref b) (S := (R.ref b).view.set) (View.setOn_subset_set _ _)) $$ Hb
  iintro Hb
  rw [View.readAt_unit (R.ref b).view f h rfl h, hf]
  rw [wp_ret]
  imodintro
  iapply Hk
  have hs : s.set b (s b) = s := Function.update_eq_self ..
  ihave HL := HL $$ %(s b)
  rw [hs]
  iapply HL
  iexists f
  isplitr
  · ipureintro; exact hf
  iexact Hb

/-- The rule for a store. -/
theorem Ok.st (b : B) {off size : Fin b.shp.rank → ℕ} {h : ∀ x, off x + size x ≤ b.shp.size x} {w}
    {hx : ((R.ref b).access (Rect.unit (s := b.shp) off size h)).Stores Finset.univ} {s : Sta F} {Q : _ → Sta F → Prop}
    (hQ : Q ⟨⟩ (s.set b (put (s b) off size w))) : Ok c R W (st (F := F) (R.ref b) off size h w hx) s Q := by
  refine ⟨_, _, fun E K => ?_, hQ⟩
  unfold Folded.st
  have ht := own_take c R W s b
  iintro ⟨H, Hk⟩
  ihave H := ht $$ H
  icases H with ⟨Hb, HL⟩
  unfold owns
  icases Hb with ⟨%f, %hf, Hb⟩
  iapply (wp_store Variants.none (c : Thread nD τ) none E (m := R.ref b) (r := Rect.unit (s := b.shp) off size h) (S := (R.ref b).view.set)
    ((View.setOn_subset_set _ _).trans (View.set_slice_subset _ _))) $$ Hb
  iintro Hb
  rw [wp_ret]
  imodintro
  iapply Hk
  ihave HL := HL $$ %(put (s b) off size w)
  iapply HL
  iexists _
  isplitr
  · ipureintro
    rw [← hf]
    exact View.read_writes_cons_put (R.ref b).view f h w [] rfl
  iexact Hb

/-- The scale of block `j`. -/
def scv (i : grid0.Coords) (x : S320.Idx → Elt F .f32) (j : Fin 8) : Elt F .f32 :=
  window x (k0_off2 i (BitVec.ofNat 32 j.val)) S1.size (k0_off2_inb i j) (Shape.Idx.first (s := S1) Nat.one_pos)
/-- A word of the table. -/
def tbv (x : S640.Idx → Elt F .f32) (off : Fin 1 → ℕ) (h : ∀ a, off a + S1.size a ≤ S640.size a) : Elt F .f32 :=
  window x off S1.size h (Shape.Idx.first (s := S1) Nat.one_pos)

/-- The rule for a scale. -/
theorem Ok.sc (n : Fin 4) {j : Fin 8} {s : Sta F} {Q : _ → Sta F → Prop} (hQ : Q (scv i (W.w n) j) s) :
    Ok c R W (sc (F := F) i (R.sref n) j) s Q := by
  refine ⟨_, s, fun E K => ?_, hQ⟩
  unfold Folded.sc smemLoad
  have ht := own_word c R W s n
  iintro ⟨H, Hk⟩
  ihave H := ht $$ H
  icases H with ⟨Hb, HL⟩
  unfold owns
  icases Hb with ⟨%f, %hf, Hb⟩
  iapply (wp_smemLoadElt Variants.none (c : Thread nD τ) none E (m := R.sref n) (r := Rect.unit (s := S320) (k0_off2 i (BitVec.ofNat 32 j.val)) S1.size (k0_off2_inb i j)) (S := (R.sref n).view.set) (View.set_slice_subset _ _)) $$ Hb
  iintro Hb
  rw [wp_ret]
  imodintro
  have e : ((R.sref n).access (Rect.unit (s := S320) (k0_off2 i (BitVec.ofNat 32 j.val)) S1.size (k0_off2_inb i j))).read (Elt F) f
      (Shape.Idx.first (numel1_S1.symm ▸ Nat.one_pos)) = scv i (W.w n) j := by
    rw [← hf]; rfl
  erw [e]
  iapply Hk
  iapply HL
  iexists f
  isplitr
  · ipureintro; exact hf
  iexact Hb

/-- The rule for a word of the table. -/
theorem Ok.tb {off : Fin 1 → ℕ} {h : ∀ a, off a + S1.size a ≤ S640.size a} {s : Sta F} {Q : _ → Sta F → Prop} (hQ : Q (tbv W.b off h) s) :
    Ok c R W (smemLoad R.a6 (Rect.unit (s := S640) off S1.size h) numel1_S1 rfl) s Q := by
  refine ⟨_, s, fun E K => ?_, hQ⟩
  unfold smemLoad
  have ht := own_table c R W s
  iintro ⟨H, Hk⟩
  ihave H := ht $$ H
  icases H with ⟨Hb, HL⟩
  unfold owns
  icases Hb with ⟨%f, %hf, Hb⟩
  iapply (wp_smemLoadElt Variants.none (c : Thread nD τ) none E (m := R.a6) (r := Rect.unit (s := S640) off S1.size h) (S := R.a6.view.set) (View.set_slice_subset _ _)) $$ Hb
  iintro Hb
  rw [wp_ret]
  imodintro
  have e : (R.a6.access (Rect.unit (s := S640) off S1.size h)).read (Elt F) f
      (Shape.Idx.first (numel1_S1.symm ▸ Nat.one_pos)) = tbv W.b off h := by
    rw [← hf]; rfl
  erw [e]
  iapply Hk
  iapply HL
  iexists f
  isplitr
  · ipureintro; exact hf
  iexact Hb

/-- The rule for the eight blocks in turn. -/
theorem Ok.loop8 {α : Type} (I : ℕ → α → Sta F → Prop) {f : Fin 8 → α → PR F α} {a : α} {s : Sta F} {Q : α → Sta F → Prop}
    (h0 : I 0 a s) (hf : ∀ (j : Fin 8) (a : α) (s : Sta F), I j.val a s → Ok c R W (f j a) s (I (j.val + 1)))
    (hQ : ∀ a s, I 8 a s → Q a s) : Ok c R W (loop8 f a) s Q := by
  unfold Folded.loop8
  refine Ok.bind ((hf 0 a s h0).mono fun a s h => ?_)
  refine Ok.bind ((hf 1 a s h).mono fun a s h => ?_)
  refine Ok.bind ((hf 2 a s h).mono fun a s h => ?_)
  refine Ok.bind ((hf 3 a s h).mono fun a s h => ?_)
  refine Ok.bind ((hf 4 a s h).mono fun a s h => ?_)
  refine Ok.bind ((hf 5 a s h).mono fun a s h => ?_)
  refine Ok.bind ((hf 6 a s h).mono fun a s h => ?_)
  exact (hf 7 a s h).mono hQ

end Cert.KernelIdeal.Folded
-- ==== Proof.Spec.lean ====
module

public import proofs.«01_k».proof.Proof.State

@[expose] public section

/-! # What the columns leave

For each query block, the tiles of scores, exponentials, probabilities and score gradients as functions of the inputs, and the
proof that the three passes leave them. -/

noncomputable section

namespace Cert.KernelIdeal.Folded

open Idealize.ShloMosaic Idealize.ShloMosaic.TcCoe Idealize.ShloMosaic.Tactic
open Idealize.SL Idealize.SL.RA Idealize.SL.BI
open Cert.KernelIdeal Cert.KernelIdeal.Gen
open VecWindow

variable {F : FTy → Type} [FloatOps F] [Named F]

/-! ## Tiles -/

/-- A tile of the score-sized scratch. -/
def tS {α : Type} (x : S1024x256.Idx → α) (kb : Fin 8) (t : Fin 2) : S128x128.Idx → α := window x ![128 * kb.val, 128 * t.val] S128x128.size (tIn kb t)
/-- A tile of the square scratch. -/
def tP {α : Type} (x : S1024x1024.Idx → α) (kb q : Fin 8) : S128x128.Idx → α := window x ![128 * kb.val, 128 * q.val] S128x128.size (pIn kb q)
/-- A group of lanes of a strip. -/
def tG {α : Type} (x : S128x512.Idx → α) (kb q : Fin 8) : S128x128.Idx → α := window x ![0, grp kb q] S128x128.size (gIn kb q)
/-- A block of rows of an operand. -/
def tB {α : Type} (x : S1x1x1024x64.Idx → α) (j : Fin 8) : S1x1x128x64.Idx → α := window x ![0, 0, 128 * j.val, 0] S1x1x128x64.size (bIn j)
/-- A block of rows of a row-major scratch. -/
def tR {α : Type} (x : S1024x64.Idx → α) (j : Fin 8) : S128x64.Idx → α := window x ![128 * j.val, 0] S128x64.size (rIn j)
/-- A block of columns of the transposed scratch. -/
def tC {α : Type} (x : S64x1024.Idx → α) (j : Fin 8) : S64x128.Idx → α := window x ![0, 128 * j.val] S64x128.size (cIn j)

theorem tS_put {α : Type} (x : S1024x256.Idx → α) (kb kb' : Fin 8) (t t' : Fin 2) (w : S128x128.Idx → α) :
    tS (put x ![128 * kb.val, 128 * t.val] S128x128.size w) kb' t' = if kb' = kb ∧ t' = t then w else tS x kb' t' := by
  split
  · rename_i h; obtain ⟨rfl, rfl⟩ := h
    exact window_put_same x _ _ (tIn kb' t') w
  · rename_i h
    by_cases hk : kb' = kb
    · have ht : t'.val ≠ t.val := fun e => h ⟨hk, Fin.ext e⟩
      exact window_put_of_disjoint x _ _ _ _ (tIn kb' t') w (1 : Fin 2)
        (by show 128 * t'.val + 128 ≤ 128 * t.val ∨ 128 * t.val + 128 ≤ 128 * t'.val; omega)
    · have hk : kb'.val ≠ kb.val := fun e => hk (Fin.ext e)
      exact window_put_of_disjoint x _ _ _ _ (tIn kb' t') w (0 : Fin 2)
        (by show 128 * kb'.val + 128 ≤ 128 * kb.val ∨ 128 * kb.val + 128 ≤ 128 * kb'.val; omega)

theorem tP_put {α : Type} (x : S1024x1024.Idx → α) (kb kb' t t' : Fin 8) (w : S128x128.Idx → α) :
    tP (put x ![128 * kb.val, 128 * t.val] S128x128.size w) kb' t' = if kb' = kb ∧ t' = t then w else tP x kb' t' := by
  split
  · rename_i h; obtain ⟨rfl, rfl⟩ := h
    exact window_put_same x _ _ (pIn kb' t') w
  · rename_i h
    by_cases hk : kb' = kb
    · have ht : t'.val ≠ t.val := fun e => h ⟨hk, Fin.ext e⟩
      exact window_put_of_disjoint x _ _ _ _ (pIn kb' t') w (1 : Fin 2)
        (by show 128 * t'.val + 128 ≤ 128 * t.val ∨ 128 * t.val + 128 ≤ 128 * t'.val; omega)
    · have hk : kb'.val ≠ kb.val := fun e => hk (Fin.ext e)
      exact window_put_of_disjoint x _ _ _ _ (pIn kb' t') w (0 : Fin 2)
        (by show 128 * kb'.val + 128 ≤ 128 * kb.val ∨ 128 * kb.val + 128 ≤ 128 * kb'.val; omega)

theorem tB_put {α : Type} (x : S1x1x1024x64.Idx → α) (j j' : Fin 8) (w : S1x1x128x64.Idx → α) :
    tB (put x ![0, 0, 128 * j.val, 0] S1x1x128x64.size w) j' = if j' = j then w else tB x j' := by
  split
  · rename_i h; subst h
    exact window_put_same x _ _ (bIn j') w
  · rename_i hk
    have hk : j'.val ≠ j.val := fun e => hk (Fin.ext e)
    exact window_put_of_disjoint x _ _ _ _ (bIn j') w (2 : Fin 4)
      (by show 128 * j'.val + 128 ≤ 128 * j.val ∨ 128 * j.val + 128 ≤ 128 * j'.val; omega)

theorem tR_put {α : Type} (x : S1024x64.Idx → α) (j j' : Fin 8) (w : S128x64.Idx → α) :
    tR (put x ![128 * j.val, 0] S128x64.size w) j' = if j' = j then w else tR x j' := by
  split
  · rename_i h; subst h
    exact window_put_same x _ _ (rIn j') w
  · rename_i hk
    have hk : j'.val ≠ j.val := fun e => hk (Fin.ext e)
    exact window_put_of_disjoint x _ _ _ _ (rIn j') w (0 : Fin 2)
      (by show 128 * j'.val + 128 ≤ 128 * j.val ∨ 128 * j.val + 128 ≤ 128 * j'.val; omega)

theorem tC_put {α : Type} (x : S64x1024.Idx → α) (j j' : Fin 8) (w : S64x128.Idx → α) :
    tC (put x ![0, 128 * j.val] S64x128.size w) j' = if j' = j then w else tC x j' := by
  split
  · rename_i h; subst h
    exact window_put_same x _ _ (cIn j') w
  · rename_i hk
    have hk : j'.val ≠ j.val := fun e => hk (Fin.ext e)
    exact window_put_of_disjoint x _ _ _ _ (cIn j') w (1 : Fin 2)
      (by show 128 * j'.val + 128 ≤ 128 * j.val ∨ 128 * j.val + 128 ≤ 128 * j'.val; omega)

/-- The window that is everything. -/
theorem window_full {α : Type} {s : Shape} (x : s.Idx → α) (off : Fin s.rank → ℕ) (h : ∀ a, off a + s.size a ≤ s.size a) :
    window x off s.size h = x :=
  funext fun y => congrArg x (Rect.emb_unit_full h y)

/-- What is put over everything. -/
theorem put_full {α : Type} {s : Shape} (x : s.Idx → α) (off : Fin s.rank → ℕ) (h : ∀ a, off a + s.size a ≤ s.size a) (w : s.Idx → α) :
    put x off s.size w = w := by
  have e := window_put_same x off s.size h w
  rwa [window_full] at e

/-! ## The functions -/

/-- What a point's blocks of the inputs hold. -/
structure Inp (F : FTy → Type) where
  W : Words F
  q : S1x1x1024x64.Idx → Elt F .fp8e4m3
  k : S1x1x1024x64.Idx → Elt F .fp8e4m3
  v : S1x1x1024x64.Idx → Elt F .fp8e4m3
  o : S1x1x1024x64.Idx → Elt F .fp8e5m2

/-- A fold over the first blocks. -/
def foldTo {α : Type} (f : Fin 8 → α → α) (a : α) : ℕ → α
  | 0 => a
  | j + 1 => if h : j < 8 then f ⟨j, h⟩ (foldTo f a j) else foldTo f a j

theorem foldTo_succ {α : Type} (f : Fin 8 → α → α) (a : α) (j : Fin 8) : foldTo f a (j.val + 1) = f j (foldTo f a j.val) := by
  rw [foldTo, dif_pos j.isLt]

variable (i : grid0.Coords) (X : Inp F) (bv : FVec F S128x512 .f32)

/-- The scales of the operands' blocks. -/
def qsv (j : Fin 8) : F .f32 := scv i (X.W.w 0) j
@[inherit_doc qsv] def ksv (j : Fin 8) : F .f32 := scv i (X.W.w 1) j
@[inherit_doc qsv] def vsv (j : Fin 8) : F .f32 := scv i (X.W.w 2) j
@[inherit_doc qsv] def dosv (j : Fin 8) : F .f32 := scv i (X.W.w 3) j
/-- The bias far to the left, and far to the right. -/
def blo : F .f32 := k0_pay62 (tbv X.W.b (k0_off3 i 16#32) (k0_off3_inb i 0))
@[inherit_doc blo] def bhi : F .f32 := k0_pay63 (tbv X.W.b (k0_off3 i 32#32) (k0_off3_inb i 1))
/-- The query scale of a block with the factor of the exponential in it. -/
def cqv (n : Fin 4) (t : Fin 2) : F .f32 := k0_pay68 (qsv i X (qb n t))

/-- Two blocks of rows of an operand. -/
def tW {α : Type} (x : S1x1x1024x64.Idx → α) (n : Fin 4) : S1x1x256x64.Idx → α := window x ![0, 0, 256 * n.val, 0] S1x1x256x64.size (wIn n)
/-- Products of codes: keys with queries, values with output gradients. -/
def sM (n : Fin 4) : FVec F S1024x256 .f32 := k0_pay66 X.k (tW X.q n)
@[inherit_doc sM] def dM (n : Fin 4) : FVec F S1024x256 .f32 := k0_pay67 X.v (tW X.o n)

/-- A tile of scores as pass 1 leaves it. -/
def cx (n : Fin 4) (t : Fin 2) (kb : Fin 8) : FVec F S128x128 .f32 :=
  if near kb (qb n t) then same (nearX (cqv i X n t) (ksv i X kb) (tS (sM X n) kb t) (tG bv kb (qb n t))) else tS (sM X n) kb t
/-- The largest score, one more tile seen. -/
def mStep (n : Fin 4) (t : Fin 2) (kb : Fin 8) (m : FVec F S8x128 .f32) : FVec F S8x128 .f32 :=
  if near kb (qb n t) then maximumf m (max8 (nearX (cqv i X n t) (ksv i X kb) (tS (sM X n) kb t) (tG bv kb (qb n t))))
  else maximumf m (farMax (cqv i X n t) (ksv i X kb) (tS (sM X n) kb t) (if kb.val < (qb n t).val then blo i X else bhi i X))
/-- The largest scores of a column of tiles. -/
def m8 (n : Fin 4) (t : Fin 2) : FVec F S8x128 .f32 := foldTo (mStep i X bv n t) (broadcast S8x128 (Scalar.ofBits .f32 0xFF800000#32)) 8
/-- The exponentials of a tile. -/
def eT (n : Fin 4) (t : Fin 2) (kb : Fin 8) : FVec F S128x128 .f32 :=
  if near kb (qb n t) then nearE (cx i X bv n t kb) (max1 (m8 i X bv n t))
  else farE (cqv i X n t) (ksv i X kb) (cx i X bv n t kb)
    (if kb.val < (qb n t).val then subf (max1 (m8 i X bv n t)) (broadcast S1x128 (blo i X)) else subf (max1 (m8 i X bv n t)) (broadcast S1x128 (bhi i X)))
/-- A tile's weighted row sums. -/
def aT (n : Fin 4) (t : Fin 2) (kb : Fin 8) : FVec F S8x128 .f32 :=
  tileA (eT i X bv n t kb) (tS (dM X n) kb t) (vsv i X kb) (dosv i X (qb n t))
/-- The running sums, one more tile seen. -/
def accStep (n : Fin 4) (t : Fin 2) (kb : Fin 8) (s : Accs F) : Accs F :=
  if near kb (qb n t) then { s with mid := accAdd s.mid (sum8 (eT i X bv n t kb)) (aT i X bv n t kb) }
  else if kb.val < (qb n t).val then { s with lo := accAdd s.lo (sum8 (eT i X bv n t kb)) (aT i X bv n t kb) }
  else { s with hi := accAdd s.hi (sum8 (eT i X bv n t kb)) (aT i X bv n t kb) }
/-- The sums of a column. -/
def accs (n : Fin 4) (t : Fin 2) : Accs F := foldTo (accStep i X bv n t) ⟨none, none, none⟩ 8
/-- Probabilities and score gradients of a tile. -/
def pT (n : Fin 4) (t : Fin 2) (kb : Fin 8) : FVec F S128x128 .bf16 := rnd (tileP (same (eT i X bv n t kb)) (rlOf (accs i X bv n t)))
@[inherit_doc pT] def uF (n : Fin 4) (t : Fin 2) (kb : Fin 8) : FVec F S128x128 .f32 :=
  tileU (same (eT i X bv n t kb)) (tS (dM X n) kb t) (rlOf (accs i X bv n t)) (drowOf (accs i X bv n t)) (vsv i X kb) (dosv i X (qb n t))
@[inherit_doc pT] def uT (n : Fin 4) (t : Fin 2) (kb : Fin 8) : FVec F S128x128 .bf16 := rnd (uF i X bv n t kb)
/-- The strip of bias gradients, one more tile added. -/
def gStep (n : Fin 4) (t : Fin 2) (kb : Fin 8) (g : FVec F S128x512 .f32) : FVec F S128x512 .f32 :=
  if near kb (qb n t) then
    put g ![0, grp kb (qb n t)] S128x128.size
      (same (addf (tG g kb (qb n t)) (mulf (uF i X bv n t kb) (broadcast S128x128 (Scalar.mulf (vsv i X kb) (dosv i X (qb n t)))))))
  else g
/-- The far bias gradients, one more column added. -/
def farStep (n : Fin 4) (t : Fin 2) (far : FVec F S1x128 .f32 × FVec F S1x128 .f32) : FVec F S1x128 .f32 × FVec F S1x128 .f32 :=
  (farOf far.1 (rlOf (accs i X bv n t)) (drowOf (accs i X bv n t)) (accs i X bv n t).lo,
    farOf far.2 (rlOf (accs i X bv n t)) (drowOf (accs i X bv n t)) (accs i X bv n t).hi)

/-! ## The passes -/

variable {c : Dev nD} {R : Refs} {i : grid0.Coords} {X bv}

section rules

variable {s : Sta F} {kb q : Fin 8} {t : Fin 2} {W : Words F}

theorem Ok.ldS {Q : _ → Sta F → Prop} (h : Q (tS (s .s) kb t) s) : Ok c R W (ldT R.a17 kb t) s Q := Ok.ld .s h
theorem Ok.ldE {Q : _ → Sta F → Prop} (h : Q (tS (s .e) kb t) s) : Ok c R W (ldT R.a18 kb t) s Q := Ok.ld .e h
theorem Ok.ldDp {Q : _ → Sta F → Prop} (h : Q (tS (s .dp) kb t) s) : Ok c R W (ldT R.a19 kb t) s Q := Ok.ld .dp h
theorem Ok.ldBias {Q : _ → Sta F → Prop} (h : Q (tG (s .bias) kb q) s) : Ok c R W (ldG R.a15 kb q) s Q := Ok.ld .bias h
theorem Ok.ldStrip {Q : _ → Sta F → Prop} (h : Q (tG (s .strip) kb q) s) : Ok c R W (ldG R.a16 kb q) s Q := Ok.ld .strip h
theorem Ok.stS_tile {w} {Q : _ → Sta F → Prop} (h : Q ⟨⟩ (s.set .s (put (s .s) ![128 * kb.val, 128 * t.val] S128x128.size w))) :
    Ok c R W (stT R.a17 kb t w) s Q := Ok.st .s h
theorem Ok.stE_tile {w} {Q : _ → Sta F → Prop} (h : Q ⟨⟩ (s.set .e (put (s .e) ![128 * kb.val, 128 * t.val] S128x128.size w))) :
    Ok c R W (stT R.a18 kb t w) s Q := Ok.st .e h
theorem Ok.stPp {w} {Q : _ → Sta F → Prop} (h : Q ⟨⟩ (s.set .p (put (s .p) ![128 * kb.val, 128 * q.val] S128x128.size w))) :
    Ok c R W (stP R.a20 R.h20 kb q w) s Q := Ok.bind (Ok.ld .p (Ok.st .p h))
theorem Ok.stPu {w} {Q : _ → Sta F → Prop} (h : Q ⟨⟩ (s.set .u (put (s .u) ![128 * kb.val, 128 * q.val] S128x128.size w))) :
    Ok c R W (stP R.a21 R.h21 kb q w) s Q := Ok.bind (Ok.ld .u (Ok.st .u h))

end rules

/-- Pass 1 of a column. -/
theorem pass1_ok (n : Fin 4) (t : Fin 2) (s : Sta F) (hs : ∀ kb, tS (s .s) kb t = tS (sM X n) kb t) (hb : s .bias = bv) :
    Ok c R X.W (loop8 (pass1 R i n t (cqv i X n t) (blo i X) (bhi i X)) (broadcast S8x128 (Scalar.ofBits .f32 0xFF800000#32))) s
      fun m s' => m = m8 i X bv n t ∧ (∀ kb, tS (s' .s) kb t = cx i X bv n t kb) ∧ (∀ kb t', t' ≠ t → tS (s' .s) kb t' = tS (s .s) kb t')
        ∧ ∀ b, b ≠ .s → s' b = s b := by
  refine Ok.loop8 (fun j m s' => m = foldTo (mStep i X bv n t) (broadcast S8x128 (Scalar.ofBits .f32 0xFF800000#32)) j
    ∧ (∀ kb : Fin 8, tS (s' .s) kb t = if kb.val < j then cx i X bv n t kb else tS (sM X n) kb t)
    ∧ (∀ kb t', t' ≠ t → tS (s' .s) kb t' = tS (s .s) kb t') ∧ ∀ b, b ≠ .s → s' b = s b) ?_ ?_ ?_
  · exact ⟨rfl, fun kb => by rw [if_neg (Nat.not_lt_zero _), hs], fun _ _ _ => rfl, fun _ _ => rfl⟩
  · rintro j m s' ⟨hm, h1, h2, h3⟩
    have hj : tS (s' .s) j t = tS (sM X n) j t := by rw [h1, if_neg (lt_irrefl _)]
    have hbb : s' .bias = bv := (h3 .bias (by decide)).trans hb
    unfold pass1
    split
    · rename_i hn
      refine Ok.bind (Ok.sc 1 (Ok.bind (Ok.ldS (Ok.bind (Ok.ldBias (Ok.bind (Ok.ldS (Ok.bind (Ok.stS_tile (Ok.pure ⟨?_, ?_, ?_, ?_⟩))))))))))
      · rw [foldTo_succ, ← hm, mStep, if_pos hn, hj, hbb]; rfl
      · intro kb
        rw [Sta.set_self, tS_put, h1 kb]
        by_cases hk : kb = j
        · subst hk
          rw [if_pos ⟨rfl, rfl⟩, if_pos (Nat.lt_succ_self _), cx, if_pos hn, hj, hbb]; rfl
        · have : kb.val ≠ j.val := fun e => hk (Fin.ext e)
          rw [if_neg fun h => hk h.1]
          exact if_congr (by omega) rfl rfl
      · intro kb t' ht
        rw [Sta.set_self, tS_put, if_neg fun h => ht h.2, h2 kb t' ht]
      · intro b hb'
        rw [Sta.set_of_ne _ _ hb', h3 b hb']
    · rename_i hn
      refine Ok.bind (Ok.sc 1 (Ok.bind (Ok.ldS (Ok.pure ⟨?_, ?_, h2, h3⟩))))
      · rw [foldTo_succ, ← hm, mStep, if_neg hn, hj]; rfl
      · intro kb
        rw [h1 kb]
        by_cases hk : kb = j
        · subst hk
          rw [if_neg (lt_irrefl _), if_pos (Nat.lt_succ_self _), cx, if_neg hn]
        · have : kb.val ≠ j.val := fun e => hk (Fin.ext e)
          exact if_congr (by omega) rfl rfl
  · rintro m s' ⟨hm, h1, h2, h3⟩
    exact ⟨hm, fun kb => by rw [h1, if_pos kb.isLt], h2, h3⟩

/-- Pass 2 of a column. -/
theorem pass2_ok (n : Fin 4) (t : Fin 2) (s : Sta F) (hs : ∀ kb, tS (s .s) kb t = cx i X bv n t kb) (hd : s .dp = dM X n) :
    Ok c R X.W (loop8 (pass2 R i n t (cqv i X n t) (max1 (m8 i X bv n t)) (subf (max1 (m8 i X bv n t)) (broadcast S1x128 (blo i X)))
        (subf (max1 (m8 i X bv n t)) (broadcast S1x128 (bhi i X)))) ⟨none, none, none⟩) s
      fun a s' => a = accs i X bv n t ∧ (∀ kb, tS (s' .e) kb t = same (eT i X bv n t kb)) ∧ ∀ b, b ≠ .e → s' b = s b := by
  refine Ok.loop8 (fun j a s' => a = foldTo (accStep i X bv n t) ⟨none, none, none⟩ j
    ∧ (∀ kb : Fin 8, kb.val < j → tS (s' .e) kb t = same (eT i X bv n t kb)) ∧ ∀ b, b ≠ .e → s' b = s b) ?_ ?_ ?_
  · exact ⟨rfl, fun kb h => absurd h (Nat.not_lt_zero _), fun _ _ => rfl⟩
  · rintro j a s' ⟨ha, h1, h3⟩
    have hj : tS (s' .s) j t = cx i X bv n t j := by rw [h3 .s (by decide), hs]
    have hst : ∀ w, w = same (eT i X bv n t j) → ∀ kb : Fin 8, kb.val < j.val + 1 →
        tS (put (s' .e) ![128 * j.val, 128 * t.val] S128x128.size w) kb t = same (eT i X bv n t kb) := by
      rintro w rfl kb hk
      rw [tS_put]
      by_cases e : kb = j
      · subst e; rw [if_pos ⟨rfl, rfl⟩]
      · have : kb.val ≠ j.val := fun h => e (Fin.ext h)
        rw [if_neg fun h => e h.1, h1 kb (by omega)]
    have hd' : ∀ w, (s'.set .e w) .dp = dM X n := fun w => by rw [Sta.set_of_ne _ _ (by decide), h3 .dp (by decide), hd]
    unfold pass2
    split
    · rename_i hn
      have he : nearE (cx i X bv n t j) (max1 (m8 i X bv n t)) = eT i X bv n t j := by rw [eT, if_pos hn]
      refine Ok.bind (Ok.ldS (Ok.bind (Ok.ldE (Ok.bind (Ok.stE_tile (Ok.bind (Ok.ldDp (Ok.bind (Ok.sc 2 (Ok.bind (Ok.sc 3 (Ok.pure ⟨?_, ?_, ?_⟩))))))))))))
      · rw [foldTo_succ, ← ha, accStep, if_pos hn, hj, he, hd']; rfl
      · rw [hj, he, Sta.set_self]; exact hst _ rfl
      · intro b hb; rw [Sta.set_of_ne _ _ hb, h3 b hb]
    · rename_i hn
      refine Ok.bind (Ok.ldS (Ok.bind (Ok.sc 1 (Ok.bind (Ok.ldE (Ok.bind (Ok.stE_tile (Ok.bind (Ok.ldDp (Ok.bind (Ok.sc 2 (Ok.bind (Ok.sc 3 ?_)))))))))))))
      rw [hj]
      split
      · rename_i hl
        have he : farE (cqv i X n t) (ksv i X j) (cx i X bv n t j) (subf (max1 (m8 i X bv n t)) (broadcast S1x128 (blo i X))) = eT i X bv n t j := by
          rw [eT, if_neg hn, if_pos hl]
        refine Ok.pure ⟨?_, ?_, ?_⟩
        · rw [foldTo_succ, ← ha, accStep, if_neg hn, if_pos hl]
          show _ = Accs.mk _ _ _
          rw [← he, hd']; unfold aT; rw [← he]; rfl
        · rw [Sta.set_self]; exact hst _ (congrArg same he)
        · intro b hb; rw [Sta.set_of_ne _ _ hb, h3 b hb]
      · rename_i hl
        have he : farE (cqv i X n t) (ksv i X j) (cx i X bv n t j) (subf (max1 (m8 i X bv n t)) (broadcast S1x128 (bhi i X))) = eT i X bv n t j := by
          rw [eT, if_neg hn, if_neg hl]
        refine Ok.pure ⟨?_, ?_, ?_⟩
        · rw [foldTo_succ, ← ha, accStep, if_neg hn, if_neg hl]
          show _ = Accs.mk _ _ _
          rw [← he, hd']; unfold aT; rw [← he]; rfl
        · rw [Sta.set_self]; exact hst _ (congrArg same he)
        · intro b hb; rw [Sta.set_of_ne _ _ hb, h3 b hb]
  · rintro a s' ⟨ha, h1, h3⟩
    exact ⟨ha, fun kb => h1 kb kb.isLt, h3⟩

/-- Pass 3 of a column. -/
theorem pass3_ok (n : Fin 4) (t : Fin 2) (s : Sta F) (he : ∀ kb, tS (s .e) kb t = same (eT i X bv n t kb)) (hd : s .dp = dM X n) :
    Ok c R X.W (loop8 (pass3 (F := F) R i n t (rlOf (accs i X bv n t)) (drowOf (accs i X bv n t))) ⟨⟩) s
      fun _ s' => (∀ kb, tP (s' .p) kb (qb n t) = pT i X bv n t kb) ∧ (∀ kb q, q ≠ qb n t → tP (s' .p) kb q = tP (s .p) kb q)
        ∧ (∀ kb, tP (s' .u) kb (qb n t) = uT i X bv n t kb) ∧ (∀ kb q, q ≠ qb n t → tP (s' .u) kb q = tP (s .u) kb q)
        ∧ s' .strip = foldTo (gStep i X bv n t) (s .strip) 8 ∧ ∀ b, b ≠ .p → b ≠ .u → b ≠ .strip → s' b = s b := by
  refine Ok.loop8 (fun j _ s' => (∀ kb : Fin 8, kb.val < j → tP (s' .p) kb (qb n t) = pT i X bv n t kb) ∧ (∀ kb q, q ≠ qb n t → tP (s' .p) kb q = tP (s .p) kb q)
        ∧ (∀ kb : Fin 8, kb.val < j → tP (s' .u) kb (qb n t) = uT i X bv n t kb) ∧ (∀ kb q, q ≠ qb n t → tP (s' .u) kb q = tP (s .u) kb q)
        ∧ s' .strip = foldTo (gStep i X bv n t) (s .strip) j ∧ ∀ b, b ≠ .p → b ≠ .u → b ≠ .strip → s' b = s b) ?_ ?_ ?_
  · exact ⟨fun kb h => absurd h (Nat.not_lt_zero _), fun _ _ _ => rfl, fun kb h => absurd h (Nat.not_lt_zero _), fun _ _ _ => rfl, rfl, fun _ _ _ _ => rfl⟩
  · rintro j _ s' ⟨h1, h2, h3, h4, h5, h6⟩
    have hst : ∀ (y : S1024x1024.Idx → Elt F .bf16) (T : Fin 8 → FVec F S128x128 .bf16), (∀ kb : Fin 8, kb.val < j.val → tP y kb (qb n t) = T kb) →
        ∀ kb : Fin 8, kb.val < j.val + 1 → tP (put y ![128 * j.val, 128 * (qb n t).val] S128x128.size (T j)) kb (qb n t) = T kb := by
      intro y T hy kb hk
      rw [tP_put]
      by_cases e : kb = j
      · subst e; rw [if_pos ⟨rfl, rfl⟩]
      · have : kb.val ≠ j.val := fun h => e (Fin.ext h)
        rw [if_neg fun h => e h.1, hy kb (by omega)]
    have hst' : ∀ (y z : S1024x1024.Idx → Elt F .bf16) (w : FVec F S128x128 .bf16), (∀ kb q, q ≠ qb n t → tP y kb q = tP z kb q) →
        ∀ kb q, q ≠ qb n t → tP (put y ![128 * j.val, 128 * (qb n t).val] S128x128.size w) kb q = tP z kb q := by
      intro y z w hy kb q hq
      rw [tP_put, if_neg fun h => hq h.2, hy kb q hq]
    have hee : tS (s' .e) j t = same (eT i X bv n t j) := by rw [h6 .e (by decide) (by decide) (by decide), he]
    have hdd : s' .dp = dM X n := by rw [h6 .dp (by decide) (by decide) (by decide), hd]
    unfold pass3
    refine Ok.bind (Ok.sc 2 (Ok.bind (Ok.sc 3 (Ok.bind (Ok.ldE (Ok.bind (Ok.ldDp (Ok.bind (Ok.stPp (Ok.bind (Ok.stPu ?_)))))))))))
    rw [hee, hdd, Sta.set_of_ne (b := .p) (b' := .u) _ _ (by decide)]
    have e1 : rnd (tileP (same (eT i X bv n t j)) (rlOf (accs i X bv n t))) = pT i X bv n t j := rfl
    have e2 : tileU (same (eT i X bv n t j)) (tS (dM X n) j t) (rlOf (accs i X bv n t)) (drowOf (accs i X bv n t)) (scv i (X.W.w 2) j) (scv i (X.W.w 3) (qb n t))
      = uF i X bv n t j := rfl
    have e3 : rnd (uF i X bv n t j) = uT i X bv n t j := rfl
    rw [e1, e2, e3]
    have hp : ∀ g, (((s'.set .p g).set .u (put (s' .u) ![128 * j.val, 128 * (qb n t).val] S128x128.size (uT i X bv n t j))) .p) = g := fun g => by
      rw [Sta.set_of_ne (b := .u) (b' := .p) _ _ (by decide), Sta.set_self]
    split
    · rename_i hn
      refine Ok.bind (Ok.ldStrip (Ok.bind (Ok.ldStrip (Ok.st .strip ⟨?_, ?_, ?_, ?_, ?_, ?_⟩))))
      · rw [Sta.set_of_ne (b := .strip) (b' := .p) _ _ (by decide), hp]; exact hst _ _ h1
      · rw [Sta.set_of_ne (b := .strip) (b' := .p) _ _ (by decide), hp]; exact hst' _ _ _ h2
      · rw [Sta.set_of_ne (b := .strip) (b' := .u) _ _ (by decide), Sta.set_self]; exact hst _ _ h3
      · rw [Sta.set_of_ne (b := .strip) (b' := .u) _ _ (by decide), Sta.set_self]; exact hst' _ _ _ h4
      · rw [Sta.set_self, foldTo_succ, ← h5, gStep, if_pos hn, Sta.set_of_ne (b := .u) (b' := .strip) _ _ (by decide), Sta.set_of_ne (b := .p) (b' := .strip) _ _ (by decide)]
        rfl
      · intro b b1 b2 b3
        rw [Sta.set_of_ne _ _ b3, Sta.set_of_ne _ _ b2, Sta.set_of_ne _ _ b1, h6 b b1 b2 b3]
    · rename_i hn
      refine Ok.pure ⟨?_, ?_, ?_, ?_, ?_, ?_⟩
      · rw [hp]; exact hst _ _ h1
      · rw [hp]; exact hst' _ _ _ h2
      · rw [Sta.set_self]; exact hst _ _ h3
      · rw [Sta.set_self]; exact hst' _ _ _ h4
      · rw [foldTo_succ, ← h5, gStep, if_neg hn, Sta.set_of_ne (b := .u) (b' := .strip) _ _ (by decide), Sta.set_of_ne (b := .p) (b' := .strip) _ _ (by decide)]
      · intro b b1 b2 b3
        rw [Sta.set_of_ne _ _ b2, Sta.set_of_ne _ _ b1, h6 b b1 b2 b3]
  · rintro _ s' ⟨h1, h2, h3, h4, h5, h6⟩
    exact ⟨fun kb => h1 kb kb.isLt, h2, fun kb => h3 kb kb.isLt, h4, h5, h6⟩

/-- A column. -/
theorem column_ok (n : Fin 4) (t : Fin 2) (far : FVec F S1x128 .f32 × FVec F S1x128 .f32) (s : Sta F)
    (hs : ∀ kb, tS (s .s) kb t = tS (sM X n) kb t) (hd : s .dp = dM X n) (hb : s .bias = bv) :
    Ok c R X.W (column R i n t (blo i X) (bhi i X) far) s
      fun far' s' => far' = farStep i X bv n t far ∧ (∀ kb t', t' ≠ t → tS (s' .s) kb t' = tS (s .s) kb t')
        ∧ (∀ kb, tP (s' .p) kb (qb n t) = pT i X bv n t kb) ∧ (∀ kb q, q ≠ qb n t → tP (s' .p) kb q = tP (s .p) kb q)
        ∧ (∀ kb, tP (s' .u) kb (qb n t) = uT i X bv n t kb) ∧ (∀ kb q, q ≠ qb n t → tP (s' .u) kb q = tP (s .u) kb q)
        ∧ s' .strip = foldTo (gStep i X bv n t) (s .strip) 8 ∧ ∀ b, b ≠ .s → b ≠ .e → b ≠ .p → b ≠ .u → b ≠ .strip → s' b = s b := by
  unfold column
  refine Ok.bind (Ok.sc 0 (Ok.bind ((pass1_ok (bv := bv) n t s hs hb).mono ?_)))
  rintro m s1 ⟨hm, a1, a2, a3⟩
  subst hm
  refine Ok.bind ((pass2_ok (bv := bv) n t s1 a1 ((a3 .dp (by decide)).trans hd)).mono ?_)
  rintro a s2 ⟨ha, b1, b2⟩
  subst ha
  refine Ok.bind ((pass3_ok (bv := bv) n t s2 b1 (((b2 .dp (by decide)).trans (a3 .dp (by decide))).trans hd)).mono ?_)
  rintro _ s3 ⟨d1, d2, d3, d4, d5, d6⟩
  refine Ok.pure ⟨rfl, fun kb t' ht => ?_, d1, fun kb q hq => ?_, d3, fun kb q hq => ?_, ?_, fun b n1 n2 n3 n4 n5 => ?_⟩
  · rw [d6 .s (by decide) (by decide) (by decide), b2 .s (by decide), a2 kb t' ht]
  · rw [d2 kb q hq, b2 .p (by decide), a3 .p (by decide)]
  · rw [d4 kb q hq, b2 .u (by decide), a3 .u (by decide)]
  · rw [d5, b2 .strip (by decide), a3 .strip (by decide)]
  · rw [d6 b n3 n4 n5, b2 b n2, a3 b n1]

end Cert.KernelIdeal.Folded
-- ==== Proof.SpecBody.lean ====
module

public import proofs.«01_k».proof.Proof.Spec
public import Idealize.ShloMosaic.Lib.ValueIdx

@[expose] public section

/-! # What the body leaves

The results of a grid point as functions of its inputs, and the proof that the body leaves them. -/

noncomputable section

namespace Cert.KernelIdeal.Folded

open Idealize.ShloMosaic Idealize.ShloMosaic.TcCoe Idealize.ShloMosaic.Tactic
open Idealize.SL Idealize.SL.RA Idealize.SL.BI
open Cert.KernelIdeal Cert.KernelIdeal.Gen
open VecWindow ValueIdx

variable {F : FTy → Type} [FloatOps F] [Named F]

/-! ## Wholes from tiles -/

/-- A square of tiles, the columns in pairs. -/
def asmP {α : Type} (T : Fin 4 → Fin 2 → Fin 8 → S128x128.Idx → α) : S1024x1024.Idx → α := fun y =>
  T ⟨(y 1).val / 256, Nat.div_lt_of_lt_mul (y 1).isLt⟩ ⟨(y 1).val / 128 % 2, Nat.mod_lt _ (by decide)⟩ ⟨(y 0).val / 128, Nat.div_lt_of_lt_mul (y 0).isLt⟩
    (ix2 ⟨(y 0).val % 128, Nat.mod_lt _ (by decide)⟩ ⟨(y 1).val % 128, Nat.mod_lt _ (by decide)⟩)
/-- Two columns of tiles. -/
def asmW {α : Type} (T : Fin 2 → Fin 8 → S128x128.Idx → α) : S1024x256.Idx → α := fun y =>
  T ⟨(y 1).val / 128, Nat.div_lt_of_lt_mul (y 1).isLt⟩ ⟨(y 0).val / 128, Nat.div_lt_of_lt_mul (y 0).isLt⟩
    (ix2 ⟨(y 0).val % 128, Nat.mod_lt _ (by decide)⟩ ⟨(y 1).val % 128, Nat.mod_lt _ (by decide)⟩)
/-- Blocks of rows of an operand. -/
def asmB {α : Type} (T : Fin 8 → S1x1x128x64.Idx → α) : S1x1x1024x64.Idx → α := fun y =>
  T ⟨(y 2).val / 128, Nat.div_lt_of_lt_mul (y 2).isLt⟩ (ix4 0 0 ⟨(y 2).val % 128, Nat.mod_lt _ (by decide)⟩ ⟨(y 3).val, (y 3).isLt⟩)
/-- Blocks of rows. -/
def asmR {α : Type} (T : Fin 8 → S128x64.Idx → α) : S1024x64.Idx → α := fun y =>
  T ⟨(y 0).val / 128, Nat.div_lt_of_lt_mul (y 0).isLt⟩ (ix2 ⟨(y 0).val % 128, Nat.mod_lt _ (by decide)⟩ ⟨(y 1).val, (y 1).isLt⟩)
/-- Blocks of columns. -/
def asmC {α : Type} (T : Fin 8 → S64x128.Idx → α) : S64x1024.Idx → α := fun y =>
  T ⟨(y 1).val / 128, Nat.div_lt_of_lt_mul (y 1).isLt⟩ (ix2 ⟨(y 0).val, (y 0).isLt⟩ ⟨(y 1).val % 128, Nat.mod_lt _ (by decide)⟩)

theorem eq_asmP {α : Type} (x : S1024x1024.Idx → α) (T : Fin 4 → Fin 2 → Fin 8 → S128x128.Idx → α)
    (h : ∀ n t kb, tP x kb (qb n t) = T n t kb) : x = asmP T := by
  funext y
  unfold asmP
  rw [← h]
  refine congrArg x (funext fun a => Fin.ext ?_)
  have h1 : (y 1).val < 1024 := (y 1).isLt
  fin_cases a
  · show (y 0).val = 128 * ((y 0).val / 128) + 1 * ((y 0).val % 128); omega
  · show (y 1).val = 128 * (2 * ((y 1).val / 256) + (y 1).val / 128 % 2) + 1 * ((y 1).val % 128); omega

theorem window_eq_asmW {α : Type} (x : S1024x1024.Idx → α) (n : Fin 4) (T : Fin 2 → Fin 8 → S128x128.Idx → α)
    (h : ∀ t kb, tP x kb (qb n t) = T t kb) : window x ![0, 256 * n.val] S1024x256.size (uIn n) = asmW T := by
  funext y
  unfold asmW
  rw [← h]
  refine congrArg x (funext fun a => Fin.ext ?_)
  have h0 : (y 0).val < 1024 := (y 0).isLt
  have h1 : (y 1).val < 256 := (y 1).isLt
  fin_cases a
  · show 0 + 1 * (y 0).val = 128 * ((y 0).val / 128) + 1 * ((y 0).val % 128); omega
  · show 256 * n.val + 1 * (y 1).val = 128 * (2 * n.val + (y 1).val / 128) + 1 * ((y 1).val % 128); omega

theorem eq_asmB {α : Type} (x : S1x1x1024x64.Idx → α) (T : Fin 8 → S1x1x128x64.Idx → α) (h : ∀ j, tB x j = T j) : x = asmB T := by
  funext y
  unfold asmB
  rw [← h]
  refine congrArg x (funext fun a => Fin.ext ?_)
  have h0 : (y 0).val < 1 := (y 0).isLt
  have h1 : (y 1).val < 1 := (y 1).isLt
  fin_cases a
  · show (y 0).val = 0; omega
  · show (y 1).val = 0; omega
  · show (y 2).val = 128 * ((y 2).val / 128) + 1 * ((y 2).val % 128); omega
  · show (y 3).val = 0 + 1 * (y 3).val; omega

theorem eq_asmR {α : Type} (x : S1024x64.Idx → α) (T : Fin 8 → S128x64.Idx → α) (h : ∀ j, tR x j = T j) : x = asmR T := by
  funext y
  unfold asmR
  rw [← h]
  refine congrArg x (funext fun a => Fin.ext ?_)
  fin_cases a
  · show (y 0).val = 128 * ((y 0).val / 128) + 1 * ((y 0).val % 128); omega
  · show (y 1).val = 0 + 1 * (y 1).val; omega

theorem eq_asmC {α : Type} (x : S64x1024.Idx → α) (T : Fin 8 → S64x128.Idx → α) (h : ∀ j, tC x j = T j) : x = asmC T := by
  funext y
  unfold asmC
  rw [← h]
  refine congrArg x (funext fun a => Fin.ext ?_)
  fin_cases a
  · show (y 0).val = 0 + 1 * (y 0).val; omega
  · show (y 1).val = 128 * ((y 1).val / 128) + 1 * ((y 1).val % 128); omega

/-! ## The functions -/

variable (i : grid0.Coords) (X : Inp F) (bv : FVec F S128x512 .f32)

/-- The transposed, scaled keys; the scaled queries; the scaled output gradients. -/
def kTv : FVec F S64x1024 .bf16 := asmC fun j => k0_pay30 (tB X.k j) (ksv i X j) (vsv i X j)
@[inherit_doc kTv] def qqv : FVec F S1024x64 .bf16 := asmR fun j => k0_pay32 (k0_pay31 (tB X.q j)) (qsv i X j) (dosv i X j)
@[inherit_doc kTv] def oov : FVec F S1024x64 .bf16 := asmR fun j => k0_pay33 (tB X.o j) (dosv i X j)
/-- The query gradient of a block. -/
def dqB (n : Fin 4) (t : Fin 2) : FVec F S1x1x128x64 .bf16 := dqTile (kTv i X) (asmW (uT i X bv n)) t (dosv i X (qb n t))
/-- The probabilities and score gradients of the point. -/
def pM : FVec F S1024x1024 .bf16 := asmP (pT i X bv)
@[inherit_doc pM] def uM : FVec F S1024x1024 .bf16 := asmP (uT i X bv)
/-- The query, key and value gradients of the point. -/
def dqV : FVec F S1x1x1024x64 .bf16 :=
  asmB fun j => dqB i X bv ⟨j.val / 2, by omega⟩ ⟨j.val % 2, Nat.mod_lt _ (by decide)⟩
@[inherit_doc dqV] def dkV : FVec F S1x1x1024x64 .bf16 :=
  asmB fun kb => k0_pay849 (window (uM i X bv) ![128 * kb.val, 0] S128x1024.size (lIn kb)) (qqv i X) (vsv i X kb)
@[inherit_doc dqV] def dvV : FVec F S1x1x1024x64 .bf16 :=
  asmB fun kb => k0_pay848 (window (pM i X bv) ![128 * kb.val, 0] S128x1024.size (lIn kb)) (oov i X)
/-- The strip of bias gradients and the far sums, one more pair of columns added. -/
def gPair (n : Fin 4) (g : FVec F S128x512 .f32) : FVec F S128x512 .f32 := foldTo (gStep i X bv n 1) (foldTo (gStep i X bv n 0) g 8) 8
@[inherit_doc gPair] def fPair (n : Fin 4) (far : FVec F S1x128 .f32 × FVec F S1x128 .f32) := farStep i X bv n 1 (farStep i X bv n 0 far)
@[inherit_doc gPair] def gAll (g : FVec F S128x512 .f32) : FVec F S128x512 .f32 := gPair i X bv 3 (gPair i X bv 2 (gPair i X bv 1 (gPair i X bv 0 g)))
@[inherit_doc gPair] def fAll : FVec F S1x128 .f32 × FVec F S1x128 .f32 := fPair i X bv 3 (fPair i X bv 2 (fPair i X bv 1 (fPair i X bv 0 (zero1, zero1))))
/-- The bias strip of the point's head. -/
def biasV (h : k0_cond1 i = 1#1) : FVec F S128x512 .f32 :=
  k0_pay28 ((List.finRange 31 |>.map Fin.castSucc).foldl (fun g u => biasStep u (tbv X.W.b (k0_off1 i (BitVec.ofNat 32 u.val)) (k0_off1_inb i h u)) g)
      (broadcast S8x512 (Scalar.ofBits .f32 0x00000000#32)))
    (k0_pay19 (k0_pay5 k0_pay3 k0_pay4 16#32)) (tbv X.W.b (k0_off1 i 31#32) (k0_off1_inb i h 31)) (Named.named κ "log2e" 0x3FB8AA3B#32)
/-- The bias strip after the start. -/
def biasAt (b0 : FVec F S128x512 .f32) : FVec F S128x512 .f32 := if h : k0_cond1 i = 1#1 then biasV i X h else b0
/-- The strip of bias gradients after the start. -/
def stripAt (g0 : FVec F S128x512 .f32) : FVec F S128x512 .f32 := if k0_cond1 i = 1#1 then k0_pay29 (F := F) else g0
/-- The row of the table's gradient that the point leaves. -/
def dbV (far : FVec F S1x128 .f32 × FVec F S1x128 .f32) (g : FVec F S128x512 .f32) (d0 : FVec F S1x1x128 .f32) : FVec F S1x1x128 .f32 :=
  have d1 := if k0_cond2 i = 1#1 then k0_pay866 (k0_pay865 far.2 far.1) else d0
  have d2 := if k0_cond3 i = 1#1 then k0_pay867 (k0_pay865 far.2 far.1) d1 else d1
  if k0_cond4 i = 1#1 then k0_pay1 k0_pay25 (k0_pay26 (k0_pay20 g) k0_pay21 k0_pay22 k0_pay23 k0_pay24) (k0_pay27 (F := F)) d2 else d2

variable {c : Dev nD} {R : Refs} {i : grid0.Coords} {X bv}

section rules

variable {s : Sta F} {j : Fin 8} {n : Fin 4} {W : Words F}

theorem Ok.ldBq {Q : _ → Sta F → Prop} (h : Q (tB (s .q) j) s) : Ok c R W (ldB R.a7 j) s Q := Ok.ld .q h
theorem Ok.ldBk {Q : _ → Sta F → Prop} (h : Q (tB (s .k) j) s) : Ok c R W (ldB R.a8 j) s Q := Ok.ld .k h
theorem Ok.ldBo {Q : _ → Sta F → Prop} (h : Q (tB (s .o) j) s) : Ok c R W (ldB R.a10 j) s Q := Ok.ld .o h
theorem Ok.ldWq {Q : _ → Sta F → Prop} (h : Q (tW (s .q) n) s) : Ok c R W (ldW R.a7 n) s Q := Ok.ld .q h
theorem Ok.ldWo {Q : _ → Sta F → Prop} (h : Q (tW (s .o) n) s) : Ok c R W (ldW R.a10 n) s Q := Ok.ld .o h
/-- The rule for a load of a whole buffer. -/
theorem Ok.ldAll (b : B) {off : Fin b.shp.rank → ℕ} {h : ∀ x, off x + b.shp.size x ≤ b.shp.size x}
    {hl : (R.ref b).view.LoadsAt (Rect.unit (s := b.shp) off b.shp.size h).toLoadRect} {Q : _ → Sta F → Prop}
    (hQ : Q (s b) s) : Ok c R W (Folded.ld (F := F) (R.ref b) off b.shp.size h hl) s Q :=
  Ok.ld b (by rw [window_full]; exact hQ)
/-- The rule for a store of a whole buffer. -/
theorem Ok.stAll (b : B) {off : Fin b.shp.rank → ℕ} {h : ∀ x, off x + b.shp.size x ≤ b.shp.size x} {w}
    {hx : ((R.ref b).access (Rect.unit (s := b.shp) off b.shp.size h)).Stores Finset.univ} {Q : _ → Sta F → Prop}
    (hQ : Q ⟨⟩ (s.set b w)) : Ok c R W (Folded.st (F := F) (R.ref b) off b.shp.size h w hx) s Q :=
  Ok.st b (by rw [put_full (s b) off h w]; exact hQ)
theorem Ok.ldAk {Q : _ → Sta F → Prop} (h : Q (s .k) s) : Ok c R W (ldA R.a8) s Q := Ok.ldAll .k h
theorem Ok.ldAv {Q : _ → Sta F → Prop} (h : Q (s .v) s) : Ok c R W (ldA R.a9) s Q := Ok.ldAll .v h
theorem Ok.stSs {w} {Q : _ → Sta F → Prop} (h : Q ⟨⟩ (s.set .s w)) : Ok c R W (stS R.a17 w) s Q := Ok.bind (Ok.ldAll .s (Ok.stAll .s h))
theorem Ok.stSdp {w} {Q : _ → Sta F → Prop} (h : Q ⟨⟩ (s.set .dp w)) : Ok c R W (stS R.a19 w) s Q := Ok.bind (Ok.ldAll .dp (Ok.stAll .dp h))
theorem Ok.stGbias {w} {Q : _ → Sta F → Prop} (h : Q ⟨⟩ (s.set .bias w)) : Ok c R W (stG R.a15 w) s Q := Ok.bind (Ok.ldAll .bias (Ok.stAll .bias h))
theorem Ok.stGstrip {w} {Q : _ → Sta F → Prop} (h : Q ⟨⟩ (s.set .strip w)) : Ok c R W (stG R.a16 w) s Q := Ok.bind (Ok.ldAll .strip (Ok.stAll .strip h))
theorem Ok.ldStripAll {Q : _ → Sta F → Prop} (h : Q (s .strip) s) :
    Ok c R W (Folded.ld (F := F) R.a16 ![0, 0] S128x512.size inb_S128x512_S128x512_0_0 (View.loadsAt_vmem h_S128x512)) s Q := Ok.ldAll .strip h
theorem Ok.ldDb {Q : _ → Sta F → Prop} (h : Q (s .db) s) : Ok c R W (ldD R.a14) s Q := Ok.ldAll .db h
theorem Ok.stDb {w} {Q : _ → Sta F → Prop} (h : Q ⟨⟩ (s.set .db w)) : Ok c R W (stD R.a14 w) s Q := Ok.bind (Ok.ldDb (Ok.stAll .db h))
theorem Ok.stBdq {w} {Q : _ → Sta F → Prop} (h : Q ⟨⟩ (s.set .dq (put (s .dq) ![0, 0, 128 * j.val, 0] S1x1x128x64.size w))) :
    Ok c R W (stB R.a11 R.h11 j w) s Q := Ok.bind (Ok.ld .dq (Ok.st .dq h))
theorem Ok.stBdk {w} {Q : _ → Sta F → Prop} (h : Q ⟨⟩ (s.set .dk (put (s .dk) ![0, 0, 128 * j.val, 0] S1x1x128x64.size w))) :
    Ok c R W (stB R.a12 R.h12 j w) s Q := Ok.bind (Ok.ld .dk (Ok.st .dk h))
theorem Ok.stBdv {w} {Q : _ → Sta F → Prop} (h : Q ⟨⟩ (s.set .dv (put (s .dv) ![0, 0, 128 * j.val, 0] S1x1x128x64.size w))) :
    Ok c R W (stB R.a13 R.h13 j w) s Q := Ok.bind (Ok.ld .dv (Ok.st .dv h))
theorem Ok.stCk {w} {Q : _ → Sta F → Prop} (h : Q ⟨⟩ (s.set .kT (put (s .kT) ![0, 128 * j.val] S64x128.size w))) :
    Ok c R W (stC R.a22 R.h22 j w) s Q := Ok.bind (Ok.ld .kT (Ok.st .kT h))
theorem Ok.stRq {w} {Q : _ → Sta F → Prop} (h : Q ⟨⟩ (s.set .qq (put (s .qq) ![128 * j.val, 0] S128x64.size w))) :
    Ok c R W (stR R.a23 R.h23 j w) s Q := Ok.bind (Ok.ld .qq (Ok.st .qq h))
theorem Ok.stRo {w} {Q : _ → Sta F → Prop} (h : Q ⟨⟩ (s.set .oo (put (s .oo) ![128 * j.val, 0] S128x64.size w))) :
    Ok c R W (stR R.a24 R.h24 j w) s Q := Ok.bind (Ok.ld .oo (Ok.st .oo h))

end rules

/-- The state's inputs are the point's. -/
def Has (X : Inp F) (s : Sta F) : Prop := s .q = X.q ∧ s .k = X.k ∧ s .v = X.v ∧ s .o = X.o

theorem qb_ne {n : Fin 4} {t t' : Fin 2} (h : t ≠ t') : qb n t ≠ qb n t' := fun e => h (Fin.ext (by
  have : 2 * n.val + t.val = 2 * n.val + t'.val := congrArg Fin.val e
  omega))

/-- A pair of query blocks. -/
theorem pair_ok (n : Fin 4) (far : FVec F S1x128 .f32 × FVec F S1x128 .f32) (s : Sta F) (hX : Has X s) (hb : s .bias = bv) (hk : s .kT = kTv i X) :
    Ok c R X.W (pair R i (blo i X) (bhi i X) n far) s
      fun far' s' => far' = fPair i X bv n far
        ∧ (∀ t kb, tP (s' .p) kb (qb n t) = pT i X bv n t kb) ∧ (∀ kb q, (∀ t, q ≠ qb n t) → tP (s' .p) kb q = tP (s .p) kb q)
        ∧ (∀ t kb, tP (s' .u) kb (qb n t) = uT i X bv n t kb) ∧ (∀ kb q, (∀ t, q ≠ qb n t) → tP (s' .u) kb q = tP (s .u) kb q)
        ∧ (∀ t, tB (s' .dq) (qb n t) = dqB i X bv n t) ∧ (∀ q, (∀ t, q ≠ qb n t) → tB (s' .dq) q = tB (s .dq) q)
        ∧ s' .strip = gPair i X bv n (s .strip)
        ∧ ∀ b, b ≠ .s → b ≠ .e → b ≠ .dp → b ≠ .p → b ≠ .u → b ≠ .strip → b ≠ .dq → s' b = s b := by
  obtain ⟨hq, hkk, hv, ho⟩ := hX
  unfold pair
  refine Ok.bind (Ok.ldAk (Ok.bind (Ok.ldWq (Ok.bind (Ok.stSs (Ok.bind (Ok.ldAv (Ok.bind (Ok.ldWo (Ok.bind (Ok.stSdp ?_)))))))))))
  rw [hkk, hq, Sta.set_of_ne (b := .s) (b' := .v) _ _ (by decide), Sta.set_of_ne (b := .s) (b' := .o) _ _ (by decide), hv, ho]
  refine Ok.bind ((column_ok (X := X) (bv := bv) n 0 far _ (fun kb => ?_) ?_ ?_).mono ?_)
  · rw [Sta.set_of_ne (b := .dp) (b' := .s) _ _ (by decide), Sta.set_self]; rfl
  · rw [Sta.set_self]; rfl
  · rw [Sta.set_of_ne (b := .dp) (b' := .bias) _ _ (by decide), Sta.set_of_ne (b := .s) (b' := .bias) _ _ (by decide), hb]
  rintro _ s1 ⟨rfl, a1, a2, a3, a4, a5, a6, a7⟩
  refine Ok.bind ((column_ok (X := X) (bv := bv) n 1 _ _ (fun kb => ?_) ?_ ?_).mono ?_)
  · rw [a1 kb 1 (by decide), Sta.set_of_ne (b := .dp) (b' := .s) _ _ (by decide), Sta.set_self]; rfl
  · rw [a7 .dp (by decide) (by decide) (by decide) (by decide) (by decide), Sta.set_self]; rfl
  · rw [a7 .bias (by decide) (by decide) (by decide) (by decide) (by decide), Sta.set_of_ne (b := .dp) (b' := .bias) _ _ (by decide), Sta.set_of_ne (b := .s) (b' := .bias) _ _ (by decide), hb]
  rintro _ s2 ⟨rfl, b1, b2, b3, b4, b5, b6, b7⟩
  have fr : ∀ b, b ≠ .s → b ≠ .e → b ≠ .dp → b ≠ .p → b ≠ .u → b ≠ .strip → s2 b = s b := fun b n1 n2 n3 n4 n5 n6 => by
    rw [b7 b n1 n2 n4 n5 n6, a7 b n1 n2 n4 n5 n6, Sta.set_of_ne _ _ n3, Sta.set_of_ne _ _ n1]
  have hkT : s2 .kT = kTv i X := (fr .kT (by decide) (by decide) (by decide) (by decide) (by decide) (by decide)).trans hk
  have hp : ∀ t kb, tP (s2 .p) kb (qb n t) = pT i X bv n t kb := fun t kb => by
    fin_cases t
    · exact (b3 kb _ (qb_ne (by decide))).trans (a2 kb)
    · exact b2 kb
  have hu : ∀ t kb, tP (s2 .u) kb (qb n t) = uT i X bv n t kb := fun t kb => by
    fin_cases t
    · exact (b5 kb _ (qb_ne (by decide))).trans (a4 kb)
    · exact b4 kb
  refine Ok.bind (Ok.ldAll .kT (Ok.bind (Ok.ld .u (Ok.bind (Ok.sc 3 (Ok.bind (Ok.stBdq (Ok.bind (Ok.sc 3 (Ok.bind (Ok.stBdq (Ok.pure ?_))))))))))))
  rw [hkT, window_eq_asmW (s2 .u) n (uT i X bv n) hu]
  refine ⟨rfl, fun t kb => ?_, fun kb q hqq => ?_, fun t kb => ?_, fun kb q hqq => ?_, fun t => ?_, fun q hqq => ?_, ?_, fun b n1 n2 n3 n4 n5 n6 n7 => ?_⟩
  · rw [Sta.set_of_ne (b := .dq) (b' := .p) _ _ (by decide), Sta.set_of_ne (b := .dq) (b' := .p) _ _ (by decide), hp]
  · rw [Sta.set_of_ne (b := .dq) (b' := .p) _ _ (by decide), Sta.set_of_ne (b := .dq) (b' := .p) _ _ (by decide), b3 kb q (hqq 1), a3 kb q (hqq 0),
      Sta.set_of_ne (b := .dp) (b' := .p) _ _ (by decide), Sta.set_of_ne (b := .s) (b' := .p) _ _ (by decide)]
  · rw [Sta.set_of_ne (b := .dq) (b' := .u) _ _ (by decide), Sta.set_of_ne (b := .dq) (b' := .u) _ _ (by decide), hu]
  · rw [Sta.set_of_ne (b := .dq) (b' := .u) _ _ (by decide), Sta.set_of_ne (b := .dq) (b' := .u) _ _ (by decide), b5 kb q (hqq 1), a5 kb q (hqq 0),
      Sta.set_of_ne (b := .dp) (b' := .u) _ _ (by decide), Sta.set_of_ne (b := .s) (b' := .u) _ _ (by decide)]
  · rw [Sta.set_self, tB_put]
    have ht : t = 0 ∨ t = 1 := by revert t; decide
    rcases ht with rfl | rfl
    · rw [if_neg (qb_ne (by decide)), Sta.set_self, tB_put, if_pos rfl]; rfl
    · rw [if_pos rfl]; rfl
  · rw [Sta.set_self, tB_put, if_neg (hqq 1), Sta.set_self, tB_put, if_neg (hqq 0), fr .dq (by decide) (by decide) (by decide) (by decide) (by decide) (by decide)]
  · rw [Sta.set_of_ne (b := .dq) (b' := .strip) _ _ (by decide), Sta.set_of_ne (b := .dq) (b' := .strip) _ _ (by decide), b6, a6,
      Sta.set_of_ne (b := .dp) (b' := .strip) _ _ (by decide), Sta.set_of_ne (b := .s) (b' := .strip) _ _ (by decide)]
    rfl
  · rw [Sta.set_of_ne _ _ n7, Sta.set_of_ne _ _ n7, fr b n1 n2 n3 n4 n5 n6]

/-- The scaled copies. -/
theorem prep_ok (s : Sta F) (hX : Has X s) :
    Ok c R X.W (loop8 (prep (F := F) R i) ⟨⟩) s fun _ s' => s' .kT = kTv i X ∧ s' .qq = qqv i X ∧ s' .oo = oov i X
      ∧ ∀ b, b ≠ .kT → b ≠ .qq → b ≠ .oo → s' b = s b := by
  obtain ⟨hq, hkk, hv, ho⟩ := hX
  refine Ok.loop8 (fun j _ s' => (∀ l : Fin 8, l.val < j → tC (s' .kT) l = k0_pay30 (tB X.k l) (ksv i X l) (vsv i X l))
    ∧ (∀ l : Fin 8, l.val < j → tR (s' .qq) l = k0_pay32 (k0_pay31 (tB X.q l)) (qsv i X l) (dosv i X l))
    ∧ (∀ l : Fin 8, l.val < j → tR (s' .oo) l = k0_pay33 (tB X.o l) (dosv i X l))
    ∧ ∀ b, b ≠ .kT → b ≠ .qq → b ≠ .oo → s' b = s b) ?_ ?_ ?_
  · exact ⟨fun l h => absurd h (Nat.not_lt_zero _), fun l h => absurd h (Nat.not_lt_zero _), fun l h => absurd h (Nat.not_lt_zero _), fun _ _ _ _ => rfl⟩
  · rintro j _ s' ⟨h1, h2, h3, h4⟩
    have hq' : s' .q = X.q := (h4 .q (by decide) (by decide) (by decide)).trans hq
    have hk' : s' .k = X.k := (h4 .k (by decide) (by decide) (by decide)).trans hkk
    have ho' : s' .o = X.o := (h4 .o (by decide) (by decide) (by decide)).trans ho
    unfold prep
    refine Ok.bind (Ok.ldBk (Ok.bind (Ok.sc 1 (Ok.bind (Ok.sc 2 (Ok.bind (Ok.stCk (Ok.bind (Ok.ldBq (Ok.bind (Ok.sc 0 (Ok.bind (Ok.sc 3 (Ok.bind (Ok.stRq
      (Ok.bind (Ok.ldBo (Ok.bind (Ok.sc 3 (Ok.stRo ?_))))))))))))))))))))
    simp only [Sta.set_self, Sta.set_of_ne (b := .kT) (b' := .q) _ _ (by decide), Sta.set_of_ne (b := .kT) (b' := .qq) _ _ (by decide),
      Sta.set_of_ne (b := .kT) (b' := .o) _ _ (by decide), Sta.set_of_ne (b := .kT) (b' := .oo) _ _ (by decide),
      Sta.set_of_ne (b := .qq) (b' := .o) _ _ (by decide), Sta.set_of_ne (b := .qq) (b' := .oo) _ _ (by decide), Sta.set_of_ne (b := .qq) (b' := .kT) _ _ (by decide),
      Sta.set_of_ne (b := .oo) (b' := .kT) _ _ (by decide), Sta.set_of_ne (b := .oo) (b' := .qq) _ _ (by decide), hq', hk', ho']
    refine ⟨fun l hl => ?_, fun l hl => ?_, fun l hl => ?_, fun b n1 n2 n3 => ?_⟩
    · rw [tC_put]
      by_cases e : l = j
      · subst e; rw [if_pos rfl]; rfl
      · have : l.val ≠ j.val := fun h => e (Fin.ext h)
        rw [if_neg e, h1 l (by omega)]
    · rw [tR_put]
      by_cases e : l = j
      · subst e; rw [if_pos rfl]; rfl
      · have : l.val ≠ j.val := fun h => e (Fin.ext h)
        rw [if_neg e, h2 l (by omega)]
    · rw [tR_put]
      by_cases e : l = j
      · subst e; rw [if_pos rfl]; rfl
      · have : l.val ≠ j.val := fun h => e (Fin.ext h)
        rw [if_neg e, h3 l (by omega)]
    · rw [Sta.set_of_ne _ _ n3, Sta.set_of_ne _ _ n2, Sta.set_of_ne _ _ n1, h4 b n1 n2 n3]
  · rintro _ s' ⟨h1, h2, h3, h4⟩
    exact ⟨eq_asmC _ _ fun l => h1 l l.isLt, eq_asmR _ _ fun l => h2 l l.isLt, eq_asmR _ _ fun l => h3 l l.isLt, h4⟩

/-- The value and key gradients. -/
theorem tail_ok (s : Sta F) (hp : s .p = pM i X bv) (hu : s .u = uM i X bv) (hq : s .qq = qqv i X) (ho : s .oo = oov i X) :
    Ok c R X.W (loop8 (tail (F := F) R i) ⟨⟩) s fun _ s' => s' .dv = dvV i X bv ∧ s' .dk = dkV i X bv ∧ ∀ b, b ≠ .dk → b ≠ .dv → s' b = s b := by
  refine Ok.loop8 (fun j _ s' => (∀ l : Fin 8, l.val < j → tB (s' .dv) l = k0_pay848 (window (pM i X bv) ![128 * l.val, 0] S128x1024.size (lIn l)) (oov i X))
    ∧ (∀ l : Fin 8, l.val < j → tB (s' .dk) l = k0_pay849 (window (uM i X bv) ![128 * l.val, 0] S128x1024.size (lIn l)) (qqv i X) (vsv i X l))
    ∧ ∀ b, b ≠ .dk → b ≠ .dv → s' b = s b) ?_ ?_ ?_
  · exact ⟨fun l h => absurd h (Nat.not_lt_zero _), fun l h => absurd h (Nat.not_lt_zero _), fun _ _ _ => rfl⟩
  · rintro j _ s' ⟨h1, h2, h4⟩
    have hp' : s' .p = pM i X bv := (h4 .p (by decide) (by decide)).trans hp
    have hu' : s' .u = uM i X bv := (h4 .u (by decide) (by decide)).trans hu
    have hq' : s' .qq = qqv i X := (h4 .qq (by decide) (by decide)).trans hq
    have ho' : s' .oo = oov i X := (h4 .oo (by decide) (by decide)).trans ho
    unfold tail
    refine Ok.bind (Ok.ld .p (Ok.bind (Ok.ldAll .oo (Ok.bind (Ok.stBdv (Ok.bind (Ok.ld .u (Ok.bind (Ok.ldAll .qq (Ok.bind (Ok.sc 2 (Ok.stBdk ?_))))))))))))
    simp only [Sta.set_self, Sta.set_of_ne (b := .dv) (b' := .u) _ _ (by decide), Sta.set_of_ne (b := .dv) (b' := .qq) _ _ (by decide),
      Sta.set_of_ne (b := .dv) (b' := .dk) _ _ (by decide), Sta.set_of_ne (b := .dk) (b' := .dv) _ _ (by decide), hp', hu', hq', ho']
    refine ⟨fun l hl => ?_, fun l hl => ?_, fun b n1 n2 => ?_⟩
    · rw [tB_put]
      by_cases e : l = j
      · subst e; rw [if_pos rfl]
      · have : l.val ≠ j.val := fun h => e (Fin.ext h)
        rw [if_neg e, h1 l (by omega)]
    · rw [tB_put]
      by_cases e : l = j
      · subst e; rw [if_pos rfl]; rfl
      · have : l.val ≠ j.val := fun h => e (Fin.ext h)
        rw [if_neg e, h2 l (by omega)]
    · rw [Sta.set_of_ne _ _ n1, Sta.set_of_ne _ _ n2, h4 b n1 n2]
  · rintro _ s' ⟨h1, h2, h4⟩
    exact ⟨eq_asmB _ _ fun l => h1 l l.isLt, eq_asmB _ _ fun l => h2 l l.isLt, h4⟩

theorem biasLoop_ok (h : k0_cond1 i = 1#1) (s : Sta F) (l : List (Fin 32)) (g : FVec F S8x512 .f32) :
    Ok c R X.W (biasLoop (F := F) R i h l g) s fun a s' => s' = s
      ∧ a = l.foldl (fun g u => biasStep u (tbv X.W.b (k0_off1 i (BitVec.ofNat 32 u.val)) (k0_off1_inb i h u)) g) g := by
  induction l generalizing g with
  | nil => exact Ok.pure ⟨rfl, rfl⟩
  | cons u us ih =>
    unfold biasLoop
    refine Ok.bind ?_
    refine Ok.tb ?_
    rw [List.foldl_cons]
    exact ih _

/-- The start. -/
theorem start_ok (s : Sta F) :
    Ok c R X.W (start (F := F) R i) s fun _ s' => s' .bias = biasAt i X (s .bias) ∧ s' .strip = stripAt i (s .strip)
      ∧ ∀ b, b ≠ .bias → b ≠ .strip → s' b = s b := by
  unfold start biasAt stripAt
  split
  · rename_i h
    refine Ok.bind ((biasLoop_ok (X := X) h s _ _).mono ?_)
    rintro g _ ⟨rfl, rfl⟩
    refine Ok.bind (Ok.tb (Ok.bind (Ok.stGbias (Ok.stGstrip ?_))))
    refine ⟨?_, ?_, fun b n1 n2 => ?_⟩
    · rw [Sta.set_of_ne (b := .strip) (b' := .bias) _ _ (by decide), Sta.set_self]; rfl
    · rw [Sta.set_self]
    · rw [Sta.set_of_ne _ _ n2, Sta.set_of_ne _ _ n1]
  · exact Ok.pure ⟨rfl, rfl, fun _ _ _ => rfl⟩

/-- The end. -/
theorem finish_ok (far : FVec F S1x128 .f32 × FVec F S1x128 .f32) (s : Sta F) :
    Ok c R X.W (finishFar R i far >>= fun _ => finishNear (F := F) R i) s fun _ s' => s' .db = dbV i far (s .strip) (s .db) ∧ ∀ b, b ≠ .db → s' b = s b := by
  have near : ∀ s1 : Sta F, (∀ b, b ≠ .db → s1 b = s b) → Ok c R X.W (finishNear (F := F) R i) s1 fun _ s' =>
      s' .db = (if k0_cond4 i = 1#1 then k0_pay1 k0_pay25 (k0_pay26 (k0_pay20 (s .strip)) k0_pay21 k0_pay22 k0_pay23 k0_pay24) (k0_pay27 (F := F)) (s1 .db) else s1 .db)
        ∧ ∀ b, b ≠ .db → s' b = s b := by
    intro s1 hs
    unfold finishNear
    by_cases h4 : k0_cond4 i = 1#1
    · rw [dif_pos h4, if_pos h4]
      refine Ok.bind (Ok.ldStripAll (Ok.bind (Ok.ldDb (Ok.bind (Ok.stDb (Ok.pure ?_))))))
      refine ⟨?_, fun b n => ?_⟩
      · rw [Sta.set_self, hs .strip (by decide)]
      · rw [Sta.set_of_ne _ _ n, hs b n]
    · rw [dif_neg h4, if_neg h4]
      exact Ok.pure ⟨rfl, hs⟩
  have mid : ∀ s1 : Sta F, (∀ b, b ≠ .db → s1 b = s b) → Ok c R X.W (do
      if h3 : k0_cond3 i = 1#1 then do
        let x ← ldD (F := F) R.a14
        stD R.a14 (k0_pay867 (k0_pay865 far.2 far.1) x)
        pure ⟨⟩
      else do
        pure ⟨⟩
      pure ⟨⟩ : PR F PUnit) s1 fun _ s2 => s2 .db = (if k0_cond3 i = 1#1 then k0_pay867 (k0_pay865 far.2 far.1) (s1 .db) else s1 .db) ∧ ∀ b, b ≠ .db → s2 b = s b := by
    intro s1 hs
    by_cases h3 : k0_cond3 i = 1#1
    · rw [dif_pos h3, if_pos h3]
      refine Ok.bind (Ok.ldDb (Ok.bind (Ok.stDb (Ok.pure ?_))))
      refine ⟨?_, fun b n => ?_⟩
      · rw [Sta.set_self]
      · rw [Sta.set_of_ne _ _ n, hs b n]
    · rw [dif_neg h3, if_neg h3]
      exact Ok.pure ⟨rfl, hs⟩
  unfold finishFar dbV
  refine Ok.bind ?_
  by_cases h2 : k0_cond2 i = 1#1
  · rw [dif_pos h2, if_pos h2]
    refine Ok.bind (Ok.stDb ?_)
    refine (mid _ fun b n => Sta.set_of_ne _ _ n).mono ?_
    rintro _ s2 ⟨e, hs⟩
    refine (near s2 hs).mono ?_
    rintro _ s3 ⟨e', hs'⟩
    refine ⟨?_, hs'⟩
    rw [e', e, Sta.set_self]
  · rw [dif_neg h2, if_neg h2]
    refine (mid _ fun b n => rfl).mono ?_
    rintro _ s2 ⟨e, hs⟩
    refine (near s2 hs).mono ?_
    rintro _ s3 ⟨e', hs'⟩
    refine ⟨?_, hs'⟩
    rw [e', e]

theorem qb_exhaust (q : Fin 8) : ∃ n t, q = qb n t :=
  ⟨⟨q.val / 2, by omega⟩, ⟨q.val % 2, Nat.mod_lt _ (by decide)⟩, Fin.ext (by show q.val = 2 * (q.val / 2) + q.val % 2; omega)⟩

theorem qb_ne_of_ne {n n' : Fin 4} (h : n ≠ n') (t t' : Fin 2) : qb n t ≠ qb n' t' := fun e => h (Fin.ext (by
  have : 2 * n.val + t.val = 2 * n'.val + t'.val := congrArg Fin.val e
  omega))

/-- What four pairs leave of the tiles of one column. -/
theorem last_of_pairs {α : Type} {β : Type} (f : Fin 5 → Fin 8 → α) (g : Fin 4 → Fin 2 → α)
    (h : ∀ (n : Fin 4) t, f n.succ (qb n t) = g n t) (hn : ∀ (n : Fin 4) q, (∀ t, q ≠ qb n t) → f n.succ q = f n.castSucc q) (n : Fin 4) (t : Fin 2) :
    f 4 (qb n t) = g n t := by
  have h0 := h 0; have h1 := h 1; have h2 := h 2; have h3 := h 3
  have k1 := hn 1; have k2 := hn 2; have k3 := hn 3
  fin_cases n
  · exact ((k3 _ fun t' => qb_ne_of_ne (by decide) _ _).trans ((k2 _ fun t' => qb_ne_of_ne (by decide) _ _).trans (k1 _ fun t' => qb_ne_of_ne (by decide) _ _))).trans (h0 t)
  · exact ((k3 _ fun t' => qb_ne_of_ne (by decide) _ _).trans (k2 _ fun t' => qb_ne_of_ne (by decide) _ _)).trans (h1 t)
  · exact (k3 _ fun t' => qb_ne_of_ne (by decide) _ _).trans (h2 t)
  · exact h3 t

/-- The body. -/
theorem body_ok (s : Sta F) (hX : Has X s) (hbv : biasAt i X (s .bias) = bv) :
    Ok c R X.W (body (F := F) R i) s fun _ s' => Has X s' ∧ s' .dq = dqV i X bv ∧ s' .dk = dkV i X bv ∧ s' .dv = dvV i X bv
      ∧ s' .bias = bv ∧ s' .strip = gAll i X bv (stripAt i (s .strip)) ∧ s' .db = dbV i (fAll i X bv) (gAll i X bv (stripAt i (s .strip))) (s .db) := by
  unfold body rest
  refine Ok.bind ((start_ok (X := X) s).mono ?_)
  rintro _ s1 ⟨a1, a2, a3⟩
  have hX1 : Has X s1 := by
    obtain ⟨h1, h2, h3, h4⟩ := hX
    exact ⟨(a3 .q (by decide) (by decide)).trans h1, (a3 .k (by decide) (by decide)).trans h2, (a3 .v (by decide) (by decide)).trans h3, (a3 .o (by decide) (by decide)).trans h4⟩
  rw [hbv] at a1
  refine Ok.bind ((prep_ok s1 hX1).mono ?_)
  rintro _ s2 ⟨b1, b2, b3, b4⟩
  have hX2 : Has X s2 := by
    obtain ⟨h1, h2, h3, h4⟩ := hX1
    exact ⟨(b4 .q (by decide) (by decide) (by decide)).trans h1, (b4 .k (by decide) (by decide) (by decide)).trans h2,
      (b4 .v (by decide) (by decide) (by decide)).trans h3, (b4 .o (by decide) (by decide) (by decide)).trans h4⟩
  have hb2 := (b4 .bias (by decide) (by decide) (by decide)).trans a1
  refine Ok.bind (Ok.tb (Ok.bind (Ok.tb ?_)))
  -- what a pair keeps
  have keep : ∀ s s' : Sta F, (∀ b, b ≠ .s → b ≠ .e → b ≠ .dp → b ≠ .p → b ≠ .u → b ≠ .strip → b ≠ .dq → s' b = s b) → Has X s ∧ s .bias = bv ∧ s .kT = kTv i X →
      Has X s' ∧ s' .bias = bv ∧ s' .kT = kTv i X := by
    rintro s s' h ⟨⟨h1, h2, h3, h4⟩, h5, h6⟩
    exact ⟨⟨(h .q (by decide) (by decide) (by decide) (by decide) (by decide) (by decide) (by decide)).trans h1,
      (h .k (by decide) (by decide) (by decide) (by decide) (by decide) (by decide) (by decide)).trans h2,
      (h .v (by decide) (by decide) (by decide) (by decide) (by decide) (by decide) (by decide)).trans h3,
      (h .o (by decide) (by decide) (by decide) (by decide) (by decide) (by decide) (by decide)).trans h4⟩,
      (h .bias (by decide) (by decide) (by decide) (by decide) (by decide) (by decide) (by decide)).trans h5,
      (h .kT (by decide) (by decide) (by decide) (by decide) (by decide) (by decide) (by decide)).trans h6⟩
  have I2 : Has X s2 ∧ s2 .bias = bv ∧ s2 .kT = kTv i X := ⟨hX2, hb2, b1⟩
  refine Ok.bind ((pair_ok (X := X) (bv := bv) 0 _ s2 I2.1 I2.2.1 I2.2.2).mono ?_)
  rintro _ s3 ⟨rfl, p31, p32, u31, u32, d31, d32, g3, k3⟩
  have I3 := keep _ _ k3 I2
  refine Ok.bind ((pair_ok (X := X) (bv := bv) 1 _ s3 I3.1 I3.2.1 I3.2.2).mono ?_)
  rintro _ s4 ⟨rfl, p41, p42, u41, u42, d41, d42, g4, k4⟩
  have I4 := keep _ _ k4 I3
  refine Ok.bind ((pair_ok (X := X) (bv := bv) 2 _ s4 I4.1 I4.2.1 I4.2.2).mono ?_)
  rintro _ s5 ⟨rfl, p51, p52, u51, u52, d51, d52, g5, k5⟩
  have I5 := keep _ _ k5 I4
  refine Ok.bind ((pair_ok (X := X) (bv := bv) 3 _ s5 I5.1 I5.2.1 I5.2.2).mono ?_)
  rintro _ s6 ⟨rfl, p61, p62, u61, u62, d61, d62, g6, k6⟩
  have I6 := keep _ _ k6 I5
  have st : ∀ m : Fin 4, m = 0 ∨ m = 1 ∨ m = 2 ∨ m = 3 := by decide
  have hp : s6 .p = pM i X bv := eq_asmP _ _ fun n t kb =>
    last_of_pairs (β := Unit) (fun m q => tP ((![s2, s3, s4, s5, s6] : Fin 5 → Sta F) m .p) kb q) (fun n t => pT i X bv n t kb)
      (fun m t => by rcases st m with rfl | rfl | rfl | rfl; exacts [p31 t kb, p41 t kb, p51 t kb, p61 t kb])
      (fun m q hq => by rcases st m with rfl | rfl | rfl | rfl; exacts [p32 kb q hq, p42 kb q hq, p52 kb q hq, p62 kb q hq]) n t
  have hu : s6 .u = uM i X bv := eq_asmP _ _ fun n t kb =>
    last_of_pairs (β := Unit) (fun m q => tP ((![s2, s3, s4, s5, s6] : Fin 5 → Sta F) m .u) kb q) (fun n t => uT i X bv n t kb)
      (fun m t => by rcases st m with rfl | rfl | rfl | rfl; exacts [u31 t kb, u41 t kb, u51 t kb, u61 t kb])
      (fun m q hq => by rcases st m with rfl | rfl | rfl | rfl; exacts [u32 kb q hq, u42 kb q hq, u52 kb q hq, u62 kb q hq]) n t
  have hd : ∀ n t, tB (s6 .dq) (qb n t) = dqB i X bv n t := fun n t =>
    last_of_pairs (β := Unit) (fun m q => tB ((![s2, s3, s4, s5, s6] : Fin 5 → Sta F) m .dq) q) (fun n t => dqB i X bv n t)
      (fun m t => by rcases st m with rfl | rfl | rfl | rfl; exacts [d31 t, d41 t, d51 t, d61 t])
      (fun m q hq => by rcases st m with rfl | rfl | rfl | rfl; exacts [d32 q hq, d42 q hq, d52 q hq, d62 q hq]) n t
  have hdq : s6 .dq = dqV i X bv := eq_asmB _ _ fun j => by
    have e : j = qb ⟨j.val / 2, by omega⟩ ⟨j.val % 2, Nat.mod_lt _ (by decide)⟩ := Fin.ext (by show j.val = 2 * (j.val / 2) + j.val % 2; omega)
    rw [← hd, ← e]
  have fr : ∀ b, b ≠ .s → b ≠ .e → b ≠ .dp → b ≠ .p → b ≠ .u → b ≠ .strip → b ≠ .dq → s6 b = s2 b := fun b n1 n2 n3 n4 n5 n6 n7 =>
    (((k6 b n1 n2 n3 n4 n5 n6 n7).trans (k5 b n1 n2 n3 n4 n5 n6 n7)).trans (k4 b n1 n2 n3 n4 n5 n6 n7)).trans (k3 b n1 n2 n3 n4 n5 n6 n7)
  have hqq := (fr .qq (by decide) (by decide) (by decide) (by decide) (by decide) (by decide) (by decide)).trans b2
  have hoo := (fr .oo (by decide) (by decide) (by decide) (by decide) (by decide) (by decide) (by decide)).trans b3
  have hg : s6 .strip = gAll i X bv (stripAt i (s .strip)) := by
    rw [g6, g5, g4, g3, b4 .strip (by decide) (by decide) (by decide), a2]; rfl
  have hdb : s6 .db = s .db := by
    rw [fr .db (by decide) (by decide) (by decide) (by decide) (by decide) (by decide) (by decide), b4 .db (by decide) (by decide) (by decide), a3 .db (by decide) (by decide)]
  refine Ok.bind ((tail_ok s6 hp hu hqq hoo).mono ?_)
  rintro _ s7 ⟨e1, e2, e3⟩
  refine (finish_ok _ s7).mono ?_
  rintro _ s8 ⟨f1, f2⟩
  have hX8 : ∀ b, b ≠ .db → b ≠ .dk → b ≠ .dv → s8 b = s6 b := fun b n1 n2 n3 => (f2 b n1).trans (e3 b n2 n3)
  obtain ⟨⟨h1, h2, h3, h4⟩, h5, h6⟩ := I6
  refine ⟨⟨(hX8 .q (by decide) (by decide) (by decide)).trans h1, (hX8 .k (by decide) (by decide) (by decide)).trans h2,
    (hX8 .v (by decide) (by decide) (by decide)).trans h3, (hX8 .o (by decide) (by decide) (by decide)).trans h4⟩,
    (hX8 .dq (by decide) (by decide) (by decide)).trans hdq, (f2 .dk (by decide)).trans e2, (f2 .dv (by decide)).trans e1,
    (hX8 .bias (by decide) (by decide) (by decide)).trans h5, (hX8 .strip (by decide) (by decide) (by decide)).trans hg, ?_⟩
  rw [f1, e3 .strip (by decide) (by decide), e3 .db (by decide) (by decide), hg, hdb]
  rfl

end Cert.KernelIdeal.Folded
-- ==== Proof.Attn.lean ====
module

public import Idealize.ShloMosaic.PureOps.Ideal

@[expose] public section

/-! # The gradients of one head, over the extended reals

Two ways to write the gradients of an attention layer with a bias added to its scores, for one head of one batch entry:
the way of the reference, and the way of the kernel, which uses powers of two in place of exponentials, forms exponents in
two orders, and keeps the gradient of a score without the product of the two scales it is going to be multiplied by. With
nonnegative real scales, those of the values positive, and a real bias, they are equal for every code, infinite ones
included. -/

noncomputable section

namespace Cert.Attn

open Idealize.ShloMosaic

/-! ## Arithmetic -/

/-- A nonnegative real distributes over a finite sum. -/
theorem sum_mul_real {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

theorem mul_sum_real {ι : Type} (s : Finset ι) (f : ι → EReal) {c : EReal} (h0 : 0 ≤ c) (ht : c ≠ ⊤) :
    c * (∑ i ∈ s, f i) = ∑ i ∈ s, c * f i := by
  rw [mul_comm, sum_mul_real s f h0 ht]
  exact Finset.sum_congr rfl fun i _ => mul_comm _ _

theorem sub_mul_real (x y : EReal) {c : EReal} (h0 : 0 ≤ c) (ht : c ≠ ⊤) : (x - y) * c = x * c - y * c := by
  rw [sub_eq_add_neg, EReal.right_distrib_of_nonneg_of_ne_top h0 ht, sub_eq_add_neg, EReal.neg_mul]

theorem mul_sub_real (x y : EReal) {c : EReal} (h0 : 0 ≤ c) (ht : c ≠ ⊤) : c * (x - y) = c * x - c * y := by
  rw [mul_comm, sub_mul_real x y h0 ht, mul_comm x, mul_comm y]

theorem mul_ne_top' {x y : EReal} (hx : 0 ≤ x) (hx' : x ≠ ⊤) (hy : 0 ≤ y) (hy' : y ≠ ⊤) : x * y ≠ ⊤ := by
  lift x to ℝ using ⟨hx', fun h => by simp [h] at hx⟩
  lift y to ℝ using ⟨hy', fun h => by simp [h] at hy⟩
  rw [← EReal.coe_mul]
  exact EReal.coe_ne_top _

/-- The logarithm of `e` to base two. -/
def L : ℝ := (Real.log 2)⁻¹

theorem L_pos : 0 < L := inv_pos.mpr (Real.log_pos one_lt_two)
theorem L_nonneg : (0 : EReal) ≤ (L : EReal) := EReal.coe_nonneg.mpr L_pos.le
theorem L_ne_top : (L : EReal) ≠ ⊤ := EReal.coe_ne_top _

/-- A power of two whose exponent carries the factor is an exponential. -/
theorem exp2_L (y : EReal) : Ideal.exp2 ((L : EReal) * y) = Ideal.exp y := by
  induction y using EReal.rec with
  | bot => rw [EReal.coe_mul_bot_of_pos L_pos]; rfl
  | top => rw [EReal.coe_mul_top_of_pos L_pos]; rfl
  | coe r =>
    rw [← EReal.coe_mul, Ideal.exp2_coe, Ideal.exp_coe]
    congr 1
    show (2 : ℝ) ^ (L * r) = _
    rw [Real.rpow_def_of_pos two_pos]
    congr 1
    unfold L
    rw [← mul_assoc, mul_inv_cancel₀ (Real.log_pos one_lt_two).ne', one_mul]

theorem exp_nonneg (y : EReal) : 0 ≤ Ideal.exp y := by
  induction y using EReal.rec with
  | bot => exact le_refl _
  | top => exact le_top
  | coe r => exact EReal.coe_nonneg.mpr (Real.exp_pos r).le

theorem exp_ne_top {y : EReal} (h : y ≤ 0) : Ideal.exp y ≠ ⊤ := by
  induction y using EReal.rec with
  | bot => exact EReal.zero_ne_top
  | top => simp at h
  | coe r => exact EReal.coe_ne_top _

/-! ## The two ways -/

/-- A head of a batch entry: the codes and the tokens' scales of the queries, the keys, the values and the output gradients, and
    the bias of a query against a key. -/
structure Data where
  q : Fin 1024 → Fin 64 → EReal
  k : Fin 1024 → Fin 64 → EReal
  v : Fin 1024 → Fin 64 → EReal
  o : Fin 1024 → Fin 64 → EReal
  qs : Fin 1024 → EReal
  ks : Fin 1024 → EReal
  vs : Fin 1024 → EReal
  os : Fin 1024 → EReal
  b : Fin 1024 → Fin 1024 → EReal

/-- The scales are nonnegative reals, those of the values positive, and the bias is real. -/
structure Data.Ok (X : Data) : Prop where
  qs0 : ∀ t, 0 ≤ X.qs t
  qst : ∀ t, X.qs t ≠ ⊤
  ks0 : ∀ t, 0 ≤ X.ks t
  kst : ∀ t, X.ks t ≠ ⊤
  vs0 : ∀ t, 0 < X.vs t
  vst : ∀ t, X.vs t ≠ ⊤
  os0 : ∀ t, 0 ≤ X.os t
  ost : ∀ t, X.os t ≠ ⊤
  bb : ∀ t u, X.b t u ≠ ⊥
  bt : ∀ t u, X.b t u ≠ ⊤

namespace Data

variable (X : Data)

/-- Products of codes: queries with keys, output gradients with values. -/
def raw (q k : Fin 1024) : EReal := ∑ d, X.q q d * X.k k d
@[inherit_doc raw] def rawd (q k : Fin 1024) : EReal := ∑ d, X.o q d * X.v k d

/-- The reference's scores, their largest, exponentials, sum, probabilities, output gradients, and score gradients. -/
def s (q k : Fin 1024) : EReal := X.raw q k * (((1 / 8 : ℝ) : EReal) * X.qs q) * X.ks k + X.b q k
@[inherit_doc s] def M (q : Fin 1024) : EReal := ⨆ k, X.s q k
@[inherit_doc s] def e (q k : Fin 1024) : EReal := Ideal.exp (X.s q k - X.M q)
@[inherit_doc s] def Z (q : Fin 1024) : EReal := ∑ k, X.e q k
@[inherit_doc s] def P (q k : Fin 1024) : EReal := X.e q k * Ideal.div 1 (X.Z q)
@[inherit_doc s] def dp (q k : Fin 1024) : EReal := X.rawd q k * X.os q * X.vs k
@[inherit_doc s] def D (q : Fin 1024) : EReal := ∑ k, X.P q k * X.dp q k
@[inherit_doc s] def ds (q k : Fin 1024) : EReal := X.P q k * (X.dp q k - X.D q)
/-- The reference's gradients. -/
def dq (q : Fin 1024) (d : Fin 64) : EReal := ((1 / 8 : ℝ) : EReal) * ∑ k, X.ds q k * (X.k k d * X.ks k)
@[inherit_doc dq] def dk (k : Fin 1024) (d : Fin 64) : EReal := ((1 / 8 : ℝ) : EReal) * ∑ q, X.ds q k * (X.q q d * X.qs q)
@[inherit_doc dq] def dv (k : Fin 1024) (d : Fin 64) : EReal := ∑ q, X.P q k * (X.o q d * X.os q)

/-- The kernel's factor of a product of codes, its bias, scores, and their largest. -/
def c (q k : Fin 1024) : EReal := (X.qs q * ((1 / 8 * L : ℝ) : EReal)) * X.ks k
@[inherit_doc c] def b' (q k : Fin 1024) : EReal := X.b q k * (L : EReal)
@[inherit_doc c] def s' (q k : Fin 1024) : EReal := X.raw q k * X.c q k + X.b' q k
@[inherit_doc c] def M' (q : Fin 1024) : EReal := ⨆ k, X.s' q k
/-- The kernel's row of products with output gradients, and score gradients over the product of the two scales. -/
def D' (q : Fin 1024) : EReal := (∑ k, (X.e q k * X.rawd q k) * (X.vs k * X.os q)) * Ideal.div 1 (X.Z q)
@[inherit_doc D'] def u (q k : Fin 1024) : EReal := X.P q k * (X.rawd q k - Ideal.div (X.D' q) (X.vs k * X.os q))

variable {X} (h : X.Ok)
include h

theorem c_nonneg (q k : Fin 1024) : 0 ≤ X.c q k :=
  mul_nonneg (mul_nonneg (h.qs0 q) (EReal.coe_nonneg.mpr (by have := L_pos; positivity))) (h.ks0 k)

theorem c_ne_top (q k : Fin 1024) : X.c q k ≠ ⊤ :=
  mul_ne_top' (mul_nonneg (h.qs0 q) (EReal.coe_nonneg.mpr (by have := L_pos; positivity)))
    (mul_ne_top' (h.qs0 q) (h.qst q) (EReal.coe_nonneg.mpr (by have := L_pos; positivity)) (EReal.coe_ne_top _)) (h.ks0 k) (h.kst k)

theorem b'_ne_top (q k : Fin 1024) : X.b' q k ≠ ⊤ := by
  unfold b'
  have h1 := h.bt q k
  have h2 := h.bb q k
  lift X.b q k to ℝ using ⟨h1, h2⟩ with r
  rw [← EReal.coe_mul]; exact EReal.coe_ne_top _

theorem b'_ne_bot (q k : Fin 1024) : X.b' q k ≠ ⊥ := by
  unfold b'
  have h1 := h.bt q k
  have h2 := h.bb q k
  lift X.b q k to ℝ using ⟨h1, h2⟩ with r
  rw [← EReal.coe_mul]; exact EReal.coe_ne_bot _

omit h in
theorem s'_eq (q k : Fin 1024) : X.s' q k = (L : EReal) * X.s q k := by
  unfold s' s c b'
  rw [EReal.left_distrib_of_nonneg_of_ne_top L_nonneg L_ne_top, EReal.coe_mul]
  congr 1
  · ac_rfl
  · exact mul_comm _ _

omit h in
theorem M'_eq (q : Fin 1024) : X.M' q = (L : EReal) * X.M q := by
  refine le_antisymm (iSup_le fun k => ?_) ?_
  · rw [s'_eq]
    exact mul_le_mul_of_nonneg_left (le_iSup (X.s q) k) L_nonneg
  · obtain ⟨k, hk⟩ := exists_eq_ciSup_of_finite (f := X.s q)
    unfold M
    rw [← hk, ← s'_eq]
    exact le_iSup (X.s' q) k

omit h in
/-- An exponential with the bias added to the score. -/
theorem near_eq (q k : Fin 1024) : Ideal.exp2 (X.s' q k - X.M' q) = X.e q k := by
  rw [s'_eq, M'_eq, ← mul_sub_real _ _ L_nonneg L_ne_top, exp2_L]; rfl

/-- An exponential with the bias taken off the largest score. -/
theorem far_eq (q k : Fin 1024) : Ideal.exp2 (X.raw q k * X.c q k - (X.M' q - X.b' q k)) = X.e q k := by
  rw [← near_eq]
  congr 1
  unfold s'
  rw [sub_eq_add_neg, EReal.neg_sub (.inr (b'_ne_bot h q k)) (.inr (b'_ne_top h q k)), sub_eq_add_neg]
  ac_rfl

omit h in
theorem e_nonneg (q k : Fin 1024) : 0 ≤ X.e q k := exp_nonneg _

omit h in
/-- Either every exponential of a row is zero, or one over their sum is a nonnegative real. -/
theorem row (q : Fin 1024) : (∀ k, X.e q k = 0) ∨ (0 ≤ Ideal.div 1 (X.Z q) ∧ Ideal.div 1 (X.Z q) ≠ ⊤) := by
  by_cases hz : X.Z q = 0
  · exact .inl fun k => (Finset.sum_eq_zero_iff_of_nonneg fun k _ => e_nonneg q k).mp hz k (Finset.mem_univ k)
  · refine .inr ?_
    have h0 : 0 ≤ X.Z q := Finset.sum_nonneg fun k _ => e_nonneg q k
    unfold Ideal.div
    rw [if_neg hz, one_mul]
    refine ⟨EReal.inv_nonneg_of_nonneg h0, ?_⟩
    generalize X.Z q = z at *
    induction z using EReal.rec with
    | bot => simp at h0
    | top => simp
    | coe r => rw [← EReal.coe_inv]; exact EReal.coe_ne_top _

omit h in
theorem P_zero {q : Fin 1024} (hz : ∀ k, X.e q k = 0) (k : Fin 1024) : X.P q k = 0 := by
  unfold P; rw [hz, zero_mul]

omit h in
theorem D'_eq (q : Fin 1024) : X.D' q = X.D q := by
  unfold D' D
  rcases row (X := X) q with hz | ⟨h0, ht⟩
  · rw [Finset.sum_eq_zero fun k _ => by rw [hz, zero_mul, zero_mul], zero_mul, Finset.sum_eq_zero fun k _ => by rw [P_zero hz, zero_mul]]
  · rw [sum_mul_real _ _ h0 ht]
    refine Finset.sum_congr rfl fun k _ => ?_
    unfold P dp
    ac_rfl

theorem u_mul (q k : Fin 1024) : X.u q k * (X.vs k * X.os q) = X.ds q k := by
  have h0 : 0 ≤ X.vs k * X.os q := mul_nonneg (h.vs0 k).le (h.os0 q)
  have ht : X.vs k * X.os q ≠ ⊤ := mul_ne_top' (h.vs0 k).le (h.vst k) (h.os0 q) (h.ost q)
  unfold u ds
  rw [D'_eq]
  by_cases hw : X.vs k * X.os q = 0
  · have ho : X.os q = 0 := (mul_eq_zero.mp hw).resolve_left (h.vs0 k).ne'
    have hd : ∀ k, X.dp q k = 0 := fun k => by unfold dp; rw [ho, mul_zero, zero_mul]
    have hD : X.D q = 0 := Finset.sum_eq_zero fun k _ => by rw [hd, mul_zero]
    rw [hw, mul_zero, hd, hD]
    simp
  · unfold Ideal.div
    rw [if_neg hw, mul_assoc, sub_mul_real _ _ h0 ht]
    congr 2
    · unfold dp; ac_rfl
    · generalize X.vs k * X.os q = w at *
      lift w to ℝ using ⟨ht, fun hb => by simp [hb] at h0⟩
      have hw' : w ≠ 0 := by exact_mod_cast hw
      rw [mul_assoc, ← EReal.coe_inv, ← EReal.coe_mul, inv_mul_cancel₀ hw', EReal.coe_one, mul_one]

theorem dq_eq (q : Fin 1024) (d : Fin 64) :
    (∑ k, (X.k k d * (X.ks k * X.vs k)) * X.u q k) * (((1 / 8 : ℝ) : EReal) * X.os q) = X.dq q d := by
  have h8 : (0 : EReal) ≤ ((1 / 8 : ℝ) : EReal) := EReal.coe_nonneg.mpr (by norm_num)
  unfold dq
  rw [mul_sum_real _ _ h8 (EReal.coe_ne_top _), sum_mul_real _ _ (mul_nonneg h8 (h.os0 q)) (mul_ne_top' h8 (EReal.coe_ne_top _) (h.os0 q) (h.ost q))]
  refine Finset.sum_congr rfl fun k _ => ?_
  rw [← u_mul h]
  ac_rfl

theorem dk_eq (k : Fin 1024) (d : Fin 64) :
    (∑ q, X.u q k * (X.q q d * (X.qs q * X.os q))) * (((1 / 8 : ℝ) : EReal) * X.vs k) = X.dk k d := by
  have h8 : (0 : EReal) ≤ ((1 / 8 : ℝ) : EReal) := EReal.coe_nonneg.mpr (by norm_num)
  unfold dk
  rw [mul_sum_real _ _ h8 (EReal.coe_ne_top _), sum_mul_real _ _ (mul_nonneg h8 (h.vs0 k).le) (mul_ne_top' h8 (EReal.coe_ne_top _) (h.vs0 k).le (h.vst k))]
  refine Finset.sum_congr rfl fun q _ => ?_
  rw [← u_mul h]
  ac_rfl

end Data

end Cert.Attn

end
-- ==== Proof.Ops.lean ====
module

public import proofs.«01_k».proof.Proof.SpecBody
public import proofs.«01_k».proof.Proof.Attn
public import Idealize.ShloMosaic.Lib.Pointwise
public import Idealize.ShloMosaic.Lib.IdealHost

@[expose] public section

/-! # The kernel's tile operations over the extended reals

What each operation of the body is at one element. -/

noncomputable section

namespace Cert.KernelIdeal.Folded

open Idealize.ShloMosaic hiding ix1 ix2 ix3 ix4 ix5
open Idealize.ShloMosaic.TcCoe Idealize.ShloMosaic.Tactic
open Cert.KernelIdeal Cert.KernelIdeal.Gen Cert.Attn
open VecWindow ValueIdx

abbrev I := Idealize.ShloMosaic.Ideal

/-- Row `8 i + a` of a tile. -/
def row16 (i : Fin 16) (a : Fin 8) : Fin 128 := ⟨i.val * 8 + a.val, by omega⟩
/-- Token `r` of block `j`. -/
def tok (j : Fin 8) (r : Fin 128) : Fin 1024 := ⟨128 * j.val + r.val, by omega⟩
/-- Token `l` of the two blocks of pair `n`. -/
def tok2 (t : Fin 2) (l : Fin 128) : Fin 256 := ⟨128 * t.val + l.val, by omega⟩

theorem sum_row16 (f : Fin 128 → EReal) : ∑ a, ∑ i, f (row16 i a) = ∑ r, f r := by
  rw [Finset.sum_comm, ← Fintype.sum_prod_type' (f := fun i a => f (row16 i a))]
  refine Fintype.sum_equiv (finProdFinEquiv (m := 16) (n := 8)) _ _ fun x => congrArg f (Fin.ext ?_)
  show x.1.val * 8 + x.2.val = x.2.val + 8 * x.1.val
  omega

theorem sum_tok (f : Fin 1024 → EReal) : ∑ j, ∑ r, f (tok j r) = ∑ k, f k := by
  rw [← Fintype.sum_prod_type' (f := fun i a => f (tok i a))]
  refine Fintype.sum_equiv (finProdFinEquiv (m := 8) (n := 128)) _ _ fun x => congrArg f (Fin.ext ?_)
  show 128 * x.1.val + x.2.val = x.2.val + 128 * x.1.val
  omega

theorem tok_surj (k : Fin 1024) : ∃ j r, k = tok j r :=
  ⟨⟨k.val / 128, by omega⟩, ⟨k.val % 128, by omega⟩, Fin.ext (by show k.val = 128 * (k.val / 128) + k.val % 128; omega)⟩

theorem row16_surj (r : Fin 128) : ∃ i a, r = row16 i a :=
  ⟨⟨r.val / 8, by omega⟩, ⟨r.val % 8, by omega⟩, Fin.ext (by show r.val = r.val / 8 * 8 + r.val % 8; omega)⟩

theorem ofBits_ninf_f32 : Ideal.ofBits .f32 0xFF800000#32 = ⊥ := by simp [Ideal.ofBits, Ideal.ieee]
theorem ofBits_eighth_f32 : Ideal.ofBits .f32 0x3E000000#32 = ((1 / 8 : ℝ) : EReal) := by
  simp [Ideal.ofBits, Ideal.ieee]
  norm_num [zpow_neg]
  rw [← EReal.coe_mul]
  norm_num
theorem log2e_eq : Named.named (F := I) (φ := .f32) κ "log2e" 0x3FB8AA3B#32 = ((L : ℝ) : EReal) :=
  IdealRules.named_const.ideal_named_scalar κ "log2e" _ _ rfl
theorem sm_log2e_eq : Named.named (F := I) (φ := .f32) κ "sm_log2e" 0x3E38AA3B#32 = ((1 / 8 * L : ℝ) : EReal) :=
  IdealRules.named_const.ideal_named_scalar κ "sm_log2e" _ _ rfl

/-! ## Reductions -/

theorem max8_apply (x : FVec I S128x128 .f32) (a : Fin 8) (l : Fin 128) :
    max8 x (ix2 a l) = Finset.univ.fold max (⊥ : EReal) fun i => x (ix2 (row16 i a) l) := by
  unfold max8
  pointwise
  simp only [ix2_eq_valueIdx, ofBits_ninf_f32]; rfl

theorem sum8_apply (x : FVec I S128x128 .f32) (a : Fin 8) (l : Fin 128) : sum8 x (ix2 a l) = ∑ i, x (ix2 (row16 i a) l) := by
  unfold sum8
  pointwise
  simp only [ix2_eq_valueIdx]; rfl

theorem max1_apply (x : FVec I S8x128 .f32) (l : Fin 128) :
    max1 x (ix2 0 l) = Finset.univ.fold max (⊥ : EReal) fun a => x (ix2 a l) := by
  unfold max1
  pointwise
  simp only [ix2_eq_valueIdx, ofBits_ninf_f32]

theorem sum1_apply (x : FVec I S8x128 .f32) (l : Fin 128) : sum1 x (ix2 0 l) = ∑ a, x (ix2 a l) := by
  unfold sum1
  pointwise
  simp only [ix2_eq_valueIdx]

theorem rows_apply (x : FVec I S1x128 .f32) (r l : Fin 128) : rows x (ix2 r l) = x (ix2 0 l) := by
  unfold rows
  pointwise
  simp only [ix2_eq_valueIdx]

theorem same_eq {e : FTy} (x : FVec I S128x128 e) : same x = x := by
  unfold same
  pointwise

/-- The sum of a tile's column. -/
theorem sum1_sum8 (x : FVec I S128x128 .f32) (l : Fin 128) : sum1 (sum8 x) (ix2 0 l) = ∑ r, x (ix2 r l) := by
  rw [sum1_apply, ← sum_row16]
  exact Finset.sum_congr rfl fun a _ => sum8_apply x a l

theorem max8_le (x : FVec I S128x128 .f32) (a : Fin 8) (l : Fin 128) (c : EReal) :
    max8 x (ix2 a l) ≤ c ↔ ∀ i, x (ix2 (row16 i a) l) ≤ c := by
  rw [max8_apply, Finset.fold_max_le]
  simp

theorem max8_mem (x : FVec I S128x128 .f32) (a : Fin 8) (l : Fin 128) : ∃ i, max8 x (ix2 a l) = x (ix2 (row16 i a) l) := by
  rw [max8_apply]
  obtain ⟨i, -, h⟩ := Finset.exists_mem_eq_sup (Finset.univ : Finset (Fin 16)) ⟨0, Finset.mem_univ _⟩ fun i => (x (ix2 (row16 i a) l) : EReal)
  exact ⟨i, h⟩

theorem max1_le (x : FVec I S8x128 .f32) (l : Fin 128) (c : EReal) : max1 x (ix2 0 l) ≤ c ↔ ∀ a, x (ix2 a l) ≤ c := by
  rw [max1_apply, Finset.fold_max_le]
  simp

/-! ## Matrix products and scaled operands -/

theorem pay66_apply (k : Vec I S1x1x1024x64 .fp8e4m3) (q : Vec I S1x1x256x64 .fp8e4m3) (r : Fin 1024) (l : Fin 256) :
    k0_pay66 k q (ix2 r l) = ∑ d : Fin 64, (k (ix4 0 0 r d) : EReal) * q (ix4 0 0 l d) := by
  unfold k0_pay66
  pointwise
  simp only [ix4_eq_valueIdx]

theorem pay67_apply (v : Vec I S1x1x1024x64 .fp8e4m3) (o : Vec I S1x1x256x64 .fp8e5m2) (r : Fin 1024) (l : Fin 256) :
    k0_pay67 v o (ix2 r l) = ∑ d : Fin 64, (v (ix4 0 0 r d) : EReal) * o (ix4 0 0 l d) := by
  unfold k0_pay67
  pointwise
  simp only [ix4_eq_valueIdx]

theorem pay244_apply (k : Vec I S64x1024 .bf16) (u : Vec I S1024x256 .bf16) (d : Fin 64) (l : Fin 256) :
    k0_pay244 k u (ix2 d l) = ∑ j : Fin 1024, (k (ix2 d j) : EReal) * u (ix2 j l) := by
  unfold k0_pay244
  pointwise
  simp only [ix2_eq_valueIdx]

theorem pay848_apply (p : Vec I S128x1024 .bf16) (o : Vec I S1024x64 .bf16) (r : Fin 128) (d : Fin 64) :
    k0_pay848 p o (ix4 0 0 r d) = ∑ q : Fin 1024, (p (ix2 r q) : EReal) * o (ix2 q d) := by
  unfold k0_pay848
  pointwise
  simp only [ix2_eq_valueIdx]

theorem pay849_apply (p : Vec I S128x1024 .bf16) (o : Vec I S1024x64 .bf16) (w : EReal) (r : Fin 128) (d : Fin 64) :
    k0_pay849 (F := I) p o w (ix4 0 0 r d) = (∑ q : Fin 1024, (p (ix2 r q) : EReal) * o (ix2 q d)) * (((1 / 8 : ℝ) : EReal) * w) := by
  unfold k0_pay849
  pointwise
  simp only [ix2_eq_valueIdx, ofBits_eighth_f32]

theorem pay30_apply (k : Vec I S1x1x128x64 .fp8e4m3) (a b : EReal) (d : Fin 64) (r : Fin 128) :
    k0_pay30 (F := I) k a b (ix2 d r) = k (ix4 0 0 r d) * (a * b) := by
  unfold k0_pay30
  pointwise
  simp only [ix4_eq_valueIdx]

theorem pay32_apply (q : Vec I S1x1x128x64 .fp8e4m3) (a b : EReal) (r : Fin 128) (d : Fin 64) :
    k0_pay32 (F := I) (k0_pay31 q) a b (ix2 r d) = q (ix4 0 0 r d) * (a * b) := by
  unfold k0_pay32 k0_pay31
  pointwise
  simp only [ix4_eq_valueIdx]

theorem pay33_apply (o : Vec I S1x1x128x64 .fp8e5m2) (a : EReal) (r : Fin 128) (d : Fin 64) :
    k0_pay33 (F := I) o a (ix2 r d) = o (ix4 0 0 r d) * a := by
  unfold k0_pay33
  pointwise
  simp only [ix4_eq_valueIdx]

theorem dqTile_apply (kT : FVec I S64x1024 .bf16) (u : FVec I S1024x256 .bf16) (t : Fin 2) (w : EReal) (l : Fin 128) (d : Fin 64) :
    dqTile (F := I) kT u t w (ix4 0 0 l d) = (∑ j : Fin 1024, (kT (ix2 d j) : EReal) * u (ix2 j (tok2 t l))) * (((1 / 8 : ℝ) : EReal) * w) := by
  unfold dqTile
  rw [← pay244_apply]
  pointwise
  simp only [ix2_eq_valueIdx, ofBits_eighth_f32]; rfl

/-! ## Windows -/

theorem tS_apply {α : Type} (x : S1024x256.Idx → α) (kb : Fin 8) (t : Fin 2) (r l : Fin 128) :
    tS x kb t (ix2 r l) = x (ix2 (tok kb r) (tok2 t l)) := by
  refine congrArg x (funext fun a => Fin.ext ?_)
  fin_cases a
  · show 128 * kb.val + 1 * r.val = 128 * kb.val + r.val; omega
  · show 128 * t.val + 1 * l.val = 128 * t.val + l.val; omega

theorem tB_apply {α : Type} (x : S1x1x1024x64.Idx → α) (j : Fin 8) (r : Fin 128) (d : Fin 64) :
    tB x j (ix4 0 0 r d) = x (ix4 0 0 (tok j r) d) := by
  refine congrArg x (funext fun a => Fin.ext ?_)
  fin_cases a
  · rfl
  · rfl
  · show 128 * j.val + 1 * r.val = 128 * j.val + r.val; omega
  · show 0 + 1 * d.val = d.val; omega

theorem tW_apply {α : Type} (x : S1x1x1024x64.Idx → α) (n : Fin 4) (t : Fin 2) (l : Fin 128) (d : Fin 64) :
    tW x n (ix4 0 0 (tok2 t l) d) = x (ix4 0 0 (tok (qb n t) l) d) := by
  refine congrArg x (funext fun a => Fin.ext ?_)
  fin_cases a
  · rfl
  · rfl
  · show 256 * n.val + 1 * (128 * t.val + l.val) = 128 * (2 * n.val + t.val) + l.val; omega
  · show 0 + 1 * d.val = d.val; omega

theorem rowsOf_apply {α : Type} (x : S1024x1024.Idx → α) (kb : Fin 8) (r : Fin 128) (q : Fin 1024) :
    window x ![128 * kb.val, 0] S128x1024.size (lIn kb) (ix2 r q) = x (ix2 (tok kb r) q) := by
  refine congrArg x (funext fun a => Fin.ext ?_)
  fin_cases a
  · show 128 * kb.val + 1 * r.val = 128 * kb.val + r.val; omega
  · show 0 + 1 * q.val = q.val; omega

/-! ## Wholes -/

theorem asmB_apply {α : Type} (T : Fin 8 → S1x1x128x64.Idx → α) (j : Fin 8) (r : Fin 128) (d : Fin 64) :
    asmB T (ix4 0 0 (tok j r) d) = T j (ix4 0 0 r d) := by
  have h1 : (tok j r).val / 128 = j.val := by show (128 * j.val + r.val) / 128 = _; omega
  have h2 : (tok j r).val % 128 = r.val := by show (128 * j.val + r.val) % 128 = _; omega
  exact congrArg₂ T (Fin.ext h1) (congrArg (fun z => ix4 0 0 z d) (Fin.ext h2))

theorem asmR_apply {α : Type} (T : Fin 8 → S128x64.Idx → α) (j : Fin 8) (r : Fin 128) (d : Fin 64) :
    asmR T (ix2 (tok j r) d) = T j (ix2 r d) := by
  have h1 : (tok j r).val / 128 = j.val := by show (128 * j.val + r.val) / 128 = _; omega
  have h2 : (tok j r).val % 128 = r.val := by show (128 * j.val + r.val) % 128 = _; omega
  exact congrArg₂ T (Fin.ext h1) (congrArg (fun z => ix2 z d) (Fin.ext h2))

theorem asmC_apply {α : Type} (T : Fin 8 → S64x128.Idx → α) (j : Fin 8) (r : Fin 128) (d : Fin 64) :
    asmC T (ix2 d (tok j r)) = T j (ix2 d r) := by
  have h1 : (tok j r).val / 128 = j.val := by show (128 * j.val + r.val) / 128 = _; omega
  have h2 : (tok j r).val % 128 = r.val := by show (128 * j.val + r.val) % 128 = _; omega
  exact congrArg₂ T (Fin.ext h1) (congrArg (fun z => ix2 d z) (Fin.ext h2))

theorem asmW_apply {α : Type} (T : Fin 2 → Fin 8 → S128x128.Idx → α) (t : Fin 2) (kb : Fin 8) (r l : Fin 128) :
    asmW T (ix2 (tok kb r) (tok2 t l)) = T t kb (ix2 r l) := by
  have h1 : (tok kb r).val / 128 = kb.val := by show (128 * kb.val + r.val) / 128 = _; omega
  have h2 : (tok kb r).val % 128 = r.val := by show (128 * kb.val + r.val) % 128 = _; omega
  have h3 : (tok2 t l).val / 128 = t.val := by show (128 * t.val + l.val) / 128 = _; omega
  have h4 : (tok2 t l).val % 128 = l.val := by show (128 * t.val + l.val) % 128 = _; omega
  show T ⟨(tok2 t l).val / 128, _⟩ ⟨(tok kb r).val / 128, _⟩ (ix2 ⟨(tok kb r).val % 128, _⟩ ⟨(tok2 t l).val % 128, _⟩) = _
  simp only [h1, h2, h3, h4]

theorem asmP_apply {α : Type} (T : Fin 4 → Fin 2 → Fin 8 → S128x128.Idx → α) (n : Fin 4) (t : Fin 2) (kb : Fin 8) (r l : Fin 128) :
    asmP T (ix2 (tok kb r) (tok (qb n t) l)) = T n t kb (ix2 r l) := by
  have h1 : (tok kb r).val / 128 = kb.val := by show (128 * kb.val + r.val) / 128 = _; omega
  have h2 : (tok kb r).val % 128 = r.val := by show (128 * kb.val + r.val) % 128 = _; omega
  have h3 : (tok (qb n t) l).val / 256 = n.val := by show (128 * (2 * n.val + t.val) + l.val) / 256 = _; omega
  have h5 : (tok (qb n t) l).val / 128 % 2 = t.val := by show (128 * (2 * n.val + t.val) + l.val) / 128 % 2 = _; omega
  have h4 : (tok (qb n t) l).val % 128 = l.val := by show (128 * (2 * n.val + t.val) + l.val) % 128 = _; omega
  show T ⟨(tok (qb n t) l).val / 256, _⟩ ⟨(tok (qb n t) l).val / 128 % 2, _⟩ ⟨(tok kb r).val / 128, _⟩ (ix2 ⟨(tok kb r).val % 128, _⟩ ⟨(tok (qb n t) l).val % 128, _⟩) = _
  simp only [h1, h2, h3, h4, h5]

end Cert.KernelIdeal.Folded
end
-- ==== Proof.KVal.lean ====
module

public import proofs.«01_k».proof.Proof.Ops

@[expose] public section

/-! # The body's results over the extended reals

What the body leaves at a grid point, as the gradients of the head's data. -/

noncomputable section

namespace Cert.KernelIdeal.Folded

open Idealize.ShloMosaic hiding ix1 ix2 ix3 ix4 ix5
open Idealize.ShloMosaic.TcCoe Idealize.ShloMosaic.Tactic
open Cert.KernelIdeal Cert.KernelIdeal.Gen Cert.Attn
open VecWindow ValueIdx

/-- The point's inputs and the bias strip hold the head's data. -/
structure Rel (i : grid0.Coords) (X : Inp I) (bv : FVec I S128x512 .f32) (A : Attn.Data) : Prop where
  q : ∀ t d, X.q (ix4 0 0 t d) = A.q t d
  k : ∀ t d, X.k (ix4 0 0 t d) = A.k t d
  v : ∀ t d, X.v (ix4 0 0 t d) = A.v t d
  o : ∀ t d, X.o (ix4 0 0 t d) = A.o t d
  qs : ∀ j r, qsv i X j = A.qs (tok j r)
  ks : ∀ j r, ksv i X j = A.ks (tok j r)
  vs : ∀ j r, vsv i X j = A.vs (tok j r)
  os : ∀ j r, dosv i X j = A.os (tok j r)
  nr : ∀ kb q : Fin 8, near kb q → ∀ r l, tG bv kb q (ix2 r l) = A.b' (tok q l) (tok kb r)
  lo : ∀ kb q : Fin 8, ¬near kb q → kb.val < q.val → ∀ r l, blo i X = A.b' (tok q l) (tok kb r)
  hi : ∀ kb q : Fin 8, ¬near kb q → ¬kb.val < q.val → ∀ r l, bhi i X = A.b' (tok q l) (tok kb r)

variable {i : grid0.Coords} {X : Inp I} {bv : FVec I S128x512 .f32} {A : Attn.Data} (h : Rel i X bv A)
include h

variable (n : Fin 4) (t : Fin 2) (kb : Fin 8) (r l : Fin 128)

theorem sM_apply : tS (sM X n) kb t (ix2 r l) = A.raw (tok (qb n t) l) (tok kb r) := by
  rw [tS_apply, sM, pay66_apply, Attn.Data.raw]
  refine Finset.sum_congr rfl fun d _ => ?_
  rw [tW_apply, h.k, h.q]
  exact mul_comm _ _

theorem dM_apply : tS (dM X n) kb t (ix2 r l) = A.rawd (tok (qb n t) l) (tok kb r) := by
  rw [tS_apply, dM, pay67_apply, Attn.Data.rawd]
  refine Finset.sum_congr rfl fun d _ => ?_
  rw [tW_apply, h.v, h.o]
  exact mul_comm _ _

/-- The factor of a score. -/
theorem cq_apply : Scalar.mulf (cqv i X n t) (ksv i X kb) = A.c (tok (qb n t) l) (tok kb r) := by
  show (qsv i X (qb n t) * Named.named (F := I) (φ := .f32) κ "sm_log2e" 0x3E38AA3B#32 : EReal) * ksv i X kb = _
  rw [sm_log2e_eq, h.qs _ l, h.ks _ r]; rfl

theorem nearX_apply (hn : near kb (qb n t)) :
    nearX (cqv i X n t) (ksv i X kb) (tS (sM X n) kb t) (tG bv kb (qb n t)) (ix2 r l) = A.s' (tok (qb n t) l) (tok kb r) := by
  show (tS (sM X n) kb t (ix2 r l) * Scalar.mulf (cqv i X n t) (ksv i X kb) + tG bv kb (qb n t) (ix2 r l) : EReal) = _
  rw [sM_apply h, cq_apply h n t kb r l, h.nr kb _ hn]; rfl

/-- The far bias of a tile. -/
theorem far_apply (hn : ¬near kb (qb n t)) :
    (if kb.val < (qb n t).val then blo i X else bhi i X) = A.b' (tok (qb n t) l) (tok kb r) := by
  split
  · exact h.lo kb _ hn ‹_› r l
  · exact h.hi kb _ hn ‹_› r l

variable (hA : A.Ok)
include hA

theorem mStep_le (m : FVec I S8x128 .f32) (a : Fin 8) (c : EReal) :
    mStep i X bv n t kb m (ix2 a l) ≤ c ↔ m (ix2 a l) ≤ c ∧ ∀ j, A.s' (tok (qb n t) l) (tok kb (row16 j a)) ≤ c := by
  unfold mStep
  split
  · rename_i hn
    show max (m (ix2 a l) : EReal) (max8 _ (ix2 a l)) ≤ c ↔ _
    rw [max_le_iff, max8_le]
    simp only [nearX_apply h n t kb _ l hn]
  · rename_i hn
    show max (m (ix2 a l) : EReal) (max8 (tS (sM X n) kb t) (ix2 a l) * Scalar.mulf (cqv i X n t) (ksv i X kb)
      + (if kb.val < (qb n t).val then blo i X else bhi i X)) ≤ c ↔ _
    rw [max_le_iff]
    have hj : ∀ j, A.s' (tok (qb n t) l) (tok kb (row16 j a))
        = tS (sM X n) kb t (ix2 (row16 j a) l) * Scalar.mulf (cqv i X n t) (ksv i X kb) + (if kb.val < (qb n t).val then blo i X else bhi i X) := fun j => by
      rw [sM_apply h, cq_apply h n t kb (row16 j a) l, far_apply h n t kb (row16 j a) l hn]; rfl
    have hc : (0 : EReal) ≤ Scalar.mulf (cqv i X n t) (ksv i X kb) := by
      rw [cq_apply h n t kb 0 l]; exact Attn.Data.c_nonneg hA _ _
    refine and_congr_right fun _ => ⟨fun hm j => ?_, fun hm => ?_⟩
    · rw [hj]
      refine le_trans (add_le_add_left (mul_le_mul_of_nonneg_right ?_ hc) _) hm
      exact (max8_le _ a l _).mp le_rfl j
    · obtain ⟨j, hj'⟩ := max8_mem (tS (sM X n) kb t) a l
      rw [hj', ← hj]
      exact hm j

theorem m8_le (a : Fin 8) (c : EReal) :
    m8 i X bv n t (ix2 a l) ≤ c ↔ ∀ kb j, A.s' (tok (qb n t) l) (tok kb (row16 j a)) ≤ c := by
  have key : ∀ N, N ≤ 8 → (foldTo (mStep i X bv n t) (broadcast S8x128 (Scalar.ofBits .f32 0xFF800000#32)) N (ix2 a l) ≤ c
      ↔ ∀ kb : Fin 8, kb.val < N → ∀ j, A.s' (tok (qb n t) l) (tok kb (row16 j a)) ≤ c) := by
    intro N
    induction N with
    | zero =>
      intro _
      have : (broadcast S8x128 (Scalar.ofBits .f32 0xFF800000#32) : FVec I S8x128 .f32) (ix2 a l) = (⊥ : EReal) := ofBits_ninf_f32
      simp only [foldTo]
      rw [this]
      simp
    | succ N ih =>
      intro hN
      rw [foldTo_succ (mStep i X bv n t) _ ⟨N, by omega⟩, mStep_le h n t ⟨N, by omega⟩ l hA, ih (by omega)]
      constructor
      · rintro ⟨h1, h2⟩ kb hk j
        rcases Nat.lt_succ_iff_lt_or_eq.mp hk with hk | hk
        · exact h1 kb hk j
        · rw [show kb = ⟨N, by omega⟩ from Fin.ext hk]
          exact h2 j
      · intro hh
        exact ⟨fun kb hk => hh kb (by omega), hh ⟨N, by omega⟩ (Nat.lt_succ_self N)⟩
  unfold m8
  rw [key 8 le_rfl]
  exact ⟨fun hh kb => hh kb kb.isLt, fun hh kb _ => hh kb⟩

theorem m_apply : max1 (m8 i X bv n t) (ix2 0 l) = A.M' (tok (qb n t) l) := by
  refine eq_of_forall_ge_iff fun c => ?_
  rw [max1_le]
  unfold Attn.Data.M'
  rw [iSup_le_iff]
  simp only [m8_le h n t l hA]
  constructor
  · intro hh k
    obtain ⟨j, r, rfl⟩ := tok_surj k
    obtain ⟨i, a, rfl⟩ := row16_surj r
    exact hh a j i
  · exact fun hh a j i => hh _

theorem eT_apply : eT i X bv n t kb (ix2 r l) = A.e (tok (qb n t) l) (tok kb r) := by
  unfold eT cx
  split
  · rename_i hn
    show Ideal.exp2 (same (F := I) _ (ix2 r l) - rows (F := I) _ (ix2 r l)) = _
    rw [same_eq, nearX_apply h n t kb r l hn, rows_apply, m_apply h n t l hA, Attn.Data.near_eq]
  · rename_i hn
    have hb := far_apply h n t kb r l hn
    have hm : rows (if kb.val < (qb n t).val then subf (max1 (m8 i X bv n t)) (broadcast S1x128 (blo i X))
        else subf (max1 (m8 i X bv n t)) (broadcast S1x128 (bhi i X))) (ix2 r l) = A.M' (tok (qb n t) l) - A.b' (tok (qb n t) l) (tok kb r) := by
      rw [rows_apply, ← hb, ← m_apply h n t l hA]
      split <;> rfl
    show Ideal.exp2 (tS (sM X n) kb t (ix2 r l) * Scalar.mulf (cqv i X n t) (ksv i X kb) - rows (F := I) _ (ix2 r l)) = _
    rw [hm, sM_apply h, cq_apply h n t kb r l, Attn.Data.far_eq hA]

/-! ## Sums -/

omit h hA in
theorem sum1_add (x y : FVec I S8x128 .f32) (l : Fin 128) : sum1 (addf x y) (ix2 0 l) = (sum1 x (ix2 0 l) + sum1 y (ix2 0 l) : EReal) := by
  rw [sum1_apply, sum1_apply, sum1_apply, ← Finset.sum_add_distrib]; rfl

/-- The total of one side's exponentials, and of its weighted products. -/
def v1 (o : Acc I) (l : Fin 128) : EReal := match o with | none => 0 | some (e, _) => sum1 e (ix2 0 l)
@[inherit_doc v1] def v2 (o : Acc I) (l : Fin 128) : EReal := match o with | none => 0 | some (_, a) => sum1 a (ix2 0 l)
/-- The totals of the three sides. -/
def w1 (s : Accs I) (l : Fin 128) : EReal := v1 s.lo l + v1 s.mid l + v1 s.hi l
@[inherit_doc w1] def w2 (s : Accs I) (l : Fin 128) : EReal := v2 s.lo l + v2 s.mid l + v2 s.hi l

omit h hA in
theorem v1_add (o : Acc I) (e a : FVec I S8x128 .f32) (l : Fin 128) : v1 (accAdd o e a) l = v1 o l + sum1 e (ix2 0 l) := by
  rcases o with _ | ⟨x, y⟩
  · exact (zero_add _).symm
  · exact sum1_add x e l
omit h hA in
theorem v2_add (o : Acc I) (e a : FVec I S8x128 .f32) (l : Fin 128) : v2 (accAdd o e a) l = v2 o l + sum1 a (ix2 0 l) := by
  rcases o with _ | ⟨x, y⟩
  · exact (zero_add _).symm
  · exact sum1_add y a l

omit h hA in
theorem tot1_apply (s : Accs I) (l : Fin 128) : tot1 (tot1 (tot1 zero1 s.lo) s.mid) s.hi (ix2 0 l) = w1 s l := by
  have hz : zero1 (F := I) (ix2 0 l) = (0 : EReal) := Ideal.ofBits_zero_f32
  have ht : ∀ (x : FVec I S1x128 .f32) o, tot1 x o (ix2 0 l) = (x (ix2 0 l) + v1 o l : EReal) := by
    rintro x (_ | ⟨e, a⟩)
    · exact (add_zero _).symm
    · rfl
  rw [ht, ht, ht, hz, zero_add]; rfl
omit h hA in
theorem tot2_apply (s : Accs I) (l : Fin 128) : tot2 (tot2 (tot2 zero1 s.lo) s.mid) s.hi (ix2 0 l) = w2 s l := by
  have hz : zero1 (F := I) (ix2 0 l) = (0 : EReal) := Ideal.ofBits_zero_f32
  have ht : ∀ (x : FVec I S1x128 .f32) o, tot2 x o (ix2 0 l) = (x (ix2 0 l) + v2 o l : EReal) := by
    rintro x (_ | ⟨e, a⟩)
    · exact (add_zero _).symm
    · rfl
  rw [ht, ht, ht, hz, zero_add]; rfl

omit h hA in
theorem accStep_w (s : Accs I) :
    w1 (accStep i X bv n t kb s) l = w1 s l + sum1 (sum8 (eT i X bv n t kb)) (ix2 0 l)
    ∧ w2 (accStep i X bv n t kb s) l = w2 s l + sum1 (aT i X bv n t kb) (ix2 0 l) := by
  unfold accStep
  split
  · unfold w1 w2
    simp only [v1_add, v2_add]
    exact ⟨by ac_rfl, by ac_rfl⟩
  · split
    · unfold w1 w2
      simp only [v1_add, v2_add]
      exact ⟨by ac_rfl, by ac_rfl⟩
    · unfold w1 w2
      simp only [v1_add, v2_add]
      exact ⟨by ac_rfl, by ac_rfl⟩

omit h hA in
/-- A quantity that each step raises by a term is the sum of the terms. -/
theorem foldTo_sum {α : Type} (f : Fin 8 → α → α) (a : α) (w : α → EReal) (g : Fin 8 → EReal) (h0 : w a = 0)
    (hf : ∀ kb s, w (f kb s) = w s + g kb) : w (foldTo f a 8) = ∑ kb, g kb := by
  have e : ∀ j : Fin 8, w (foldTo f a (j.val + 1)) = w (foldTo f a j.val) + g j := fun j => by rw [foldTo_succ, hf]
  rw [Fin.sum_univ_eight]
  have h7 := e 7; have h6 := e 6; have h5 := e 5; have h4 := e 4; have h3 := e 3; have h2 := e 2; have h1 := e 1; have hh := e 0
  simp only [Fin.val_zero, Fin.val_one, Fin.val_two] at *
  rw [show w (foldTo f a 8) = _ from h7]
  rw [show w (foldTo f a ((7 : Fin 8).val)) = _ from h6, show w (foldTo f a ((6 : Fin 8).val)) = _ from h5,
    show w (foldTo f a ((5 : Fin 8).val)) = _ from h4, show w (foldTo f a ((4 : Fin 8).val)) = _ from h3,
    show w (foldTo f a ((3 : Fin 8).val)) = _ from h2, show w (foldTo f a 2) = _ from h1, show w (foldTo f a 1) = _ from hh,
    show w (foldTo f a 0) = 0 from h0, zero_add]

theorem Z_apply : w1 (accs i X bv n t) l = A.Z (tok (qb n t) l) := by
  unfold accs
  rw [foldTo_sum _ _ (fun s => w1 s l) _ (by show (0 + 0 + 0 : EReal) = 0; simp) fun kb s => (accStep_w n t kb l s).1]
  unfold Attn.Data.Z
  rw [← sum_tok]
  refine Finset.sum_congr rfl fun kb _ => ?_
  rw [sum1_sum8]
  exact Finset.sum_congr rfl fun r _ => eT_apply h n t kb r l hA

theorem aT_sum : sum1 (aT i X bv n t kb) (ix2 0 l)
    = ∑ r, (A.e (tok (qb n t) l) (tok kb r) * A.rawd (tok (qb n t) l) (tok kb r)) * (A.vs (tok kb r) * A.os (tok (qb n t) l)) := by
  have hw : ∀ r, (vsv i X kb * dosv i X (qb n t) : EReal) = A.vs (tok kb r) * A.os (tok (qb n t) l) := fun r => by
    rw [h.vs _ r, h.os _ l]
  have h0 : (0 : EReal) ≤ vsv i X kb * dosv i X (qb n t) := by
    rw [hw 0]; exact mul_nonneg (hA.vs0 _).le (hA.os0 _)
  have ht : (vsv i X kb * dosv i X (qb n t) : EReal) ≠ ⊤ := by
    rw [hw 0]; exact mul_ne_top' (hA.vs0 _).le (hA.vst _) (hA.os0 _) (hA.ost _)
  have e1 : ∀ a, aT i X bv n t kb (ix2 a l)
      = sum8 (mulf (eT i X bv n t kb) (tS (dM X n) kb t)) (ix2 a l) * (vsv i X kb * dosv i X (qb n t) : EReal) := fun a => rfl
  rw [sum1_apply]
  simp only [e1]
  rw [← sum_mul_real _ _ h0 ht, ← sum1_apply, sum1_sum8, sum_mul_real _ _ h0 ht]
  refine Finset.sum_congr rfl fun r _ => ?_
  rw [hw r]
  show (eT i X bv n t kb (ix2 r l) * tS (dM X n) kb t (ix2 r l) : EReal) * _ = _
  rw [eT_apply h n t kb r l hA, dM_apply h]

theorem rl_apply : rlOf (accs i X bv n t) (ix2 0 l) = Ideal.div 1 (A.Z (tok (qb n t) l)) := by
  show Ideal.div (Ideal.ofBits .f32 0x3F800000#32) (tot1 (F := I) _ _ (ix2 0 l)) = _
  rw [tot1_apply, Z_apply h n t l hA, Ideal.ofBits_one_f32]

theorem drow_apply : drowOf (accs i X bv n t) (ix2 0 l) = A.D' (tok (qb n t) l) := by
  show (tot2 (F := I) _ _ (ix2 0 l) * rlOf (F := I) _ (ix2 0 l) : EReal) = _
  rw [tot2_apply, rl_apply h n t l hA]
  unfold Attn.Data.D' accs
  rw [foldTo_sum _ _ (fun s => w2 s l) _ (by show (0 + 0 + 0 : EReal) = 0; simp) fun kb s => (accStep_w n t kb l s).2, ← sum_tok]
  congr 1
  exact Finset.sum_congr rfl fun kb _ => aT_sum h n t kb l hA

/-! ## Tiles and wholes -/

theorem pT_apply : pT i X bv n t kb (ix2 r l) = A.P (tok (qb n t) l) (tok kb r) := by
  unfold pT rnd
  rw [same_eq, same_eq]
  show (eT i X bv n t kb (ix2 r l) * rows (F := I) _ (ix2 r l) : EReal) = _
  rw [eT_apply h n t kb r l hA, rows_apply, rl_apply h n t l hA]; rfl

theorem uT_apply : uT i X bv n t kb (ix2 r l) = A.u (tok (qb n t) l) (tok kb r) := by
  unfold uT uF rnd
  rw [same_eq, same_eq]
  show ((eT i X bv n t kb (ix2 r l) * rows (F := I) _ (ix2 r l)) * (tS (dM X n) kb t (ix2 r l) - rows (F := I) _ (ix2 r l)) : EReal) = _
  rw [eT_apply h n t kb r l hA, rows_apply, rl_apply h n t l hA, dM_apply h, rows_apply]
  show (_ * (_ - Ideal.div (drowOf (F := I) _ (ix2 0 l)) (vsv i X kb * dosv i X (qb n t) : EReal)) : EReal) = _
  rw [drow_apply h n t l hA, h.vs _ r, h.os _ l]; rfl

omit h hA in
theorem qb_surj (q : Fin 8) : ∃ n t, q = qb n t :=
  ⟨⟨q.val / 2, by omega⟩, ⟨q.val % 2, by omega⟩, Fin.ext (by show q.val = 2 * (q.val / 2) + q.val % 2; omega)⟩

theorem pM_apply (k q : Fin 1024) : pM i X bv (ix2 k q) = A.P q k := by
  obtain ⟨kb, r, rfl⟩ := tok_surj k
  obtain ⟨j, l, rfl⟩ := tok_surj q
  obtain ⟨n, t, rfl⟩ := qb_surj j
  rw [pM, asmP_apply, pT_apply h n t kb r l hA]

theorem uM_apply (k q : Fin 1024) : uM i X bv (ix2 k q) = A.u q k := by
  obtain ⟨kb, r, rfl⟩ := tok_surj k
  obtain ⟨j, l, rfl⟩ := tok_surj q
  obtain ⟨n, t, rfl⟩ := qb_surj j
  rw [uM, asmP_apply, uT_apply h n t kb r l hA]

omit hA in
theorem kTv_apply (k : Fin 1024) (d : Fin 64) : kTv i X (ix2 d k) = A.k k d * (A.ks k * A.vs k) := by
  obtain ⟨j, r, rfl⟩ := tok_surj k
  rw [kTv, asmC_apply, pay30_apply, tB_apply, h.k, h.ks _ r, h.vs _ r]

omit hA in
theorem qqv_apply (q : Fin 1024) (d : Fin 64) : qqv i X (ix2 q d) = A.q q d * (A.qs q * A.os q) := by
  obtain ⟨j, r, rfl⟩ := tok_surj q
  rw [qqv, asmR_apply, pay32_apply, tB_apply, h.q, h.qs _ r, h.os _ r]

omit hA in
theorem oov_apply (q : Fin 1024) (d : Fin 64) : oov i X (ix2 q d) = A.o q d * A.os q := by
  obtain ⟨j, r, rfl⟩ := tok_surj q
  rw [oov, asmR_apply, pay33_apply, tB_apply, h.o, h.os _ r]

theorem dqV_apply (q : Fin 1024) (d : Fin 64) : dqV i X bv (ix4 0 0 q d) = A.dq q d := by
  obtain ⟨j, l, rfl⟩ := tok_surj q
  rw [dqV, asmB_apply, dqB, dqTile_apply, ← Attn.Data.dq_eq hA]
  have hj : qb ⟨j.val / 2, by omega⟩ ⟨j.val % 2, Nat.mod_lt _ (by decide)⟩ = j :=
    Fin.ext (by show 2 * (j.val / 2) + j.val % 2 = j.val; omega)
  rw [h.os _ l, hj]
  congr 1
  refine Finset.sum_congr rfl fun k _ => ?_
  obtain ⟨kb, r, rfl⟩ := tok_surj k
  rw [kTv_apply h, asmW_apply, uT_apply h _ _ kb r l hA, hj]

theorem dkV_apply (k : Fin 1024) (d : Fin 64) : dkV i X bv (ix4 0 0 k d) = A.dk k d := by
  obtain ⟨kb, r, rfl⟩ := tok_surj k
  rw [dkV, asmB_apply, pay849_apply, ← Attn.Data.dk_eq hA, h.vs _ r]
  congr 1
  refine Finset.sum_congr rfl fun q _ => ?_
  rw [rowsOf_apply, uM_apply h hA, qqv_apply h]

theorem dvV_apply (k : Fin 1024) (d : Fin 64) : dvV i X bv (ix4 0 0 k d) = A.dv k d := by
  obtain ⟨kb, r, rfl⟩ := tok_surj k
  rw [dvV, asmB_apply, pay848_apply, Attn.Data.dv]
  refine Finset.sum_congr rfl fun q _ => ?_
  rw [rowsOf_apply, pM_apply h hA, oov_apply h]

end Cert.KernelIdeal.Folded
end
-- ==== Proof.Bias.lean ====
module

public import proofs.«01_k».proof.Proof.KVal

@[expose] public section

/-! # The bias

The bucket of a key's place relative to a query's, and the strip of biases that the body builds for a head. -/

noncomputable section

namespace Cert.Attn

open Idealize.ShloMosaic hiding ix1 ix2 ix3 ix4 ix5

/-- How many of the thresholds a distance reaches. -/
def above (a : BitVec 32) : BitVec 32 :=
  IntOp.addi (IntOp.addi (IntOp.addi (IntOp.addi (IntOp.addi (IntOp.addi (IntOp.addi 0#32
    ((IntOp.cmpi .sge a 12#32).setWidth 32)) ((IntOp.cmpi .sge a 16#32).setWidth 32)) ((IntOp.cmpi .sge a 23#32).setWidth 32))
    ((IntOp.cmpi .sge a 32#32).setWidth 32)) ((IntOp.cmpi .sge a 46#32).setWidth 32)) ((IntOp.cmpi .sge a 64#32).setWidth 32))
    ((IntOp.cmpi .sge a 91#32).setWidth 32)

/-- The bucket of a key's place less a query's. -/
def bkt (rel : BitVec 32) : BitVec 32 :=
  IntOp.addi
    (if IntOp.cmpi .slt (IntOp.absi rel) 8#32 = 1 then IntOp.absi rel else IntOp.addi 8#32 (above (IntOp.absi rel)))
    (if IntOp.cmpi .sgt rel 0#32 = 1 then 16#32 else 0#32)

/-- The place of a key relative to a query. -/
def relOf (q k : Fin 1024) : BitVec 32 := IntOp.subi (BitVec.ofNat 32 k.val) (BitVec.ofNat 32 q.val)

/-- The entry of a table that a bucket names. -/
def biasOf (b : Fin 32 → EReal) (w : BitVec 32) : EReal := if h : w.toNat < 32 then b ⟨w.toNat, h⟩ else 0

theorem biasOf_ofNat (b : Fin 32 → EReal) (u : Fin 32) : biasOf b (BitVec.ofNat 32 u.val) = b u := by
  have h : (BitVec.ofNat 32 u.val).toNat = u.val := by
    rw [BitVec.toNat_ofNat]; exact Nat.mod_eq_of_lt (by omega)
  unfold biasOf
  rw [dif_pos (by rw [h]; exact u.isLt)]
  exact congrArg b (Fin.ext h)

theorem biasOf_ne (b : Fin 32 → EReal) (w : BitVec 32) (h : ∀ u : Fin 32, w ≠ BitVec.ofNat 32 u.val) : biasOf b w = 0 := by
  unfold biasOf
  split
  · rename_i hw
    exact absurd (by simp) (h ⟨w.toNat, hw⟩)
  · rfl

/-- Buckets of far keys. -/
theorem bkt_lo : ∀ d : Fin 1024, 91 ≤ d.val → bkt (IntOp.subi 0#32 (BitVec.ofNat 32 d.val)) = 15#32 := by decide +kernel
@[inherit_doc bkt_lo] theorem bkt_hi : ∀ d : Fin 1024, 91 ≤ d.val → bkt (BitVec.ofNat 32 d.val) = 31#32 := by decide +kernel

theorem relOf_lo (q k : Fin 1024) (h : k.val + 91 ≤ q.val) : bkt (relOf q k) = 15#32 := by
  rw [← bkt_lo ⟨q.val - k.val, by omega⟩ (by show 91 ≤ q.val - k.val; omega)]
  congr 1
  show BitVec.ofNat 32 k.val - BitVec.ofNat 32 q.val = 0#32 - BitVec.ofNat 32 (q.val - k.val)
  bv_omega
theorem relOf_hi (q k : Fin 1024) (h : q.val + 91 ≤ k.val) : bkt (relOf q k) = 31#32 := by
  rw [← bkt_hi ⟨k.val - q.val, by omega⟩ (by show 91 ≤ k.val - q.val; omega)]
  congr 1
  show BitVec.ofNat 32 k.val - BitVec.ofNat 32 q.val = BitVec.ofNat 32 (k.val - q.val)
  bv_omega

/-- The relative place that a lane of the strip stands for. -/
def laneRel (l : ℕ) : BitVec 32 :=
  if IntOp.cmpi .slt (BitVec.ofNat 32 l) 256#32 = 1 then IntOp.subi 0#32 (BitVec.ofNat 32 l) else IntOp.subi 512#32 (BitVec.ofNat 32 l)

theorem laneRel_lo : ∀ l : Fin 256, laneRel l.val = IntOp.subi 0#32 (BitVec.ofNat 32 l.val) := by decide +kernel
theorem laneRel_hi : ∀ l : Fin 256, laneRel (512 - l.val) = BitVec.ofNat 32 l.val := by decide +kernel

theorem laneRel_eq (q k : Fin 1024) (h1 : q.val < k.val + 256) (h2 : k.val < q.val + 256) :
    laneRel ((q.val + 512 - k.val) % 512) = relOf q k := by
  rcases Nat.lt_or_ge q.val k.val with h | h
  · rw [show (q.val + 512 - k.val) % 512 = 512 - (k.val - q.val) by omega, laneRel_hi ⟨k.val - q.val, by omega⟩]
    show BitVec.ofNat 32 (k.val - q.val) = BitVec.ofNat 32 k.val - BitVec.ofNat 32 q.val
    bv_omega
  · rw [show (q.val + 512 - k.val) % 512 = q.val - k.val by omega, laneRel_lo ⟨q.val - k.val, by omega⟩]
    show 0#32 - BitVec.ofNat 32 (q.val - k.val) = BitVec.ofNat 32 k.val - BitVec.ofNat 32 q.val
    bv_omega

end Cert.Attn

namespace Cert.KernelIdeal.Folded

open Idealize.ShloMosaic hiding ix1 ix2 ix3 ix4 ix5
open Idealize.ShloMosaic.TcCoe Idealize.ShloMosaic.Tactic
open Cert.KernelIdeal Cert.KernelIdeal.Gen Cert.Attn
open VecWindow ValueIdx

/-- The buckets along the strip. -/
theorem bucket_apply (a : Fin 8) (l : Fin 512) : k0_pay5 k0_pay3 k0_pay4 16#32 (ix2 a l) = bkt (laneRel l.val) := by
  have hp : k0_pay2 (ix2 a l) = laneRel l.val := by
    unfold k0_pay2 laneRel
    simp only
    rw [← iota_single_apply .tc S8x512 32 1 iota_S8x512_d1_w32 (ix2 a l)]
    rfl
  unfold k0_pay5 k0_pay3 k0_pay4
  rw [← hp]
  generalize k0_pay2 = p
  generalize ix2 a l = z
  rfl

theorem biasStep_apply (u : Fin 32) (x : EReal) (g : FVec I S8x512 .f32) (a : Fin 8) (l : Fin 512) :
    biasStep (F := I) u x g (ix2 a l) = if bkt (laneRel l.val) = BitVec.ofNat 32 u.val then x * (L : EReal) else g (ix2 a l) := by
  show Scalar.select (IntOp.cmpi .eq (k0_pay5 k0_pay3 k0_pay4 16#32 (ix2 a l)) (BitVec.ofNat 32 u.val))
    (x * Named.named (F := I) (φ := .f32) κ "log2e" 0x3FB8AA3B#32 : EReal) (g (ix2 a l)) = _
  rw [bucket_apply, log2e_eq]
  unfold Scalar.select
  by_cases hw : bkt (laneRel l.val) = BitVec.ofNat 32 u.val
  · rw [if_pos hw, if_pos]; simp [IntOp.cmpi, hw]
  · rw [if_neg hw, if_neg]
    show ¬ BitVec.ofBool (bkt (laneRel l.val) == BitVec.ofNat 32 u.val) = 1#1
    rw [beq_eq_false_iff_ne.mpr hw]
    decide

theorem biasFold_apply (x : Fin 32 → EReal) (us : List (Fin 32)) (g : FVec I S8x512 .f32) (a : Fin 8) (l : Fin 512) :
    us.foldl (fun g u => biasStep (F := I) u (x u) g) g (ix2 a l)
      = if ∃ u ∈ us, bkt (laneRel l.val) = BitVec.ofNat 32 u.val then biasOf x (bkt (laneRel l.val)) * (L : EReal) else g (ix2 a l) := by
  induction us generalizing g with
  | nil => simp
  | cons u us ih =>
    rw [List.foldl_cons, ih, biasStep_apply]
    by_cases h1 : ∃ v ∈ us, bkt (laneRel l.val) = BitVec.ofNat 32 v.val
    · rw [if_pos h1, if_pos]
      obtain ⟨v, hv, e⟩ := h1
      exact ⟨v, List.mem_cons_of_mem _ hv, e⟩
    · rw [if_neg h1]
      by_cases h2 : bkt (laneRel l.val) = BitVec.ofNat 32 u.val
      · rw [if_pos h2, if_pos ⟨u, List.mem_cons_self, h2⟩, h2, biasOf_ofNat]
      · rw [if_neg h2, if_neg]
        rintro ⟨v, hv, e⟩
        rcases List.mem_cons.mp hv with rfl | hv
        · exact h2 e
        · exact h1 ⟨v, hv, e⟩

/-- Rows repeated, and each turned by its number. -/
theorem strip_apply (g : FVec I S8x512 .f32) (G : Fin 512 → EReal) (c : IVec S8x512 1) (x y : EReal)
    (hg : ∀ a l, (if c (ix2 a l) = 1 then x * y else g (ix2 a l)) = G l) (r : Fin 128) (l : Fin 512) :
    k0_pay28 (F := I) g c x y (ix2 r l) = G ⟨(l.val + 512 - r.val) % 512, Nat.mod_lt _ (by decide)⟩ := by
  have e : (select c (broadcast S8x512 (Scalar.mulf (F := I) (φ := .f32) x y)) g : FVec I S8x512 .f32) = fun z => G (z 1) := by
    funext z
    rw [ValueIdx.eq_ix2 z]
    exact hg _ _
  unfold k0_pay28
  simp only
  rw [e, shapeCast_self]
  unfold dynamicRotate
  refine (concatenate_ofFn_apply (t := S128x512) (s₁ := S8x512) 0 (N := 16) (fun _ (z : S8x512.Idx) => G (z 1)) _ rfl 8 rfl _ ⟨r.val / 8, by omega⟩ ?_
    (ix2 ⟨r.val % 8, by omega⟩ ⟨(l.val + 512 - r.val) % 512, Nat.mod_lt _ (by decide)⟩) ?_ ?_).trans ?_
  · rfl
  · rfl
  · intro b hb
    obtain rfl : b = 1 := by
      revert b; decide
    show (l.val + 512 - r.val) % 512 = (l.val + 512 - (0 + 1 * r.val) % 512) % 512
    rw [Nat.zero_add, Nat.one_mul, Nat.mod_eq_of_lt (by omega : r.val < 512)]
  · rfl

/-- The strip of biases of a head, from its row of the table. -/
theorem biasV_apply (i : grid0.Coords) (X : Inp I) (h : k0_cond1 i = 1#1) (x : Fin 32 → EReal)
    (hx : ∀ u : Fin 32, tbv X.W.b (k0_off1 i (BitVec.ofNat 32 u.val)) (k0_off1_inb i h u) = x u) (r : Fin 128) (l : Fin 512) :
    biasV i X h (ix2 r l) = biasOf x (bkt (laneRel ((l.val + 512 - r.val) % 512))) * (L : EReal) := by
  have e : (fun (g : FVec I S8x512 .f32) (u : Fin 32) => biasStep u (tbv X.W.b (k0_off1 i (BitVec.ofNat 32 u.val)) (k0_off1_inb i h u)) g)
      = fun g u => biasStep (F := I) u (x u) g := by
    funext g u; rw [hx]
  unfold biasV
  rw [e, show tbv X.W.b (k0_off1 i 31#32) (k0_off1_inb i h 31) = x 31 from hx 31]
  refine strip_apply _ (fun l => biasOf x (bkt (laneRel l.val)) * (L : EReal)) _ _ _ (fun a l => ?_) r l
  rw [biasFold_apply, log2e_eq]
  have hc : k0_pay19 (k0_pay5 k0_pay3 k0_pay4 16#32) (ix2 a l) = BitVec.ofBool (bkt (laneRel l.val) == 31#32) := by
    rw [← bucket_apply a l]; rfl
  rw [hc]
  by_cases h31 : bkt (laneRel l.val) = 31#32
  · rw [h31, if_pos (by decide), show biasOf x 31#32 = x 31 from biasOf_ofNat x 31]
  · rw [beq_eq_false_iff_ne.mpr h31, if_neg (by decide)]
    split
    · rfl
    · rename_i hn
      rw [biasOf_ne x _ fun u hu => ?_]
      · rw [zero_mul]; exact Ideal.ofBits_zero_f32
      · by_cases hu' : u = 31
        · subst hu'; exact h31 hu
        · exact hn ⟨u, List.mem_map.mpr ⟨⟨u.val, by omega⟩, List.mem_finRange _, rfl⟩, hu⟩

theorem tG_apply {α : Type} (x : S128x512.Idx → α) (kb q : Fin 8) (r l : Fin 128) :
    tG x kb q (ix2 r l) = x (ix2 r ⟨grp kb q + l.val, by unfold grp; omega⟩) := by
  refine congrArg x (funext fun a => Fin.ext ?_)
  fin_cases a
  · show 0 + 1 * r.val = r.val; omega
  · show grp kb q + 1 * l.val = grp kb q + l.val; omega

variable (i : grid0.Coords) (X : Inp I) (bv : FVec I S128x512 .f32) (A : Attn.Data) (x : Fin 32 → EReal)
  (hA : ∀ q k, A.b q k = biasOf x (bkt (relOf q k)))

include hA in
/-- A near tile of biases. -/
theorem near_bias (hb : ∀ r l, bv (ix2 r l) = biasOf x (bkt (laneRel ((l.val + 512 - r.val) % 512))) * (L : EReal))
    (kb q : Fin 8) (h : near kb q) (r l : Fin 128) : tG bv kb q (ix2 r l) = A.b' (tok q l) (tok kb r) := by
  have h1 : (tok q l).val = 128 * q.val + l.val := rfl
  have h2 : (tok kb r).val = 128 * kb.val + r.val := rfl
  unfold near at h
  rw [tG_apply, hb, Attn.Data.b', hA, ← laneRel_eq (tok q l) (tok kb r) (by omega) (by omega)]
  congr 4
  show (grp kb q + l.val + 512 - r.val) % 512 = _
  unfold grp
  omega

include hA in
/-- A far tile's bias. -/
theorem lo_bias (h15 : tbv X.W.b (k0_off3 i 16#32) (k0_off3_inb i 0) = x 15) (kb q : Fin 8) (h : ¬near kb q) (hlt : kb.val < q.val) (r l : Fin 128) :
    blo i X = A.b' (tok q l) (tok kb r) := by
  have h1 : (tok q l).val = 128 * q.val + l.val := rfl
  have h2 : (tok kb r).val = 128 * kb.val + r.val := rfl
  unfold near at h
  rw [Attn.Data.b', hA, relOf_lo _ _ (by omega), show biasOf x 15#32 = x 15 from biasOf_ofNat x 15, ← h15, ← log2e_eq]
  rfl

include hA in
@[inherit_doc lo_bias]
theorem hi_bias (h31 : tbv X.W.b (k0_off3 i 32#32) (k0_off3_inb i 1) = x 31) (kb q : Fin 8) (h : ¬near kb q) (hlt : ¬kb.val < q.val) (r l : Fin 128) :
    bhi i X = A.b' (tok q l) (tok kb r) := by
  have h1 : (tok q l).val = 128 * q.val + l.val := rfl
  have h2 : (tok kb r).val = 128 * kb.val + r.val := rfl
  unfold near at h
  rw [Attn.Data.b', hA, relOf_hi _ _ (by omega), show biasOf x 31#32 = x 31 from biasOf_ofNat x 31, ← h31, ← log2e_eq]
  rfl

end Cert.KernelIdeal.Folded
end
-- ==== Proof.Out.lean ====
module

public import proofs.«01_k».proof.Proof.Bias

@[expose] public section

/-! # The gradients of the argument arrays -/

noncomputable section

namespace Cert.Attn

open Idealize.ShloMosaic hiding ix1 ix2 ix3 ix4 ix5
open Cert.KernelIdeal Cert.KernelIdeal.Folded
open ValueIdx

/-- The block of a token. -/
def blkOf (t : Fin 1024) : Fin 8 := ⟨t.val / 128, by omega⟩

theorem blkOf_tok (j : Fin 8) (r : Fin 128) : blkOf (tok j r) = j := by
  apply Fin.ext
  show (128 * j.val + r.val) / 128 = j.val
  omega

/-- The data of one head of one batch entry, read from the argument arrays. -/
def dataOf (q k v : FVec I S2x1024x20x64 .fp8e4m3) (o : FVec I S2x1024x20x64 .fp8e5m2) (qs ks vs os : FVec I S2x8x20 .f32) (b : FVec I S20x32 .f32)
    (n : Fin 2) (h : Fin 20) : Data where
  q t d := q (ix4 n t h d)
  k t d := k (ix4 n t h d)
  v t d := v (ix4 n t h d)
  o t d := o (ix4 n t h d)
  qs t := qs (ix3 n (blkOf t) h)
  ks t := ks (ix3 n (blkOf t) h)
  vs t := vs (ix3 n (blkOf t) h)
  os t := os (ix3 n (blkOf t) h)
  b q k := biasOf (fun u => b (ix2 h u)) (bkt (relOf q k))

end Cert.Attn
end
-- ==== Proof.FoldedEq.lean ====
module

public import Idealize.ShloMosaic.Lib.Tactic
public import proofs.«01_k».proof.Proof.Folded

@[expose] public section

/-! # The printed body is the folded one -/

noncomputable section

namespace Cert.KernelIdeal.Folded

open Idealize.ShloMosaic Idealize.ShloMosaic.TcCoe Idealize.ShloMosaic.Tactic Idealize.SL.Sem Cert.KernelIdeal Cert.KernelIdeal.Gen

variable {F : FTy → Type} [FloatOps F] [Named F]

/-- The part after the start in the printed part that holds it. -/
def part11 (i : grid0.Coords) (arg2 : Memref sig .tc .smem S320 .f32) (harg2 : arg2.IsWhole) (arg3 : Memref sig .tc .smem S320 .f32) (harg3 : arg3.IsWhole) (arg4 : Memref sig .tc .smem S320 .f32) (harg4 : arg4.IsWhole) (arg5 : Memref sig .tc .smem S320 .f32) (harg5 : arg5.IsWhole) (arg6 : Memref sig .tc .smem S640 .f32) (harg6 : arg6.IsWhole) (arg7 : Memref sig .tc .vmem S1x1x1024x64 .fp8e4m3) (harg7 : arg7.IsWhole) (arg8 : Memref sig .tc .vmem S1x1x1024x64 .fp8e4m3) (harg8 : arg8.IsWhole) (arg9 : Memref sig .tc .vmem S1x1x1024x64 .fp8e4m3) (harg9 : arg9.IsWhole) (arg10 : Memref sig .tc .vmem S1x1x1024x64 .fp8e5m2) (harg10 : arg10.IsWhole) (arg11 : Memref sig .tc .vmem S1x1x1024x64 .bf16) (harg11 : arg11.IsWhole) (arg12 : Memref sig .tc .vmem S1x1x1024x64 .bf16) (harg12 : arg12.IsWhole) (arg13 : Memref sig .tc .vmem S1x1x1024x64 .bf16) (harg13 : arg13.IsWhole) (arg14 : Memref sig .tc .vmem S1x1x128 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S64x1024 .bf16) (harg22 : arg22.IsWhole) (arg23 : Memref sig .tc .vmem S1024x64 .bf16) (harg23 : arg23.IsWhole) (arg24 : Memref sig .tc .vmem S1024x64 .bf16) (harg24 : arg24.IsWhole) :
    Prog (TpuEff nD τ sig (Elt F) Λ₀ .tc) (Σ' (arg0 : BitVec 32) (arg1 : BitVec 32) (v28 : FVec F S128x64 .f32), Elt F .f32) := do
  let arg0 : BitVec 32 := BitVec.ofNat 32 (i 0).val
  let arg1 : BitVec 32 := BitVec.ofNat 32 (i 1).val
  let v3 : Vec F S1x1x128x64 .fp8e4m3 ← Prog.lift (.load arg8 (Rect.unit (s := S1x1x1024x64) ![0, 0, 0, 0] S1x1x128x64.size inb_S1x1x1024x64_S1x1x128x64_0_0_0_0).toLoadRect (View.loadsAt_vmem h_S1x1x128x64))

  let v11 : Elt F .f32 ← smemLoad arg3 (Rect.unit (s := S320) (k0_off2 i 0#32) S1.size (k0_off2_inb i 0)) numel1_S1 rfl

  let v17 : Elt F .f32 ← smemLoad arg4 (Rect.unit (s := S320) (k0_off2 i 0#32) S1.size (k0_off2_inb i 0)) numel1_S1 rfl
  let v23 : Vec F S64x128 .bf16 ← Prog.lift (.load arg22 (Rect.unit (s := S64x1024) ![0, 0] S64x128.size inb_S64x1024_S64x128_0_0).toLoadRect (View.loadsAt_vmem h_S64x128))

  Prog.lift (.store arg22 (Rect.unit (s := S64x1024) ![0, 0] S64x128.size inb_S64x1024_S64x128_0_0) (k0_pay30 v3 v11 v17) Finset.univ (View.stores_vmem h_S64x128 (harg22.storeExact_slice rfl _ packedbf16_S64x1024_S64x128_0_0) (fun _ => rfl)) (.inl rfl))
  let v26 : Vec F S1x1x128x64 .fp8e4m3 ← Prog.lift (.load arg7 (Rect.unit (s := S1x1x1024x64) ![0, 0, 0, 0] S1x1x128x64.size inb_S1x1x1024x64_S1x1x128x64_0_0_0_0).toLoadRect (View.loadsAt_vmem h_S1x1x128x64))

  let v34 : Elt F .f32 ← smemLoad arg2 (Rect.unit (s := S320) (k0_off2 i 0#32) S1.size (k0_off2_inb i 0)) numel1_S1 rfl
  pure ⟨arg0, arg1, k0_pay31 v26, v34⟩

set_option maxRecDepth 65536 in
theorem part11_eq (i : grid0.Coords) (arg2 : Memref sig .tc .smem S320 .f32) (harg2 : arg2.IsWhole) (arg3 : Memref sig .tc .smem S320 .f32) (harg3 : arg3.IsWhole) (arg4 : Memref sig .tc .smem S320 .f32) (harg4 : arg4.IsWhole) (arg5 : Memref sig .tc .smem S320 .f32) (harg5 : arg5.IsWhole) (arg6 : Memref sig .tc .smem S640 .f32) (harg6 : arg6.IsWhole) (arg7 : Memref sig .tc .vmem S1x1x1024x64 .fp8e4m3) (harg7 : arg7.IsWhole) (arg8 : Memref sig .tc .vmem S1x1x1024x64 .fp8e4m3) (harg8 : arg8.IsWhole) (arg9 : Memref sig .tc .vmem S1x1x1024x64 .fp8e4m3) (harg9 : arg9.IsWhole) (arg10 : Memref sig .tc .vmem S1x1x1024x64 .fp8e5m2) (harg10 : arg10.IsWhole) (arg11 : Memref sig .tc .vmem S1x1x1024x64 .bf16) (harg11 : arg11.IsWhole) (arg12 : Memref sig .tc .vmem S1x1x1024x64 .bf16) (harg12 : arg12.IsWhole) (arg13 : Memref sig .tc .vmem S1x1x1024x64 .bf16) (harg13 : arg13.IsWhole) (arg14 : Memref sig .tc .vmem S1x1x128 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S64x1024 .bf16) (harg22 : arg22.IsWhole) (arg23 : Memref sig .tc .vmem S1024x64 .bf16) (harg23 : arg23.IsWhole) (arg24 : Memref sig .tc .vmem S1024x64 .bf16) (harg24 : arg24.IsWhole) :
    k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 = start (F := F) ⟨arg2, arg3, arg4, arg5, arg6, arg7, arg8, arg9, arg10, arg11, arg12, arg13, arg14, arg15, arg16, arg17, arg18, arg19, arg20, arg21, arg22, arg23, arg24, harg11, harg12, harg13, harg20, harg21, harg22, harg23, harg24⟩ i >>= fun _ => part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 := by
  rw [k0_part11_eq_skeleton]
  unfold k0_part11_skel start
  by_cases h : k0_cond1 i = 1#1
  · rw [dif_pos h, dif_pos h]
    sl_kernel_rfl
  · rw [dif_neg h, dif_neg h]
    sl_kernel_rfl

set_option maxRecDepth 65536 in
/-- The printed body is the folded one. -/
theorem body_eq (i : grid0.Coords) (arg2 : Memref sig .tc .smem S320 .f32) (harg2 : arg2.IsWhole) (arg3 : Memref sig .tc .smem S320 .f32) (harg3 : arg3.IsWhole) (arg4 : Memref sig .tc .smem S320 .f32) (harg4 : arg4.IsWhole) (arg5 : Memref sig .tc .smem S320 .f32) (harg5 : arg5.IsWhole) (arg6 : Memref sig .tc .smem S640 .f32) (harg6 : arg6.IsWhole) (arg7 : Memref sig .tc .vmem S1x1x1024x64 .fp8e4m3) (harg7 : arg7.IsWhole) (arg8 : Memref sig .tc .vmem S1x1x1024x64 .fp8e4m3) (harg8 : arg8.IsWhole) (arg9 : Memref sig .tc .vmem S1x1x1024x64 .fp8e4m3) (harg9 : arg9.IsWhole) (arg10 : Memref sig .tc .vmem S1x1x1024x64 .fp8e5m2) (harg10 : arg10.IsWhole) (arg11 : Memref sig .tc .vmem S1x1x1024x64 .bf16) (harg11 : arg11.IsWhole) (arg12 : Memref sig .tc .vmem S1x1x1024x64 .bf16) (harg12 : arg12.IsWhole) (arg13 : Memref sig .tc .vmem S1x1x1024x64 .bf16) (harg13 : arg13.IsWhole) (arg14 : Memref sig .tc .vmem S1x1x128 .f32) (harg14 : arg14.IsWhole) (arg15 : Memref sig .tc .vmem S128x512 .f32) (harg15 : arg15.IsWhole) (arg16 : Memref sig .tc .vmem S128x512 .f32) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x1024 .bf16) (harg20 : arg20.IsWhole) (arg21 : Memref sig .tc .vmem S1024x1024 .bf16) (harg21 : arg21.IsWhole) (arg22 : Memref sig .tc .vmem S64x1024 .bf16) (harg22 : arg22.IsWhole) (arg23 : Memref sig .tc .vmem S1024x64 .bf16) (harg23 : arg23.IsWhole) (arg24 : Memref sig .tc .vmem S1024x64 .bf16) (harg24 : arg24.IsWhole) :
    cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 = body (F := F) ⟨arg2, arg3, arg4, arg5, arg6, arg7, arg8, arg9, arg10, arg11, arg12, arg13, arg14, arg15, arg16, arg17, arg18, arg19, arg20, arg21, arg22, arg23, arg24, harg11, harg12, harg13, harg20, harg21, harg22, harg23, harg24⟩ i := by
  rw [cc0_attn_bwd_eq_skeleton]
  unfold cc0_attn_bwd_skel body
  rw [k0_part179_eq_skeleton]
  unfold k0_part179_skel
  rw [part11_eq]
  refine (Prog.bind_assoc _ _ _).trans ?_
  refine (Prog.bind_assoc _ _ _).trans ?_
  refine congrArg (start (F := F) ⟨arg2, arg3, arg4, arg5, arg6, arg7, arg8, arg9, arg10, arg11, arg12, arg13, arg14, arg15, arg16, arg17, arg18, arg19, arg20, arg21, arg22, arg23, arg24, harg11, harg12, harg13, harg20, harg21, harg22, harg23, harg24⟩ i >>= ·) (funext fun _ => ?_)
  sl_kernel_rfl

end Cert.KernelIdeal.Folded
-- ==== Proof.Run.lean ====
module

public import proofs.«01_k».proof.Proof.FoldedEq
public import proofs.«01_k».proof.Proof.SpecBody

@[expose] public section

/-! # The run of a grid point

From the point's inputs, and whatever the carried buffers hold, the body ends with its results in the output buffers. -/

noncomputable section

namespace Cert.KernelIdeal.Folded

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- What a grid point needs. -/
def runPre (c : Dev nD) (R : Refs) (X : Inp F) (d0 : FVec F S1x1x128 .f32) (b0 g0 : FVec F S128x512 .f32) : sProp 𝕄 :=
  iprop(owns (c : Thread nD τ) R.a2 fullShare (X.W.w 0) ∗ owns (c : Thread nD τ) R.a3 fullShare (X.W.w 1) ∗ owns (c : Thread nD τ) R.a4 fullShare (X.W.w 2) ∗ owns (c : Thread nD τ) R.a5 fullShare (X.W.w 3) ∗ owns (c : Thread nD τ) R.a6 fullShare X.W.b ∗ owns (c : Thread nD τ) R.a7 fullShare X.q ∗ owns (c : Thread nD τ) R.a8 fullShare X.k ∗ owns (c : Thread nD τ) R.a9 fullShare X.v ∗ owns (c : Thread nD τ) R.a10 fullShare X.o ∗ (∃ d, owns (c : Thread nD τ) R.a11 fullShare d) ∗ (∃ d, owns (c : Thread nD τ) R.a12 fullShare d) ∗ (∃ d, owns (c : Thread nD τ) R.a13 fullShare d) ∗ owns (c : Thread nD τ) R.a14 fullShare d0 ∗ owns (c : Thread nD τ) R.a15 fullShare b0 ∗ owns (c : Thread nD τ) R.a16 fullShare g0 ∗ (∃ d, owns (c : Thread nD τ) R.a17 fullShare d) ∗ (∃ d, owns (c : Thread nD τ) R.a18 fullShare d) ∗ (∃ d, owns (c : Thread nD τ) R.a19 fullShare d) ∗ (∃ d, owns (c : Thread nD τ) R.a20 fullShare d) ∗ (∃ d, owns (c : Thread nD τ) R.a21 fullShare d) ∗ (∃ d, owns (c : Thread nD τ) R.a22 fullShare d) ∗ (∃ d, owns (c : Thread nD τ) R.a23 fullShare d) ∗ (∃ d, owns (c : Thread nD τ) R.a24 fullShare d))

/-- What a grid point leaves. -/
def runPost (c : Dev nD) (R : Refs) (i : grid0.Coords) (X : Inp F) (d0 : FVec F S1x1x128 .f32) (b0 g0 : FVec F S128x512 .f32) : sProp 𝕄 :=
  iprop(owns (c : Thread nD τ) R.a2 fullShare (X.W.w 0) ∗ owns (c : Thread nD τ) R.a3 fullShare (X.W.w 1) ∗ owns (c : Thread nD τ) R.a4 fullShare (X.W.w 2) ∗ owns (c : Thread nD τ) R.a5 fullShare (X.W.w 3) ∗ owns (c : Thread nD τ) R.a6 fullShare X.W.b ∗ owns (c : Thread nD τ) R.a7 fullShare X.q ∗ owns (c : Thread nD τ) R.a8 fullShare X.k ∗ owns (c : Thread nD τ) R.a9 fullShare X.v ∗ owns (c : Thread nD τ) R.a10 fullShare X.o ∗ owns (c : Thread nD τ) R.a11 fullShare (dqV i X (biasAt i X b0)) ∗ owns (c : Thread nD τ) R.a12 fullShare (dkV i X (biasAt i X b0)) ∗ owns (c : Thread nD τ) R.a13 fullShare (dvV i X (biasAt i X b0)) ∗ owns (c : Thread nD τ) R.a14 fullShare (dbV i (fAll i X (biasAt i X b0)) (gAll i X (biasAt i X b0) (stripAt i g0)) d0) ∗ owns (c : Thread nD τ) R.a15 fullShare (biasAt i X b0) ∗ owns (c : Thread nD τ) R.a16 fullShare (gAll i X (biasAt i X b0) (stripAt i g0)) ∗ (∃ d, owns (c : Thread nD τ) R.a17 fullShare d) ∗ (∃ d, owns (c : Thread nD τ) R.a18 fullShare d) ∗ (∃ d, owns (c : Thread nD τ) R.a19 fullShare d) ∗ (∃ d, owns (c : Thread nD τ) R.a20 fullShare d) ∗ (∃ d, owns (c : Thread nD τ) R.a21 fullShare d) ∗ (∃ d, owns (c : Thread nD τ) R.a22 fullShare d) ∗ (∃ d, owns (c : Thread nD τ) R.a23 fullShare d) ∗ (∃ d, owns (c : Thread nD τ) R.a24 fullShare d))

/-- The contents before the body, all buffers. -/
def sta0 (X : Inp F) (d0 : FVec F S1x1x128 .f32) (b0 g0 : FVec F S128x512 .f32)
    (xdq : B.dq.shp.Idx → Elt F B.dq.ty) (xdk : B.dk.shp.Idx → Elt F B.dk.ty) (xdv : B.dv.shp.Idx → Elt F B.dv.ty) (xs : B.s.shp.Idx → Elt F B.s.ty) (xe : B.e.shp.Idx → Elt F B.e.ty) (xdp : B.dp.shp.Idx → Elt F B.dp.ty) (xp : B.p.shp.Idx → Elt F B.p.ty) (xu : B.u.shp.Idx → Elt F B.u.ty) (xkT : B.kT.shp.Idx → Elt F B.kT.ty) (xqq : B.qq.shp.Idx → Elt F B.qq.ty) (xoo : B.oo.shp.Idx → Elt F B.oo.ty) : Sta F
  | .q => X.q
  | .k => X.k
  | .v => X.v
  | .o => X.o
  | .dq => xdq
  | .dk => xdk
  | .dv => xdv
  | .db => d0
  | .bias => b0
  | .strip => g0
  | .s => xs
  | .e => xe
  | .dp => xdp
  | .p => xp
  | .u => xu
  | .kT => xkT
  | .qq => xqq
  | .oo => xoo

/-- The body runs from what it needs to what it leaves. -/
theorem body_run (c : Dev nD) (R : Refs) (i : grid0.Coords) (X : Inp F) (d0 : FVec F S1x1x128 .f32) (b0 g0 : FVec F S128x512 .f32) (E : Set ℕ) (K : PUnit → sProp 𝕄) :
    iprop(runPre c R X d0 b0 g0 ∗ (runPost c R i X d0 b0 g0 -∗ K ⟨⟩)) ⊢ wp frame (wpE (defs₀ (F := F)) Variants.none c none) E (body (F := F) R i) K := by
  unfold runPre runPost
  iintro ⟨⟨W0, W1, W2, W3, W4, Hq, Hk, Hv, Ho, ⟨%xdq, Hdq⟩, ⟨%xdk, Hdk⟩, ⟨%xdv, Hdv⟩, Hdb, Hbias, Hstrip, ⟨%xs, Hs⟩, ⟨%xe, He⟩, ⟨%xdp, Hdp⟩, ⟨%xp, Hp⟩, ⟨%xu, Hu⟩, ⟨%xkT, HkT⟩, ⟨%xqq, Hqq⟩, ⟨%xoo, Hoo⟩⟩, HK⟩
  have hb := body_ok (c := c) (R := R) (i := i) (X := X) (bv := biasAt i X b0) (sta0 X d0 b0 g0 xdq xdk xdv xs xe xdp xp xu xkT xqq xoo) ⟨rfl, rfl, rfl, rfl⟩ rfl
  obtain ⟨a, s', hdoes, ⟨hq, hkk, hv, ho⟩, hdq, hdk, hdv, hbias, hstrip, hdb⟩ := hb
  have hstrip : s' .strip = gAll i X (biasAt i X b0) (stripAt i g0) := hstrip
  have hdb : s' .db = dbV i (fAll i X (biasAt i X b0)) (gAll i X (biasAt i X b0) (stripAt i g0)) d0 := hdb
  iapply (hdoes E K)
  unfold own ownW
  isplitl [W0 W1 W2 W3 W4 Hq Hk Hv Ho Hdq Hdk Hdv Hdb Hbias Hstrip Hs He Hdp Hp Hu HkT Hqq Hoo]
  · isplitl [W0 W1 W2 W3 W4]
    · isplitl [W0]; · iexact W0
      isplitl [W1]; · iexact W1
      isplitl [W2]; · iexact W2
      isplitl [W3]; · iexact W3
      iexact W4
    simp only [allB, ownL]
    isplitl [Hq]; · iexact Hq
    isplitl [Hk]; · iexact Hk
    isplitl [Hv]; · iexact Hv
    isplitl [Ho]; · iexact Ho
    isplitl [Hdq]; · iexact Hdq
    isplitl [Hdk]; · iexact Hdk
    isplitl [Hdv]; · iexact Hdv
    isplitl [Hdb]; · iexact Hdb
    isplitl [Hbias]; · iexact Hbias
    isplitl [Hstrip]; · iexact Hstrip
    isplitl [Hs]; · iexact Hs
    isplitl [He]; · iexact He
    isplitl [Hdp]; · iexact Hdp
    isplitl [Hp]; · iexact Hp
    isplitl [Hu]; · iexact Hu
    isplitl [HkT]; · iexact HkT
    isplitl [Hqq]; · iexact Hqq
    isplitl [Hoo]; · iexact Hoo
    iempintro
  try simp only [allB, ownL]
  iintro ⟨⟨W0, W1, W2, W3, W4⟩, Hq, Hk, Hv, Ho, Hdq, Hdk, Hdv, Hdb, Hbias, Hstrip, Hs, He, Hdp, Hp, Hu, HkT, Hqq, Hoo, -⟩
  iapply HK
  isplitl [W0]; · iexact W0
  isplitl [W1]; · iexact W1
  isplitl [W2]; · iexact W2
  isplitl [W3]; · iexact W3
  isplitl [W4]; · iexact W4
  isplitl [Hq]; · rw [← hq]; iexact Hq
  isplitl [Hk]; · rw [← hkk]; iexact Hk
  isplitl [Hv]; · rw [← hv]; iexact Hv
  isplitl [Ho]; · rw [← ho]; iexact Ho
  isplitl [Hdq]; · rw [← hdq]; iexact Hdq
  isplitl [Hdk]; · rw [← hdk]; iexact Hdk
  isplitl [Hdv]; · rw [← hdv]; iexact Hdv
  isplitl [Hdb]; · rw [show _ = _ from hdb.symm]; iexact Hdb
  isplitl [Hbias]; · rw [← hbias]; iexact Hbias
  isplitl [Hstrip]; · rw [show _ = _ from hstrip.symm]; iexact Hstrip
  isplitl [Hs]; · iexists _; iexact Hs
  isplitl [He]; · iexists _; iexact He
  isplitl [Hdp]; · iexists _; iexact Hdp
  isplitl [Hp]; · iexists _; iexact Hp
  isplitl [Hu]; · iexists _; iexact Hu
  isplitl [HkT]; · iexists _; iexact HkT
  isplitl [Hqq]; · iexists _; iexact Hqq
  iexists _; iexact Hoo

end Cert.KernelIdeal.Folded
-- ==== Proof.Launch.lean ====
module

public import proofs.«01_k».proof.Proof.Run
public import proofs.«01_k».proof.Proof.Gen.KernelIdeal.Frame.Runs
public import Idealize.ShloMosaic.Lib.Claim

@[expose] public section

set_option maxRecDepth 16384

/-! # The launch

What every grid point leaves, from the values of one grid point, and the run of the whole program. The points of a head
come in pairs, one per batch entry: the first fills the head's strip of biases, the second finds it. The text of the
pipeline's data is the generated frame's, with the contents stated. -/

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Folded

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What point `t` reads. -/
def inp (c : Dev nD) (t : Fin cfg0.N) : Inp F where
  W := ⟨fun j => match j with
    | ⟨0, _⟩ => iblk m c 0 t
    | ⟨1, _⟩ => iblk m c 1 t
    | ⟨2, _⟩ => iblk m c 2 t
    | ⟨3, _⟩ => iblk m c 3 t, iblk m c 4 t⟩
  q := iblk m c 5 t
  k := iblk m c 6 t
  v := iblk m c 7 t
  o := iblk m c 8 t

/-- What point `t` leaves, over what the carried buffers held. -/
def stepV (c : Dev nD) (t : Fin cfg0.N) (d0 : FVec F S1x1x128 .f32) (b0 g0 : FVec F S128x512 .f32) : FVec F S1x1x1024x64 .bf16 × FVec F S1x1x1024x64 .bf16 × FVec F S1x1x1024x64 .bf16 × FVec F S1x1x128 .f32 × FVec F S128x512 .f32 × FVec F S128x512 .f32 :=
  (dqV (grid0.coords t) (inp m c t) (biasAt (grid0.coords t) (inp m c t) b0),
    dkV (grid0.coords t) (inp m c t) (biasAt (grid0.coords t) (inp m c t) b0),
    dvV (grid0.coords t) (inp m c t) (biasAt (grid0.coords t) (inp m c t) b0),
    dbV (grid0.coords t) (fAll (grid0.coords t) (inp m c t) (biasAt (grid0.coords t) (inp m c t) b0)) (gAll (grid0.coords t) (inp m c t) (biasAt (grid0.coords t) (inp m c t) b0) (stripAt (grid0.coords t) g0)) d0,
    biasAt (grid0.coords t) (inp m c t) b0,
    gAll (grid0.coords t) (inp m c t) (biasAt (grid0.coords t) (inp m c t) b0) (stripAt (grid0.coords t) g0))

/-- The first point of a pair leaves the same whatever the carried buffers held. -/
theorem stepV_even (c : Dev nD) (t : Fin cfg0.N) (h : t.val % 2 = 0) (d0 d0' : FVec F S1x1x128 .f32) (b0 b0' g0 g0' : FVec F S128x512 .f32) :
    stepV m c t d0 b0 g0 = stepV m c t d0' b0' g0' := by
  have h1 : k0_cond1 (grid0.coords t) = 1#1 := (hcond0_0 t).mpr h
  have h2 : k0_cond2 (grid0.coords t) = 1#1 := (hcond0_1 t).mpr h
  unfold stepV biasAt stripAt dbV
  simp only [dif_pos h1, if_pos h1, if_pos h2]

/-- What the buffers hold after point `n`. -/
def outsAt0 (c : Dev nD) : (n : ℕ) → n < cfg0.N → FVec F S1x1x1024x64 .bf16 × FVec F S1x1x1024x64 .bf16 × FVec F S1x1x1024x64 .bf16 × FVec F S1x1x128 .f32 × FVec F S128x512 .f32 × FVec F S128x512 .f32
  | 0, hn => stepV m c ⟨0, hn⟩ (constant S1x1x128 .f32 0x00000000#32) k0_pay29 k0_pay29
  | n + 1, hn => stepV m c ⟨n + 1, hn⟩ (outsAt0 c n (Nat.lt_of_succ_lt hn)).2.2.2.1 (outsAt0 c n (Nat.lt_of_succ_lt hn)).2.2.2.2.1 (outsAt0 c n (Nat.lt_of_succ_lt hn)).2.2.2.2.2

theorem outsAt0_A (c : Dev nD) (t : Fin cfg0.N) (h : t.val % 2 = 0) (d0 : FVec F S1x1x128 .f32) (b0 g0 : FVec F S128x512 .f32) :
    outsAt0 m c t.val t.isLt = stepV m c t d0 b0 g0 := by
  obtain ⟨n, hn⟩ := t
  cases n with
  | zero => exact stepV_even m c _ h _ _ _ _ _ _
  | succ n => exact stepV_even m c _ h _ _ _ _ _ _

theorem outsAt0_B (c : Dev nD) (t : Fin cfg0.N) (h : t.val ≠ 0) :
    outsAt0 m c t.val t.isLt = stepV m c t (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 := by
  obtain ⟨n, hn⟩ := t
  cases n with
  | zero => exact absurd rfl h
  | succ n => rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
    | ⟨12, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]
theorem after0_12 (c : Dev nD) (t : Fin cfg0.N) : (dats m 0 c).after 12 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Output 12's contents CARRY through the points that leave it idle: at such a point, its buffer not fresh, the proof data's
    `after` is the point before's (the case there stores nothing into the window and its term says so; a case that stores
    into it is not idle there by `liveAt0_12_κ`) — the hypothesis of Lib/Pipeline/TableIdle.lean `Dat.before_out_traj`. -/
theorem hcarry0_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  have hN : t.val < 40 := lt_of_lt_of_eq t.isLt (show cfg0.N = 40 from N_0)
  rw [after0_12, after0_12]
  by_cases h0 : t.val % 2 = 0
  · by_cases h1 : t.val % 2 = 0
    · by_cases h2 : t.val % 2 = 1
      · exfalso; omega
      · by_cases h3 : t.val % 2 = 1
        · exfalso; omega
        · rw [liveAt0_12_A t ((hcond0_0 t).mpr h0) ((hcond0_1 t).mpr h1) (fun h => h2 ((hcond0_2 t).mp h)) (fun h => h3 ((hcond0_3 t).mp h))] at hi
          exact absurd hi Bool.false_ne_true
    · exfalso; omega
  · by_cases h1 : t.val % 2 = 0
    · exfalso; omega
    · by_cases h2 : t.val % 2 = 1
      · by_cases h3 : t.val % 2 = 1
        · rw [liveAt0_12_B t (fun h => h0 ((hcond0_0 t).mp h)) (fun h => h1 ((hcond0_1 t).mp h)) ((hcond0_2 t).mpr h2) ((hcond0_3 t).mpr h3)] at hi
          exact absurd hi Bool.false_ne_true
        · exfalso; omega
      · exfalso; omega
/-- At a point of case B output 12's current staging buffer holds what the point before left: the buffer is not fresh
    there (`notFresh0_12_B`: stored into since the region's entry or the last write-back, carried through the points that
    leave it idle by `hcarry0_12`; Lib/Pipeline/TableIdle.lean `Dat.before_out_traj`). -/
theorem before0_12_B (c : Dev nD) (t : Fin cfg0.N) (h0 : ¬t.val % 2 = 0) (h1 : ¬t.val % 2 = 0) (h2 : t.val % 2 = 1) (h3 : t.val % 2 = 1) (d) :
    (dats m 0 c).before 12 t d = (outsAt0 m c (t.val - 1) (Nat.lt_of_le_of_lt (Nat.sub_le _ _) t.isLt)).2.2.2.1 := by
  rw [Dat.before_out_traj _ 12 rfl (fun _ _ => rfl) (hcarry0_12 m c) t.val t rfl d,
    if_neg (by rw [notFresh0_12_B t (fun h => h0 ((hcond0_0 t).mp h)) (fun h => h1 ((hcond0_1 t).mp h)) ((hcond0_2 t).mpr h2) ((hcond0_3 t).mpr h3)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem live12 (t : Fin cfg0.N) : cfg0.idle 12 (grid0.coords t) = false := by
  rcases Nat.mod_two_eq_zero_or_one t.val with h | h
  · exact liveAt0_12_A t ((hcond0_0 t).mpr h) ((hcond0_1 t).mpr h) (fun x => by have := (hcond0_2 t).mp x; omega) (fun x => by have := (hcond0_3 t).mp x; omega)
  · exact liveAt0_12_B t (fun x => by have := (hcond0_0 t).mp x; omega) (fun x => by have := (hcond0_1 t).mp x; omega) ((hcond0_2 t).mpr h) ((hcond0_3 t).mpr h)

/-- The buffers that the body of point `t` is given. -/
def refs (t : Fin cfg0.N) : Refs := ⟨ms0_0 t, ms0_1 t, ms0_2 t, ms0_3 t, ms0_4 t, ms0_5 t, ms0_6 t, ms0_7 t, ms0_8 t, ms0_9 t, ms0_10 t, ms0_11 t, ms0_12 t, scM0_0, scM0_1, scM0_2, scM0_3, scM0_4, scM0_5, scM0_6, scM0_7, scM0_8, scM0_9, hs0_9 t, hs0_10 t, hs0_11 t, Memref.isWhole_whole _, Memref.isWhole_whole _, Memref.isWhole_whole _, Memref.isWhole_whole _, Memref.isWhole_whole _⟩

/-- The body of a point, over any contents of the carried buffers that lead to what `outsAt0` says. -/
theorem sound_point (c : Dev nD) (t : Fin cfg0.N) (d0 : FVec F S1x1x128 .f32) (b0 g0 : FVec F S128x512 .f32)
    (h : outsAt0 m c t.val t.isLt = stepV m c t d0 b0 g0) (K : PUnit → sProp 𝕄) :
    iprop(runPre c (refs t) (inp m c t) d0 b0 g0 ∗ (runPost c (refs t) (grid0.coords t) (inp m c t) d0 b0 g0 -∗ K ⟨⟩)) ⊢ wp frame (wpE (defs₀ (F := F)) Variants.none c none) Set.univ (bodyAt0 (F := F) t) K := by
  unfold bodyAt0
  rw [body_eq]
  exact (body_run c (refs t) (grid0.coords t) (inp m c t) d0 b0 g0 Set.univ K)

set_option maxHeartbeats 16000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [live12 t], after0_12]
  by_cases hz : t.val = 0
  · have he : t.val % 2 = 0 := by omega
    rw [PhiS_castSucc m c t, PhiS_zero m c _ _ hz, PhiA0_eq]
    iintro ⟨⟨⟨⟨%b0, HS0⟩, ⟨%g0, HS1⟩, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (sound_point m c t _ _ _ (outsAt0_A m c t he ((dats m 0 c).before 12 t d12) b0 g0))
    unfold runPre
    isplitl [H0 H1 H2 H3 H4 H5 H6 H7 H8 H9 H10 H11 H12 HS0 HS1 HS2 HS3 HS4 HS5 HS6 HS7 HS8 HS9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexact H12
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    unfold runPost
    iintro ⟨H0, H1, H2, H3, H4, H5, H6, H7, H8, H9, H10, H11, H12, HS0, HS1, HS2, HS3, HS4, HS5, HS6, HS7, HS8, HS9⟩
    rw [(outsAt0_A m c t he ((dats m 0 c).before 12 t d12) b0 g0)]
    isplitl [HS0 HS1 HS2 HS3 HS4 HS5 HS6 HS7 HS8 HS9 Hg]
    · isplitl [HS0 HS1 HS2 HS3 HS4 HS5 HS6 HS7 HS8 HS9]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexact HS9
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  rw [PhiS_castSucc m c t, PhiS_pos m c _ _ hz]
  rcases Nat.mod_two_eq_zero_or_one t.val with he | ho
  · iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (sound_point m c t _ _ _ (outsAt0_A m c t he ((dats m 0 c).before 12 t d12) (outsAt0 m c (t.val - 1) (by omega)).2.2.2.2.1 (outsAt0 m c (t.val - 1) (by omega)).2.2.2.2.2))
    unfold runPre
    isplitl [H0 H1 H2 H3 H4 H5 H6 H7 H8 H9 H10 H11 H12 HS0 HS1 HS2 HS3 HS4 HS5 HS6 HS7 HS8 HS9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexact H12
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    unfold runPost
    iintro ⟨H0, H1, H2, H3, H4, H5, H6, H7, H8, H9, H10, H11, H12, HS0, HS1, HS2, HS3, HS4, HS5, HS6, HS7, HS8, HS9⟩
    rw [(outsAt0_A m c t he ((dats m 0 c).before 12 t d12) (outsAt0 m c (t.val - 1) (by omega)).2.2.2.2.1 (outsAt0 m c (t.val - 1) (by omega)).2.2.2.2.2)]
    isplitl [HS0 HS1 HS2 HS3 HS4 HS5 HS6 HS7 HS8 HS9 Hg]
    · isplitl [HS0 HS1 HS2 HS3 HS4 HS5 HS6 HS7 HS8 HS9]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexact HS9
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · simp only [before0_12_B m c t (by omega) (by omega) ho ho]
    iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (sound_point m c t _ _ _ (outsAt0_B m c t hz))
    unfold runPre
    isplitl [H0 H1 H2 H3 H4 H5 H6 H7 H8 H9 H10 H11 H12 HS0 HS1 HS2 HS3 HS4 HS5 HS6 HS7 HS8 HS9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexact H12
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    unfold runPost
    iintro ⟨H0, H1, H2, H3, H4, H5, H6, H7, H8, H9, H10, H11, H12, HS0, HS1, HS2, HS3, HS4, HS5, HS6, HS7, HS8, HS9⟩
    rw [(outsAt0_B m c t hz)]
    isplitl [HS0 HS1 HS2 HS3 HS4 HS5 HS6 HS7 HS8 HS9 Hg]
    · isplitl [HS0 HS1 HS2 HS3 HS4 HS5 HS6 HS7 HS8 HS9]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexact HS9
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9⟩, Hg⟩
  isplitl [HS0 HS1 HS2 HS3 HS4 HS5 HS6 HS7 HS8 HS9]
  · isplitl [HS0]
    · iexists _; iexact HS0
    isplitl [HS1]
    · iexists _; iexact HS1
    isplitl [HS2]
    · iexact HS2
    isplitl [HS3]
    · iexact HS3
    isplitl [HS4]
    · iexact HS4
    isplitl [HS5]
    · iexact HS5
    isplitl [HS6]
    · iexact HS6
    isplitl [HS7]
    · iexact HS7
    isplitl [HS8]
    · iexact HS8
    iexact HS9
  iexact Hg

/-- The same after the last point. -/
theorem hout (c : Dev nD) : (dats m 0 c).Φ (Fin.last cfg0.N) ⊢ Pipeline.ΦA spec0 c :=
  Phi_out m c _ (by rw [Fin.val_last]; have : cfg0.N = 40 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: every run ends, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Launch

end
-- ==== Proof.DSum.lean ====
module

public import proofs.«01_k».proof.Proof.Attn

@[expose] public section

/-! # Sums of score gradients

The gradients of the far keys' scores summed without forming them, and sums along a strip of lanes. -/

noncomputable section

namespace Cert.Attn

open Idealize.ShloMosaic

/-- A sum of nonnegative terms distributes over a product. -/
theorem sum_nonneg_mul {ι : Type} (s : Finset ι) (f : ι → EReal) (hf : ∀ i, 0 ≤ f i) (x : EReal) : (∑ i ∈ s, f i) * x = ∑ i ∈ s, f i * x := by
  classical
  induction s using Finset.induction_on with
  | empty => simp
  | insert a s ha ih =>
    rw [Finset.sum_insert ha, Finset.sum_insert ha, EReal.right_distrib_of_nonneg (hf a) (Finset.sum_nonneg fun i _ => hf i), ih]

namespace Data

variable {X : Data}

theorem s_le_M (q k : Fin 1024) : X.s q k ≤ X.M q := le_iSup (X.s q) k

theorem e_ne_top (q k : Fin 1024) : X.e q k ≠ ⊤ := by
  refine exp_ne_top ?_
  exact (EReal.sub_le_sub (s_le_M q k) le_rfl).trans EReal.sub_self_le_zero

/-- The gradients of some scores of a row, summed, from the sums of their exponentials and of their weighted products. -/
theorem far_sum {ι : Type} (s : Finset ι) (g : ι → Fin 1024) (q : Fin 1024) :
    Ideal.div 1 (X.Z q) * ((∑ i ∈ s, (X.e q (g i) * X.rawd q (g i)) * (X.vs (g i) * X.os q)) - X.D' q * ∑ i ∈ s, X.e q (g i)) = ∑ i ∈ s, X.ds q (g i) := by
  rcases row (X := X) q with hz | ⟨h0, ht⟩
  · rw [Finset.sum_eq_zero fun i _ => by rw [hz, zero_mul, zero_mul], Finset.sum_eq_zero fun i _ => hz (g i), mul_zero, sub_zero, mul_zero,
      Finset.sum_eq_zero fun i _ => by rw [ds, P_zero hz, zero_mul]]
  · have hP : ∀ k, 0 ≤ X.P q k := fun k => mul_nonneg (e_nonneg q k) h0
    have hP' : ∀ k, X.P q k ≠ ⊤ := fun k => mul_ne_top' (e_nonneg q k) (e_ne_top q k) h0 ht
    have e2 : Ideal.div 1 (X.Z q) * (X.D' q * ∑ i ∈ s, X.e q (g i)) = (∑ i ∈ s, X.P q (g i)) * X.D q := by
      rw [D'_eq, mul_comm (X.D q), ← mul_assoc, mul_sum_real _ _ h0 ht]
      congr 1
      exact Finset.sum_congr rfl fun i _ => mul_comm _ _
    rw [mul_sub_real _ _ h0 ht, e2, mul_sum_real _ _ h0 ht, sub_eq_add_neg, ← mul_neg, sum_nonneg_mul _ _ (fun i => hP (g i)), ← Finset.sum_add_distrib]
    refine Finset.sum_congr rfl fun i _ => ?_
    rw [ds, mul_sub_real _ _ (hP _) (hP' _), sub_eq_add_neg, ← mul_neg]
    congr 1
    unfold P dp
    ac_rfl

end Data

/-! ## A strip of lanes -/

/-- Halving the rows: the lower half added to the upper, turned by the number of rows, has the same turned column sums. -/
theorem tree_step (N : ℕ) (x : Fin (N + N) → Fin 512 → EReal) (y : Fin N → Fin 512 → EReal)
    (h : ∀ r l, y r l = x (Fin.castAdd N r) l + x (Fin.natAdd N r) ⟨(l.val + N) % 512, Nat.mod_lt _ (by decide)⟩) (l : Fin 512) :
    ∑ r, y r ⟨(l.val + r.val) % 512, Nat.mod_lt _ (by decide)⟩ = ∑ r, x r ⟨(l.val + r.val) % 512, Nat.mod_lt _ (by decide)⟩ := by
  rw [Fin.sum_univ_add, ← Finset.sum_add_distrib]
  refine Finset.sum_congr rfl fun r _ => ?_
  rw [h]
  congr 2
  apply Fin.ext
  show ((l.val + r.val) % 512 + N) % 512 = (l.val + (N + r.val)) % 512
  omega

/-- Turned column sums over the lanes that a predicate takes are sums over the turned predicate. -/
theorem turn_sum (p : ℕ → Prop) [DecidablePred p] (g : Fin 128 → Fin 512 → EReal) :
    ∑ l : Fin 512, (if p l.val then ∑ r : Fin 128, g r ⟨(l.val + r.val) % 512, Nat.mod_lt _ (by decide)⟩ else 0)
      = ∑ r : Fin 128, ∑ l : Fin 512, if p ((l.val + 512 - r.val) % 512) then g r l else 0 := by
  have e : ∀ l : Fin 512, (if p l.val then ∑ r : Fin 128, g r ⟨(l.val + r.val) % 512, Nat.mod_lt _ (by decide)⟩ else 0)
      = ∑ r : Fin 128, if p l.val then g r ⟨(l.val + r.val) % 512, Nat.mod_lt _ (by decide)⟩ else 0 := by
    intro l
    split
    · rfl
    · rw [Finset.sum_const_zero]
  simp only [e]
  rw [Finset.sum_comm]
  refine Finset.sum_congr rfl fun r _ => ?_
  refine Fintype.sum_equiv (Equiv.addRight (⟨r.val, by omega⟩ : Fin 512)) _ _ fun l => ?_
  have hv : (Equiv.addRight (⟨r.val, by omega⟩ : Fin 512) l) = ⟨(l.val + r.val) % 512, Nat.mod_lt _ (by decide)⟩ := rfl
  rw [hv]
  have hl : ((l.val + r.val) % 512 + 512 - r.val) % 512 = l.val := by omega
  simp only [hl]

/-- A block of 128 lanes raised by some terms. -/
theorem add_block (G : ℕ) (hG : G + 128 ≤ 512) (p : Fin 512 → Prop) [DecidablePred p] (g g' : Fin 512 → EReal) (x : Fin 128 → EReal)
    (hin : ∀ l : Fin 128, g' ⟨G + l.val, by omega⟩ = g ⟨G + l.val, by omega⟩ + x l)
    (hout : ∀ l : Fin 512, ¬(G ≤ l.val ∧ l.val < G + 128) → g' l = g l) :
    (∑ l, if p l then g' l else 0) = (∑ l, if p l then g l else 0) + ∑ l : Fin 128, if p ⟨G + l.val, by omega⟩ then x l else 0 := by
  have e : (∑ l : Fin 128, if p ⟨G + l.val, by omega⟩ then x l else 0)
      = ∑ l : Fin 512, if h : G ≤ l.val ∧ l.val < G + 128 then (if p l then x ⟨l.val - G, by omega⟩ else 0) else 0 := by
    refine Fintype.sum_of_injective (fun l : Fin 128 => (⟨G + l.val, by omega⟩ : Fin 512)) ?_ _ _ ?_ ?_
    · intro a b hab
      have := congrArg Fin.val hab
      simp only at this
      exact Fin.ext (by omega)
    · intro l hl
      rw [dif_neg]
      intro h
      exact hl ⟨⟨l.val - G, by omega⟩, Fin.ext (by show G + (l.val - G) = l.val; omega)⟩
    · intro l
      rw [dif_pos (⟨by show G ≤ G + l.val; omega, by show G + l.val < G + 128; omega⟩)]
      congr 2
      exact Fin.ext (by show l.val = G + l.val - G; omega)
  rw [e, ← Finset.sum_add_distrib]
  refine Finset.sum_congr rfl fun l _ => ?_
  by_cases h : G ≤ l.val ∧ l.val < G + 128
  · rw [dif_pos h]
    have := hin ⟨l.val - G, by omega⟩
    have hl : (⟨G + (l.val - G), by omega⟩ : Fin 512) = l := Fin.ext (by show G + (l.val - G) = l.val; omega)
    simp only [hl] at this
    rw [this]
    split
    · rfl
    · rw [add_zero]
  · rw [dif_neg h, hout l h, add_zero]

end Cert.Attn

end
-- ==== Proof.DBias.lean ====
module

public import proofs.«01_k».proof.Proof.Bias
public import proofs.«01_k».proof.Proof.DSum

@[expose] public section

/-! # The gradient of the bias table

What the strip of bias gradients, the two far sums and the turned halving tree come to: for each bucket, the sum of the gradients of the
scores whose pair of places is in the bucket. -/

noncomputable section

namespace Cert.Attn

open Idealize.ShloMosaic hiding ix1 ix2 ix3 ix4 ix5

/-- The gradients of one batch entry's scores, summed over a bucket. -/
def Data.db (X : Data) (u : Fin 32) : EReal := ∑ q, ∑ k, if bkt (relOf q k) = BitVec.ofNat 32 u.val then X.ds q k else 0

end Cert.Attn

namespace Cert.KernelIdeal.Folded

open Idealize.ShloMosaic hiding ix1 ix2 ix3 ix4 ix5
open Idealize.ShloMosaic.TcCoe Idealize.ShloMosaic.Tactic
open Cert.KernelIdeal Cert.KernelIdeal.Gen Cert.Attn
open VecWindow ValueIdx

/-! ## The near tiles -/

/-- What a strip holds for a bucket. -/
def stripW (u : Fin 32) (g : FVec I S128x512 .f32) : EReal :=
  ∑ r : Fin 128, ∑ l : Fin 512, if bkt (laneRel ((l.val + 512 - r.val) % 512)) = BitVec.ofNat 32 u.val then g (ix2 r l) else 0

/-- One tile's part of a bucket, and the sum of the tile. -/
def bktT (A : Attn.Data) (u : Fin 32) (kb q : Fin 8) : EReal :=
  ∑ r, ∑ l, if bkt (relOf (tok q l) (tok kb r)) = BitVec.ofNat 32 u.val then A.ds (tok q l) (tok kb r) else 0
@[inherit_doc bktT] def allT (A : Attn.Data) (kb q : Fin 8) : EReal := ∑ r, ∑ l, A.ds (tok q l) (tok kb r)

/-- A quantity that each step raises by a term is raised by the sum of the terms. -/
theorem foldTo_add {α : Type} (f : Fin 8 → α → α) (a : α) (w : α → EReal) (g : Fin 8 → EReal)
    (hf : ∀ kb s, w (f kb s) = w s + g kb) : w (foldTo f a 8) = w a + ∑ kb, g kb := by
  have e : ∀ j : Fin 8, w (foldTo f a (j.val + 1)) = w (foldTo f a j.val) + g j := fun j => by rw [foldTo_succ, hf]
  rw [Fin.sum_univ_eight]
  have h7 := e 7; have h6 := e 6; have h5 := e 5; have h4 := e 4; have h3 := e 3; have h2 := e 2; have h1 := e 1; have hh := e 0
  simp only [Fin.val_zero, Fin.val_one, Fin.val_two] at *
  rw [show w (foldTo f a 8) = _ from h7]
  rw [show w (foldTo f a ((7 : Fin 8).val)) = _ from h6, show w (foldTo f a ((6 : Fin 8).val)) = _ from h5,
    show w (foldTo f a ((5 : Fin 8).val)) = _ from h4, show w (foldTo f a ((4 : Fin 8).val)) = _ from h3,
    show w (foldTo f a ((3 : Fin 8).val)) = _ from h2, show w (foldTo f a 2) = _ from h1, show w (foldTo f a 1) = _ from hh,
    show w (foldTo f a 0) = w a from rfl]
  simp only [add_assoc]

theorem grp_le (kb q : Fin 8) : grp kb q + 128 ≤ 512 := by unfold grp; omega

theorem put_in (g : FVec I S128x512 .f32) (kb q : Fin 8) (w : FVec I S128x128 .f32) (r l : Fin 128) :
    put g ![0, grp kb q] S128x128.size w (ix2 r ⟨grp kb q + l.val, by have := grp_le kb q; omega⟩) = w (ix2 r l) := by
  refine (tG_apply (put g ![0, grp kb q] S128x128.size w) kb q r l).symm.trans ?_
  exact congrFun (window_put_same g _ _ (gIn kb q) w) (ix2 r l)

theorem put_out (g : FVec I S128x512 .f32) (kb q : Fin 8) (w : FVec I S128x128 .f32) (r : Fin 128) (l : Fin 512)
    (hl : ¬(grp kb q ≤ l.val ∧ l.val < grp kb q + 128)) : put g ![0, grp kb q] S128x128.size w (ix2 r l) = g (ix2 r l) := by
  unfold put
  rw [dif_neg]
  intro h
  exact hl (h 1)

section near

variable {i : grid0.Coords} {X : Inp I} {bv : FVec I S128x512 .f32} {A : Attn.Data} (h : Rel i X bv A) (hA : A.Ok)
  (n : Fin 4) (t : Fin 2) (kb : Fin 8) (r l : Fin 128)
include h hA

theorem uF_apply : uF i X bv n t kb (ix2 r l) = A.u (tok (qb n t) l) (tok kb r) := by
  rw [← uT_apply h n t kb r l hA]
  unfold uT rnd
  rw [same_eq]
  rfl

omit h hA in
variable (i X bv) in
/-- A near tile of the strip, the tile's gradients added. -/
def gTile (g : FVec I S128x512 .f32) : FVec I S128x128 .f32 :=
  same (addf (tG g kb (qb n t)) (mulf (uF i X bv n t kb) (broadcast S128x128 (Scalar.mulf (vsv i X kb) (dosv i X (qb n t))))))

theorem gTile_apply (g : FVec I S128x512 .f32) : gTile i X bv n t kb g (ix2 r l)
    = (g (ix2 r ⟨grp kb (qb n t) + l.val, by have := grp_le kb (qb n t); omega⟩) + A.ds (tok (qb n t) l) (tok kb r) : EReal) := by
  unfold gTile
  rw [same_eq]
  have e : (uF i X bv n t kb (ix2 r l) * (vsv i X kb * dosv i X (qb n t)) : EReal) = A.ds (tok (qb n t) l) (tok kb r) := by
    rw [uF_apply h hA, h.vs _ r, h.os _ l, Attn.Data.u_mul hA]
  rw [← e, ← tG_apply g kb (qb n t) r l]
  rfl

theorem gStep_W (u : Fin 32) (g : FVec I S128x512 .f32) :
    stripW u (gStep i X bv n t kb g) = stripW u g + if near kb (qb n t) then bktT A u kb (qb n t) else 0 := by
  unfold gStep
  split
  · rename_i hn
    show stripW u (put g ![0, grp kb (qb n t)] S128x128.size (gTile i X bv n t kb g)) = _
    unfold stripW bktT
    rw [← Finset.sum_add_distrib]
    refine Finset.sum_congr rfl fun r _ => ?_
    refine (add_block (grp kb (qb n t)) (grp_le _ _) (fun l => bkt (laneRel ((l.val + 512 - r.val) % 512)) = BitVec.ofNat 32 u.val)
      (fun l => g (ix2 r l)) (fun l => put g ![0, grp kb (qb n t)] S128x128.size (gTile i X bv n t kb g) (ix2 r l))
      (fun l => A.ds (tok (qb n t) l) (tok kb r)) (fun l => ?_) (fun l hl => put_out g kb _ _ r l hl)).trans ?_
    · exact (put_in g kb (qb n t) (gTile i X bv n t kb g) r l).trans (gTile_apply h hA n t kb r l g)
    · refine congrArg (HAdd.hAdd _) (Finset.sum_congr rfl fun l _ => ?_)
      have e : bkt (laneRel ((grp kb (qb n t) + l.val + 512 - r.val) % 512)) = bkt (relOf (tok (qb n t) l) (tok kb r)) := by
        have h1 : (tok (qb n t) l).val = 128 * (qb n t).val + l.val := rfl
        have h2 : (tok kb r).val = 128 * kb.val + r.val := rfl
        unfold near at hn
        rw [← laneRel_eq (tok (qb n t) l) (tok kb r) (by omega) (by omega)]
        congr 2
        unfold grp
        omega
      show (if bkt (laneRel ((grp kb (qb n t) + l.val + 512 - r.val) % 512)) = BitVec.ofNat 32 u.val then A.ds (tok (qb n t) l) (tok kb r) else 0) = _
      rw [e]
  · exact (add_zero _).symm

theorem col_W (u : Fin 32) (g : FVec I S128x512 .f32) :
    stripW u (foldTo (gStep i X bv n t) g 8) = stripW u g + ∑ kb, if near kb (qb n t) then bktT A u kb (qb n t) else 0 :=
  foldTo_add _ _ (stripW u) _ fun kb s => gStep_W h hA n t kb u s

/-- What a point adds to the strip. -/
theorem gAll_W (u : Fin 32) (g : FVec I S128x512 .f32) :
    stripW u (gAll i X bv g) = stripW u g + ∑ q : Fin 8, ∑ kb, if near kb q then bktT A u kb q else 0 := by
  unfold gAll gPair
  simp only [col_W h hA]
  conv_rhs => rw [Fin.sum_univ_eight]
  simp only [add_assoc]
  rfl

end near

/-! ## The far tiles -/

/-- A tile wholly to the left, and wholly to the right. -/
abbrev cLo (kb q : Fin 8) : Prop := ¬near kb q ∧ kb.val < q.val
@[inherit_doc cLo] abbrev cHi (kb q : Fin 8) : Prop := ¬near kb q ∧ ¬kb.val < q.val

theorem farOf_apply (x rl drow : FVec I S1x128 .f32) (o : Acc I) (l : Fin 128) :
    farOf x rl drow o (ix2 0 l) = (x (ix2 0 l) + rl (ix2 0 l) * (v2 o l - drow (ix2 0 l) * v1 o l) : EReal) := by
  rcases o with _ | ⟨e, a⟩
  · show x (ix2 0 l) = (x (ix2 0 l) + rl (ix2 0 l) * (0 - drow (ix2 0 l) * 0) : EReal)
    rw [mul_zero, sub_zero, mul_zero, add_zero]
  · rfl

theorem sum_blocks (c : Fin 8 → Prop) [DecidablePred c] (f : Fin 8 → Fin 128 → EReal) :
    (∑ kb, if c kb then ∑ r, f kb r else 0) = ∑ x ∈ (Finset.univ.filter c) ×ˢ Finset.univ, f x.1 x.2 := by
  rw [Finset.sum_product, Finset.sum_filter]

section far

variable {i : grid0.Coords} {X : Inp I} {bv : FVec I S128x512 .f32} {A : Attn.Data} (n : Fin 4) (t : Fin 2) (kb : Fin 8) (l : Fin 128)

theorem accStep_sides (s : Accs I) :
    (v1 (accStep i X bv n t kb s).lo l = v1 s.lo l + if cLo kb (qb n t) then sum1 (sum8 (eT i X bv n t kb)) (ix2 0 l) else 0)
    ∧ (v2 (accStep i X bv n t kb s).lo l = v2 s.lo l + if cLo kb (qb n t) then sum1 (aT i X bv n t kb) (ix2 0 l) else 0)
    ∧ (v1 (accStep i X bv n t kb s).hi l = v1 s.hi l + if cHi kb (qb n t) then sum1 (sum8 (eT i X bv n t kb)) (ix2 0 l) else 0)
    ∧ (v2 (accStep i X bv n t kb s).hi l = v2 s.hi l + if cHi kb (qb n t) then sum1 (aT i X bv n t kb) (ix2 0 l) else 0) := by
  unfold accStep
  by_cases hn : near kb (qb n t)
  · rw [if_pos hn, if_neg fun h => h.1 hn, if_neg fun h => h.1 hn, if_neg fun h => h.1 hn, if_neg fun h => h.1 hn]
    exact ⟨(add_zero _).symm, (add_zero _).symm, (add_zero _).symm, (add_zero _).symm⟩
  · rw [if_neg hn]
    by_cases hl : kb.val < (qb n t).val
    · rw [if_pos hl, if_pos ⟨hn, hl⟩, if_pos ⟨hn, hl⟩, if_neg fun h => h.2 hl, if_neg fun h => h.2 hl]
      exact ⟨v1_add _ _ _ _, v2_add _ _ _ _, (add_zero _).symm, (add_zero _).symm⟩
    · have h1 : ¬cLo kb (qb n t) := fun h => hl h.2
      have h2 : cHi kb (qb n t) := ⟨hn, hl⟩
      rw [if_neg hl, if_neg h1, if_neg h1, if_pos h2, if_pos h2]
      exact ⟨(add_zero _).symm, (add_zero _).symm, v1_add _ _ _ _, v2_add _ _ _ _⟩

variable (h : Rel i X bv A) (hA : A.Ok)
include h hA

/-- One side's part of a column. -/
theorem side (c : Fin 8 → Prop) [DecidablePred c] (o : Acc I)
    (h1 : v1 o l = ∑ kb, if c kb then sum1 (sum8 (eT i X bv n t kb)) (ix2 0 l) else 0)
    (h2 : v2 o l = ∑ kb, if c kb then sum1 (aT i X bv n t kb) (ix2 0 l) else 0) :
    (rlOf (accs i X bv n t) (ix2 0 l) * (v2 o l - drowOf (accs i X bv n t) (ix2 0 l) * v1 o l) : EReal)
      = ∑ kb, if c kb then ∑ r, A.ds (tok (qb n t) l) (tok kb r) else 0 := by
  have e1 : v1 o l = ∑ kb, if c kb then ∑ r, A.e (tok (qb n t) l) (tok kb r) else 0 := by
    rw [h1]
    refine Finset.sum_congr rfl fun kb _ => ?_
    rw [sum1_sum8, Finset.sum_congr rfl fun r _ => eT_apply h n t kb r l hA]
  have e2 : v2 o l = ∑ kb, if c kb then ∑ r, (A.e (tok (qb n t) l) (tok kb r) * A.rawd (tok (qb n t) l) (tok kb r)) * (A.vs (tok kb r) * A.os (tok (qb n t) l)) else 0 := by
    rw [h2]
    exact Finset.sum_congr rfl fun kb _ => by rw [aT_sum h n t kb l hA]
  rw [e1, e2, rl_apply h n t l hA, drow_apply h n t l hA, sum_blocks, sum_blocks, sum_blocks]
  exact Attn.Data.far_sum _ (fun x : Fin 8 × Fin 128 => tok x.1 x.2) (tok (qb n t) l)

theorem farStep_apply (far : FVec I S1x128 .f32 × FVec I S1x128 .f32) :
    ((farStep i X bv n t far).1 (ix2 0 l) = (far.1 (ix2 0 l) + ∑ kb, if cLo kb (qb n t) then ∑ r, A.ds (tok (qb n t) l) (tok kb r) else 0 : EReal))
    ∧ ((farStep i X bv n t far).2 (ix2 0 l) = (far.2 (ix2 0 l) + ∑ kb, if cHi kb (qb n t) then ∑ r, A.ds (tok (qb n t) l) (tok kb r) else 0 : EReal)) := by
  refine ⟨(farOf_apply _ _ _ _ _).trans ?_, (farOf_apply _ _ _ _ _).trans ?_⟩
  · congr 1
    refine side n t l h hA (fun kb => cLo kb (qb n t)) _ ?_ ?_
    · exact foldTo_sum _ _ (fun s : Accs I => v1 s.lo l) _ rfl fun kb s => (accStep_sides n t kb l s).1
    · exact foldTo_sum _ _ (fun s : Accs I => v2 s.lo l) _ rfl fun kb s => (accStep_sides n t kb l s).2.1
  · congr 1
    refine side n t l h hA (fun kb => cHi kb (qb n t)) _ ?_ ?_
    · exact foldTo_sum _ _ (fun s : Accs I => v1 s.hi l) _ rfl fun kb s => (accStep_sides n t kb l s).2.2.1
    · exact foldTo_sum _ _ (fun s : Accs I => v2 s.hi l) _ rfl fun kb s => (accStep_sides n t kb l s).2.2.2

omit h hA in
theorem lanes_blocks (A : Attn.Data) (c : Fin 8 → Fin 8 → Prop) [∀ kb q, Decidable (c kb q)] :
    (∑ l, ∑ q, ∑ kb, if c kb q then ∑ r, A.ds (tok q l) (tok kb r) else 0) = ∑ q, ∑ kb, if c kb q then allT A kb q else 0 := by
  rw [Finset.sum_comm]
  refine Finset.sum_congr rfl fun q _ => ?_
  rw [Finset.sum_comm]
  refine Finset.sum_congr rfl fun kb _ => ?_
  split
  · exact Finset.sum_comm
  · exact Finset.sum_const_zero

/-- The far sums of a point. -/
theorem fAll_sum : ((∑ l, (fAll i X bv).1 (ix2 0 l) : EReal) = ∑ q, ∑ kb, if cLo kb q then allT A kb q else 0)
    ∧ ((∑ l, (fAll i X bv).2 (ix2 0 l) : EReal) = ∑ q, ∑ kb, if cHi kb q then allT A kb q else 0) := by
  rw [← lanes_blocks A cLo, ← lanes_blocks A cHi]
  have hz : (zero1 (F := I)) = fun _ => (0 : EReal) := funext fun _ => Ideal.ofBits_zero_f32
  constructor
  · refine Finset.sum_congr rfl fun l _ => ?_
    unfold fAll fPair
    simp only [(farStep_apply _ _ l h hA _).1, hz]
    conv_rhs => rw [Fin.sum_univ_eight]
    rw [zero_add]
    rfl
  · refine Finset.sum_congr rfl fun l _ => ?_
    unfold fAll fPair
    simp only [(farStep_apply _ _ l h hA _).2, hz]
    conv_rhs => rw [Fin.sum_univ_eight]
    rw [zero_add]
    rfl

end far

/-! ## All tiles -/

/-- A bucket's sum from the near tiles and the two sides. -/
theorem db_eq (A : Attn.Data) (u : Fin 32) :
    A.db u = (∑ q, ∑ kb, if near kb q then bktT A u kb q else 0)
      + ((if BitVec.ofNat 32 u.val = 15#32 then ∑ q, ∑ kb, if cLo kb q then allT A kb q else 0 else 0)
        + if BitVec.ofNat 32 u.val = 31#32 then ∑ q, ∑ kb, if cHi kb q then allT A kb q else 0 else 0) := by
  have e : A.db u = ∑ q : Fin 8, ∑ kb : Fin 8, bktT A u kb q := by
    unfold Attn.Data.db bktT
    rw [← sum_tok]
    refine Finset.sum_congr rfl fun q _ => ?_
    rw [Finset.sum_comm' (t' := Finset.univ) (s' := fun _ => Finset.univ) (by simp)]
    rw [← sum_tok]
  have hlo : (if BitVec.ofNat 32 u.val = 15#32 then ∑ q, ∑ kb, if cLo kb q then allT A kb q else 0 else 0)
      = ∑ q : Fin 8, ∑ kb : Fin 8, if cLo kb q then (if BitVec.ofNat 32 u.val = 15#32 then allT A kb q else 0) else 0 := by
    split <;> simp
  have hhi : (if BitVec.ofNat 32 u.val = 31#32 then ∑ q, ∑ kb, if cHi kb q then allT A kb q else 0 else 0)
      = ∑ q : Fin 8, ∑ kb : Fin 8, if cHi kb q then (if BitVec.ofNat 32 u.val = 31#32 then allT A kb q else 0) else 0 := by
    split <;> simp
  rw [e, hlo, hhi]
  simp only [← Finset.sum_add_distrib]
  refine Finset.sum_congr rfl fun q _ => Finset.sum_congr rfl fun kb _ => ?_
  have h1 : ∀ l : Fin 128, (tok q l).val = 128 * q.val + l.val := fun _ => rfl
  have h2 : ∀ r : Fin 128, (tok kb r).val = 128 * kb.val + r.val := fun _ => rfl
  by_cases hn : near kb q
  · rw [if_pos hn, if_neg fun h => h.1 hn, if_neg fun h => h.1 hn, add_zero, add_zero]
  · rw [if_neg hn, zero_add]
    unfold near at hn
    by_cases hl : kb.val < q.val
    · rw [if_pos (show cLo kb q from ⟨hn, hl⟩), if_neg (show ¬cHi kb q from fun h => h.2 hl), add_zero]
      have e : ∀ r l, bkt (relOf (tok q l) (tok kb r)) = 15#32 := fun r l => relOf_lo _ _ (by rw [h1, h2]; omega)
      unfold bktT allT
      simp only [e]
      by_cases hu : BitVec.ofNat 32 u.val = 15#32
      · rw [hu]; simp
      · rw [if_neg hu]; simp only [if_neg (Ne.symm hu), Finset.sum_const_zero]
    · rw [if_neg (show ¬cLo kb q from fun h => hl h.2), if_pos (show cHi kb q from ⟨hn, hl⟩), zero_add]
      have e : ∀ r l, bkt (relOf (tok q l) (tok kb r)) = 31#32 := fun r l => relOf_hi _ _ (by rw [h1, h2]; omega)
      unfold bktT allT
      simp only [e]
      by_cases hu : BitVec.ofNat 32 u.val = 31#32
      · rw [hu]; simp
      · rw [if_neg hu]; simp only [if_neg (Ne.symm hu), Finset.sum_const_zero]

/-! ## The last steps of a head -/

/-- One step of the turned halving. -/
theorem halve (N : ℕ) (c : BitVec 32) (hc : c.toNat = 512 - N) (hN : N < 512) (x : FVec I ⟨2, ![N + N, 512]⟩ .f32)
    (h0 : Shape.Slices (s := ⟨2, ![N + N, 512]⟩) ![0, 0] ⟨2, ![N, 512]⟩) (h1 : Shape.Slices (s := ⟨2, ![N + N, 512]⟩) ![N, 0] ⟨2, ![N, 512]⟩)
    (hr : Shape.Rotates (s := ⟨2, ![N, 512]⟩) 1 none) (r : Fin N) (l : Fin 512) :
    (addf (extractStridedSlice ⟨2, ![N, 512]⟩ ![0, 0] x h0) (dynamicRotate 1 c none (extractStridedSlice ⟨2, ![N, 512]⟩ ![N, 0] x h1) hr) : FVec I ⟨2, ![N, 512]⟩ .f32) (ix2 r l)
      = (x (ix2 (Fin.castAdd N r) l) + x (ix2 (Fin.natAdd N r) ⟨(l.val + N) % 512, Nat.mod_lt _ (by decide)⟩) : EReal) := by
  show (_ + _ : EReal) = _
  congr 1
  · refine congrArg x (funext fun a => Fin.ext ?_)
    fin_cases a
    · show 0 + r.val = r.val; omega
    · show 0 + l.val = l.val; omega
  · refine congrArg x (funext fun a => Fin.ext ?_)
    fin_cases a
    · show N + r.val = N + r.val; rfl
    · show 0 + (l.val + 512 - (c.toNat + 0) % 512) % 512 = (l.val + N) % 512
      rw [hc]
      rcases Nat.eq_zero_or_pos N with rfl | hp
      · omega
      · rw [Nat.mod_eq_of_lt (by omega : 512 - N + 0 < 512)]; omega

/-- One step of the turned halving keeps the turned sums. -/
theorem halve_sum (N : ℕ) (c : BitVec 32) (hc : c.toNat = 512 - N) (hN : N < 512) (x : FVec I ⟨2, ![N + N, 512]⟩ .f32)
    (h0 : Shape.Slices (s := ⟨2, ![N + N, 512]⟩) ![0, 0] ⟨2, ![N, 512]⟩) (h1 : Shape.Slices (s := ⟨2, ![N + N, 512]⟩) ![N, 0] ⟨2, ![N, 512]⟩)
    (hr : Shape.Rotates (s := ⟨2, ![N, 512]⟩) 1 none) (l : Fin 512) :
    (∑ r : Fin N, (addf (extractStridedSlice ⟨2, ![N, 512]⟩ ![0, 0] x h0) (dynamicRotate 1 c none (extractStridedSlice ⟨2, ![N, 512]⟩ ![N, 0] x h1) hr) : FVec I ⟨2, ![N, 512]⟩ .f32)
        (ix2 r ⟨(l.val + r.val) % 512, Nat.mod_lt _ (by decide)⟩) : EReal)
      = ∑ r : Fin (N + N), x (ix2 r ⟨(l.val + r.val) % 512, Nat.mod_lt _ (by decide)⟩) :=
  tree_step N (fun r l => x (ix2 r l))
    (fun r l => (addf (extractStridedSlice ⟨2, ![N, 512]⟩ ![0, 0] x h0) (dynamicRotate 1 c none (extractStridedSlice ⟨2, ![N, 512]⟩ ![N, 0] x h1) hr) : FVec I ⟨2, ![N, 512]⟩ .f32) (ix2 r l))
    (fun r l => halve N c hc hN x h0 h1 hr r l) l

/-- The strip's rows, each turned back by its number, summed. -/
theorem pay20_apply (g : FVec I S128x512 .f32) (l : Fin 512) :
    k0_pay20 (F := I) g (ix2 0 l) = (∑ r : Fin 128, g (ix2 r ⟨(l.val + r.val) % 512, Nat.mod_lt _ (by decide)⟩) : EReal) := by
  have s0 : ∀ (y : FVec I S1x512 .f32), y (ix2 0 l) = ∑ r : Fin 1, y (ix2 r ⟨(l.val + r.val) % 512, Nat.mod_lt _ (by decide)⟩) := fun y => by
    rw [Fin.sum_univ_one]
    congr 2
    exact Fin.ext (by show l.val = (l.val + 0) % 512; omega)
  refine (s0 _).trans ?_
  unfold k0_pay20
  refine (halve_sum 1 511#32 rfl (by decide) _ _ _ _ l).trans ?_
  refine (halve_sum 2 510#32 rfl (by decide) _ _ _ _ l).trans ?_
  refine (halve_sum 4 508#32 rfl (by decide) _ _ _ _ l).trans ?_
  refine (halve_sum 8 504#32 rfl (by decide) _ _ _ _ l).trans ?_
  refine (halve_sum 16 496#32 rfl (by decide) _ _ _ _ l).trans ?_
  refine (halve_sum 32 480#32 rfl (by decide) _ _ _ _ l).trans ?_
  exact halve_sum 64 448#32 rfl (by decide) g _ _ _ l

/-- The buckets along a row of the last mask. -/
theorem pay21_apply (a : Fin 32) (l : Fin 512) : k0_pay21 (ix2 a l) = laneRel l.val := by
  unfold k0_pay21 laneRel
  simp only
  rw [← iota_single_apply .tc S32x512 32 1 iota_S32x512_d1_w32 (ix2 a l)]
  rfl

/-- The near part of each bucket. -/
theorem pay26_apply (x : FVec I S1x512 .f32) (a : Fin 32) (m : Fin 128) :
    k0_pay26 (F := I) x k0_pay21 k0_pay22 k0_pay23 k0_pay24 (ix2 a m)
      = (∑ l : Fin 512, if bkt (laneRel l.val) = BitVec.ofNat 32 a.val then x (ix2 0 l) else 0 : EReal) := by
  have hm : ∀ l : Fin 512, (if bkt (laneRel l.val) = BitVec.ofNat 32 a.val then x (ix2 0 l) else 0 : EReal)
      = Scalar.select (IntOp.cmpi .eq (bkt (k0_pay21 (ix2 a l))) (BitVec.ofNat 32 a.val)) (x (ix2 0 l)) (Ideal.ofBits .f32 0x00000000#32 : EReal) := fun l => by
    rw [pay21_apply, Ideal.ofBits_zero_f32]
    unfold Scalar.select
    by_cases hw : bkt (laneRel l.val) = BitVec.ofNat 32 a.val
    · rw [if_pos hw, if_pos]; simp [IntOp.cmpi, hw]
    · rw [if_neg hw, if_neg]
      show ¬ BitVec.ofBool (bkt (laneRel l.val) == BitVec.ofNat 32 a.val) = 1#1
      rw [beq_eq_false_iff_ne.mpr hw]
      decide
  rw [Finset.sum_congr rfl fun l _ => hm l]
  unfold k0_pay26 k0_pay24 k0_pay23 k0_pay22
  generalize k0_pay21 = p
  pointwise
  simp only [ix2_eq_valueIdx]
  rfl

/-- A bucket's lane of the table's gradient, its near part added. -/
theorem pay1_apply (x : FVec I S32x128 .f32) (d : FVec I S1x1x128 .f32) (u : Fin 32) :
    k0_pay1 (F := I) k0_pay25 x (k0_pay27 (F := I)) d (ix3 0 0 ⟨u.val, by omega⟩) = (d (ix3 0 0 ⟨u.val, by omega⟩) + x (ix2 u ⟨u.val, by omega⟩) : EReal) := by
  have e : (∑ a : Fin 32, Scalar.select (IntOp.cmpi .eq (BitVec.ofNat 32 a.val) (BitVec.ofNat 32 u.val)) (x (ix2 a ⟨u.val, by omega⟩)) (Ideal.ofBits .f32 0x00000000#32 : EReal) : EReal)
      = x (ix2 u ⟨u.val, by omega⟩) := by
    rw [Finset.sum_eq_single u]
    · unfold Scalar.select
      rw [if_pos]; simp [IntOp.cmpi]
    · intro a _ ha
      unfold Scalar.select
      rw [if_neg, Ideal.ofBits_zero_f32]
      have : ∀ a u : Fin 32, a ≠ u → ¬ IntOp.cmpi .eq (BitVec.ofNat 32 a.val) (BitVec.ofNat 32 u.val) = 1 := by decide
      exact this a u ha
    · intro hu; exact absurd (Finset.mem_univ u) hu
  rw [← e]
  unfold k0_pay1 k0_pay25 k0_pay27
  pointwise
  simp only [ix2_eq_valueIdx]

/-- The far part of each bucket. -/
theorem pay865_apply (hi lo : FVec I S1x128 .f32) (u : Fin 32) :
    k0_pay865 (F := I) hi lo (ix2 0 ⟨u.val, by omega⟩) = ((if BitVec.ofNat 32 u.val = 15#32 then ∑ l, lo (ix2 0 l) else 0)
      + if BitVec.ofNat 32 u.val = 31#32 then ∑ l, hi (ix2 0 l) else 0 : EReal) := by
  have hs : ∀ (w : BitVec 32) (y : EReal), (if BitVec.ofNat 32 u.val = w then y else 0)
      = Scalar.select (IntOp.cmpi .eq (BitVec.ofNat 32 u.val) w) y (Ideal.ofBits .f32 0x00000000#32 : EReal) := fun w y => by
    rw [Ideal.ofBits_zero_f32]
    unfold Scalar.select
    by_cases hw : BitVec.ofNat 32 u.val = w
    · rw [if_pos hw, if_pos]; simp [IntOp.cmpi, hw]
    · rw [if_neg hw, if_neg]
      show ¬ BitVec.ofBool (BitVec.ofNat 32 u.val == w) = 1#1
      rw [beq_eq_false_iff_ne.mpr hw]
      decide
  rw [hs, hs]
  unfold k0_pay865
  pointwise
  simp only [ix2_eq_valueIdx]

theorem cast3_apply (x : FVec I S1x128 .f32) (l : Fin 128) : k0_pay866 (F := I) x (ix3 0 0 l) = x (ix2 0 l) := by
  unfold k0_pay866
  pointwise
  rfl

theorem pay867_apply (x : FVec I S1x128 .f32) (d : FVec I S1x1x128 .f32) (l : Fin 128) :
    k0_pay867 (F := I) x d (ix3 0 0 l) = (d (ix3 0 0 l) + x (ix2 0 l) : EReal) := by
  unfold k0_pay867
  pointwise
  rfl

/-- The near part of a bucket, from the strip. -/
theorem near_W (g : FVec I S128x512 .f32) (u : Fin 32) (m : Fin 128) :
    k0_pay26 (F := I) (k0_pay20 g) k0_pay21 k0_pay22 k0_pay23 k0_pay24 (ix2 u m) = stripW u g := by
  rw [pay26_apply]
  simp only [pay20_apply]
  exact turn_sum (fun l => bkt (laneRel l) = BitVec.ofNat 32 u.val) fun r l => g (ix2 r l)

theorem W_zero (u : Fin 32) : stripW u (k0_pay29 (F := I)) = 0 := by
  unfold stripW
  refine Finset.sum_eq_zero fun r _ => Finset.sum_eq_zero fun l _ => ?_
  rw [show (k0_pay29 (F := I)) (ix2 r l) = 0 from ?_]
  · exact ite_self _
  · unfold k0_pay29
    pointwise

/-! ## The points of a head -/

section points

variable {i : grid0.Coords} {X : Inp I} {bv : FVec I S128x512 .f32} {A : Attn.Data} (h : Rel i X bv A) (hA : A.Ok)
include h hA

/-- What the two sides of a point give a bucket. -/
theorem far_db (u : Fin 32) : k0_pay865 (F := I) (fAll i X bv).2 (fAll i X bv).1 (ix2 0 ⟨u.val, by omega⟩)
    = (if BitVec.ofNat 32 u.val = 15#32 then ∑ q, ∑ kb, if cLo kb q then allT A kb q else 0 else 0)
        + if BitVec.ofNat 32 u.val = 31#32 then ∑ q, ∑ kb, if cHi kb q then allT A kb q else 0 else 0 := by
  rw [pay865_apply, (fAll_sum h hA).1, (fAll_sum h hA).2]

/-- The first point of a head. -/
theorem dbV_first (g : FVec I S128x512 .f32) (d0 : FVec I S1x1x128 .f32) (c2 : k0_cond2 i = 1#1) (c3 : ¬k0_cond3 i = 1#1) (c4 : ¬k0_cond4 i = 1#1) (u : Fin 32) :
    dbV (F := I) i (fAll i X bv) g d0 (ix3 0 0 ⟨u.val, by omega⟩)
      = (if BitVec.ofNat 32 u.val = 15#32 then ∑ q, ∑ kb, if cLo kb q then allT A kb q else 0 else 0)
        + if BitVec.ofNat 32 u.val = 31#32 then ∑ q, ∑ kb, if cHi kb q then allT A kb q else 0 else 0 := by
  unfold dbV
  rw [if_neg c4, if_neg c3, if_pos c2, cast3_apply, far_db h hA]

/-- The last point of a head. -/
theorem dbV_last (g : FVec I S128x512 .f32) (d0 : FVec I S1x1x128 .f32) (c2 : ¬k0_cond2 i = 1#1) (c3 : k0_cond3 i = 1#1) (c4 : k0_cond4 i = 1#1) (u : Fin 32) :
    dbV (F := I) i (fAll i X bv) g d0 (ix3 0 0 ⟨u.val, by omega⟩)
      = d0 (ix3 0 0 ⟨u.val, by omega⟩) + ((if BitVec.ofNat 32 u.val = 15#32 then ∑ q, ∑ kb, if cLo kb q then allT A kb q else 0 else 0)
        + if BitVec.ofNat 32 u.val = 31#32 then ∑ q, ∑ kb, if cHi kb q then allT A kb q else 0 else 0) + stripW u g := by
  unfold dbV
  rw [if_pos c4, if_pos c3, if_neg c2, pay1_apply, pay867_apply, far_db h hA, near_W]

end points

/-- The two points of a head leave the bucket's gradients of both batch entries. -/
theorem db_two {i i' : grid0.Coords} {X X' : Inp I} {bv bv' : FVec I S128x512 .f32} {A A' : Attn.Data}
    (h : Rel i X bv A) (h' : Rel i' X' bv' A') (hA : A.Ok) (hA' : A'.Ok) (g0 : FVec I S128x512 .f32) (d0 : FVec I S1x1x128 .f32)
    (a1 : k0_cond1 i = 1#1) (a2 : k0_cond2 i = 1#1) (a3 : ¬k0_cond3 i = 1#1) (a4 : ¬k0_cond4 i = 1#1)
    (b1 : ¬k0_cond1 i' = 1#1) (b2 : ¬k0_cond2 i' = 1#1) (b3 : k0_cond3 i' = 1#1) (b4 : k0_cond4 i' = 1#1)
    (g1 : FVec I S128x512 .f32) (d1 : FVec I S1x1x128 .f32) (g1_eq : g1 = gAll i X bv (stripAt (F := I) i g0))
    (d1_eq : d1 = dbV (F := I) i (fAll i X bv) g1 d0) (u : Fin 32) :
    dbV (F := I) i' (fAll i' X' bv') (gAll i' X' bv' (stripAt (F := I) i' g1)) d1 (ix3 0 0 ⟨u.val, by omega⟩) = A.db u + A'.db u := by
  have hs : stripAt (F := I) i' g1 = g1 := by unfold stripAt; rw [if_neg b1]
  have hs0 : stripAt (F := I) i g0 = k0_pay29 (F := I) := by unfold stripAt; rw [if_pos a1]
  rw [dbV_last h' hA' _ _ b2 b3 b4, d1_eq, dbV_first h hA _ _ a2 a3 a4, hs, gAll_W h' hA', g1_eq, gAll_W h hA, hs0, W_zero, zero_add,
    db_eq A, db_eq A']
  generalize (if BitVec.ofNat 32 u.val = 15#32 then ∑ q, ∑ kb, if cLo kb q then allT A kb q else 0 else 0) = x1
  generalize (if BitVec.ofNat 32 u.val = 31#32 then ∑ q, ∑ kb, if cHi kb q then allT A kb q else 0 else 0) = x2
  generalize (if BitVec.ofNat 32 u.val = 15#32 then ∑ q, ∑ kb, if cLo kb q then allT A' kb q else 0 else 0) = x3
  generalize (if BitVec.ofNat 32 u.val = 31#32 then ∑ q, ∑ kb, if cHi kb q then allT A' kb q else 0 else 0) = x4
  ac_rfl

end Cert.KernelIdeal.Folded
-- ==== Proof.KRun.lean ====
module

public import proofs.«01_k».proof.Proof.Out
public import proofs.«01_k».proof.Proof.Launch
public import proofs.«01_k».proof.Proof.DBias
public import Idealize.ShloMosaic.Lib.Pipeline.ValueKit

@[expose] public section

set_option maxRecDepth 16384

/-! # The kernel's results -/

noncomputable section

namespace Cert.KernelIdeal.Launch

open Idealize.ShloMosaic hiding ix1 ix2 ix3 ix4 ix5
open Idealize.ShloMosaic.TcCoe Idealize.ShloMosaic.Tactic Idealize.SL.Sem
open Cert.KernelIdeal Cert.KernelIdeal.Gen Cert.KernelIdeal.Folded Cert.Attn
open ValueIdx

variable (m : (ℓ : Loc nD τ sig) → Buf (Elt I) ℓ) (ρ : Dev nD → PrngReg)

/-- The data of the argument arrays. -/
def dat (c : Dev nD) : Fin 2 → Fin 20 → Data :=
  dataOf (m ((c.tc : Thread nD τ).loc main_arg0)) (m ((c.tc : Thread nD τ).loc main_arg2)) (m ((c.tc : Thread nD τ).loc main_arg4)) (m ((c.tc : Thread nD τ).loc main_arg6))
    (m ((c.tc : Thread nD τ).loc main_arg1)) (m ((c.tc : Thread nD τ).loc main_arg3)) (m ((c.tc : Thread nD τ).loc main_arg5)) (m ((c.tc : Thread nD τ).loc main_arg7)) (m ((c.tc : Thread nD τ).loc main_arg8))

/-! ## What a point reads -/

theorem V_v0 (c : Dev nD) : V m c main_v0 = shapeCast S320 (m ((c.tc : Thread nD τ).loc main_arg1)) shapeCasts_S2x8x20_S320 := by
  unfold_abbrev_sides; simp only [List.flatten_cons, List.flatten_nil, List.append_nil]; after_results; rfl
theorem V_v1 (c : Dev nD) : V m c main_v1 = shapeCast S320 (m ((c.tc : Thread nD τ).loc main_arg3)) shapeCasts_S2x8x20_S320 := by
  unfold_abbrev_sides; simp only [List.flatten_cons, List.flatten_nil, List.append_nil]; after_results; rfl
theorem V_v2 (c : Dev nD) : V m c main_v2 = shapeCast S320 (m ((c.tc : Thread nD τ).loc main_arg5)) shapeCasts_S2x8x20_S320 := by
  unfold_abbrev_sides; simp only [List.flatten_cons, List.flatten_nil, List.append_nil]; after_results; rfl
theorem V_v3 (c : Dev nD) : V m c main_v3 = shapeCast S320 (m ((c.tc : Thread nD τ).loc main_arg7)) shapeCasts_S2x8x20_S320 := by
  unfold_abbrev_sides; simp only [List.flatten_cons, List.flatten_nil, List.append_nil]; after_results; rfl
theorem V_v4 (c : Dev nD) : V m c main_v4 = shapeCast S640 (m ((c.tc : Thread nD τ).loc main_arg8)) shapeCasts_S20x32_S640 := by
  unfold_abbrev_sides; simp only [List.flatten_cons, List.flatten_nil, List.append_nil]; after_results; rfl
theorem V_v5 (c : Dev nD) : V m c main_v5 = transpose S2x20x1024x64 [0, 2, 1, 3] (m ((c.tc : Thread nD τ).loc main_arg0)) transposes_S2x1024x20x64_S2x20x1024x64_0_2_1_3 := by
  unfold_abbrev_sides; simp only [List.flatten_cons, List.flatten_nil, List.append_nil]; after_results
theorem V_v6 (c : Dev nD) : V m c main_v6 = transpose S2x20x1024x64 [0, 2, 1, 3] (m ((c.tc : Thread nD τ).loc main_arg2)) transposes_S2x1024x20x64_S2x20x1024x64_0_2_1_3 := by
  unfold_abbrev_sides; simp only [List.flatten_cons, List.flatten_nil, List.append_nil]; after_results
theorem V_v7 (c : Dev nD) : V m c main_v7 = transpose S2x20x1024x64 [0, 2, 1, 3] (m ((c.tc : Thread nD τ).loc main_arg4)) transposes_S2x1024x20x64_S2x20x1024x64_0_2_1_3 := by
  unfold_abbrev_sides; simp only [List.flatten_cons, List.flatten_nil, List.append_nil]; after_results
theorem V_v8 (c : Dev nD) : V m c main_v8 = transpose S2x20x1024x64 [0, 2, 1, 3] (m ((c.tc : Thread nD τ).loc main_arg6)) transposes_S2x1024x20x64_S2x20x1024x64_0_2_1_3 := by
  unfold_abbrev_sides; simp only [List.flatten_cons, List.flatten_nil, List.append_nil]; after_results

theorem off1_eq : ∀ (t : Fin cfg0.N) (u : Fin 32), k0_off1 (grid0.coords t) (BitVec.ofNat 32 u.val) 0 = (grid0.coords t 0).val * 32 + u.val := by decide +kernel
theorem off2_eq : ∀ (t : Fin cfg0.N) (j : Fin 8), k0_off2 (grid0.coords t) (BitVec.ofNat 32 j.val) 0 = ((grid0.coords t 1).val * 8 + j.val) * 20 + (grid0.coords t 0).val := by decide +kernel
theorem off3_eq : ∀ (t : Fin cfg0.N), k0_off3 (grid0.coords t) 16#32 0 = (grid0.coords t 0).val * 32 + 15 ∧ k0_off3 (grid0.coords t) 32#32 0 = (grid0.coords t 0).val * 32 + 31 := by decide +kernel

/-- A flattened array of scales. -/
theorem flat_scale (x : FVec I S2x8x20 .f32) (n : Fin 2) (j : Fin 8) (h : Fin 20) :
    shapeCast S320 x shapeCasts_S2x8x20_S320 (ix1 ⟨(n.val * 8 + j.val) * 20 + h.val, by omega⟩) = x (ix3 n j h) := by
  pointwise
  refine congrArg x (funext fun a => Fin.ext ?_)
  fin_cases a
  · show ((n.val * 8 + j.val) * 20 + h.val) / 160 = n.val; omega
  · show ((n.val * 8 + j.val) * 20 + h.val) / 20 % 8 = j.val; omega
  · show ((n.val * 8 + j.val) * 20 + h.val) % 20 = h.val; omega
/-- The flattened table. -/
theorem flat_table (x : FVec I S20x32 .f32) (h : Fin 20) (u : Fin 32) :
    shapeCast S640 x shapeCasts_S20x32_S640 (ix1 ⟨h.val * 32 + u.val, by omega⟩) = x (ix2 h u) := by
  pointwise
  refine congrArg x (funext fun a => Fin.ext ?_)
  fin_cases a
  · show (h.val * 32 + u.val) / 32 = h.val; omega
  · show (h.val * 32 + u.val) % 32 = u.val; omega
/-- The heads' axis before the tokens'. -/
theorem swap_apply {α : Type} (x : S2x1024x20x64.Idx → α) (n : Fin 2) (h : Fin 20) (s : Fin 1024) (d : Fin 64) :
    transpose S2x20x1024x64 [0, 2, 1, 3] x transposes_S2x1024x20x64_S2x20x1024x64_0_2_1_3 (ix4 n h s d) = x (ix4 n s h d) := by
  pointwise
  rfl

theorem index0 : ∀ t : Fin cfg0.N, win0_0.index t 0 = 0 := by decide +kernel
theorem index1 : ∀ t : Fin cfg0.N, win0_1.index t 0 = 0 := by decide +kernel
theorem index2 : ∀ t : Fin cfg0.N, win0_2.index t 0 = 0 := by decide +kernel
theorem index3 : ∀ t : Fin cfg0.N, win0_3.index t 0 = 0 := by decide +kernel
theorem index4 : ∀ t : Fin cfg0.N, win0_4.index t 0 = 0 := by decide +kernel
theorem index5 : ∀ t : Fin cfg0.N, win0_5.index t 0 = (grid0.coords t 1).val ∧ win0_5.index t 1 = (grid0.coords t 0).val ∧ win0_5.index t 2 = 0 ∧ win0_5.index t 3 = 0 := by decide +kernel
theorem index6 : ∀ t : Fin cfg0.N, win0_6.index t 0 = (grid0.coords t 1).val ∧ win0_6.index t 1 = (grid0.coords t 0).val ∧ win0_6.index t 2 = 0 ∧ win0_6.index t 3 = 0 := by decide +kernel
theorem index7 : ∀ t : Fin cfg0.N, win0_7.index t 0 = (grid0.coords t 1).val ∧ win0_7.index t 1 = (grid0.coords t 0).val ∧ win0_7.index t 2 = 0 ∧ win0_7.index t 3 = 0 := by decide +kernel
theorem index8 : ∀ t : Fin cfg0.N, win0_8.index t 0 = (grid0.coords t 1).val ∧ win0_8.index t 1 = (grid0.coords t 0).val ∧ win0_8.index t 2 = 0 ∧ win0_8.index t 3 = 0 := by decide +kernel
theorem index9 : ∀ t : Fin cfg0.N, win0_9.index t 0 = (grid0.coords t 1).val ∧ win0_9.index t 1 = (grid0.coords t 0).val ∧ win0_9.index t 2 = 0 ∧ win0_9.index t 3 = 0 := by decide +kernel
theorem index10 : ∀ t : Fin cfg0.N, win0_10.index t 0 = (grid0.coords t 1).val ∧ win0_10.index t 1 = (grid0.coords t 0).val ∧ win0_10.index t 2 = 0 ∧ win0_10.index t 3 = 0 := by decide +kernel
theorem index11 : ∀ t : Fin cfg0.N, win0_11.index t 0 = (grid0.coords t 1).val ∧ win0_11.index t 1 = (grid0.coords t 0).val ∧ win0_11.index t 2 = 0 ∧ win0_11.index t 3 = 0 := by decide +kernel
theorem index12 : ∀ t : Fin cfg0.N, win0_12.index t 0 = (grid0.coords t 0).val ∧ win0_12.index t 1 = 0 ∧ win0_12.index t 2 = 0 := by decide +kernel

/-! The words of a table lie where they lay. -/
theorem emb0 (t : Fin cfg0.N) (j : Fin 320) : (win0_0.blk t).view.emb (ix1 j) = ix1 j := by
  funext a
  apply Fin.ext
  fin_cases a
  blk_simp
  rw [index0]; exact Nat.zero_add _
theorem emb1 (t : Fin cfg0.N) (j : Fin 320) : (win0_1.blk t).view.emb (ix1 j) = ix1 j := by
  funext a
  apply Fin.ext
  fin_cases a
  blk_simp
  rw [index1]; exact Nat.zero_add _
theorem emb2 (t : Fin cfg0.N) (j : Fin 320) : (win0_2.blk t).view.emb (ix1 j) = ix1 j := by
  funext a
  apply Fin.ext
  fin_cases a
  blk_simp
  rw [index2]; exact Nat.zero_add _
theorem emb3 (t : Fin cfg0.N) (j : Fin 320) : (win0_3.blk t).view.emb (ix1 j) = ix1 j := by
  funext a
  apply Fin.ext
  fin_cases a
  blk_simp
  rw [index3]; exact Nat.zero_add _
theorem emb4 (t : Fin cfg0.N) (j : Fin 640) : (win0_4.blk t).view.emb (ix1 j) = ix1 j := by
  funext a
  apply Fin.ext
  fin_cases a
  blk_simp
  rw [index4]; exact Nat.zero_add _

/-! An operand's block is the head's, of the batch entry. -/
theorem emb5 (t : Fin cfg0.N) (s : Fin 1024) (d : Fin 64) : (win0_5.blk t).view.emb (ix4 0 0 s d) = ix4 (grid0.coords t 1) (grid0.coords t 0) s d := by
  obtain ⟨h0, h1, h2, h3⟩ := index5 t
  funext a
  apply Fin.ext
  fin_cases a <;> blk_simp
  · exact h0
  · exact h1
  · rw [h2]; exact (Nat.zero_add _)
  · rw [h3]; exact (Nat.zero_add _)
theorem emb6 (t : Fin cfg0.N) (s : Fin 1024) (d : Fin 64) : (win0_6.blk t).view.emb (ix4 0 0 s d) = ix4 (grid0.coords t 1) (grid0.coords t 0) s d := by
  obtain ⟨h0, h1, h2, h3⟩ := index6 t
  funext a
  apply Fin.ext
  fin_cases a <;> blk_simp
  · exact h0
  · exact h1
  · rw [h2]; exact (Nat.zero_add _)
  · rw [h3]; exact (Nat.zero_add _)
theorem emb7 (t : Fin cfg0.N) (s : Fin 1024) (d : Fin 64) : (win0_7.blk t).view.emb (ix4 0 0 s d) = ix4 (grid0.coords t 1) (grid0.coords t 0) s d := by
  obtain ⟨h0, h1, h2, h3⟩ := index7 t
  funext a
  apply Fin.ext
  fin_cases a <;> blk_simp
  · exact h0
  · exact h1
  · rw [h2]; exact (Nat.zero_add _)
  · rw [h3]; exact (Nat.zero_add _)
theorem emb8 (t : Fin cfg0.N) (s : Fin 1024) (d : Fin 64) : (win0_8.blk t).view.emb (ix4 0 0 s d) = ix4 (grid0.coords t 1) (grid0.coords t 0) s d := by
  obtain ⟨h0, h1, h2, h3⟩ := index8 t
  funext a
  apply Fin.ext
  fin_cases a <;> blk_simp
  · exact h0
  · exact h1
  · rw [h2]; exact (Nat.zero_add _)
  · rw [h3]; exact (Nat.zero_add _)
theorem emb9 (t : Fin cfg0.N) (s : Fin 1024) (d : Fin 64) : (win0_9.blk t).view.emb (ix4 0 0 s d) = ix4 (grid0.coords t 1) (grid0.coords t 0) s d := by
  obtain ⟨h0, h1, h2, h3⟩ := index9 t
  funext a
  apply Fin.ext
  fin_cases a <;> blk_simp
  · exact h0
  · exact h1
  · rw [h2]; exact (Nat.zero_add _)
  · rw [h3]; exact (Nat.zero_add _)
theorem emb10 (t : Fin cfg0.N) (s : Fin 1024) (d : Fin 64) : (win0_10.blk t).view.emb (ix4 0 0 s d) = ix4 (grid0.coords t 1) (grid0.coords t 0) s d := by
  obtain ⟨h0, h1, h2, h3⟩ := index10 t
  funext a
  apply Fin.ext
  fin_cases a <;> blk_simp
  · exact h0
  · exact h1
  · rw [h2]; exact (Nat.zero_add _)
  · rw [h3]; exact (Nat.zero_add _)
theorem emb11 (t : Fin cfg0.N) (s : Fin 1024) (d : Fin 64) : (win0_11.blk t).view.emb (ix4 0 0 s d) = ix4 (grid0.coords t 1) (grid0.coords t 0) s d := by
  obtain ⟨h0, h1, h2, h3⟩ := index11 t
  funext a
  apply Fin.ext
  fin_cases a <;> blk_simp
  · exact h0
  · exact h1
  · rw [h2]; exact (Nat.zero_add _)
  · rw [h3]; exact (Nat.zero_add _)
theorem emb12 (t : Fin cfg0.N) (l : Fin 128) : (win0_12.blk t).view.emb (ix3 0 0 l) = ix3 (grid0.coords t 0) 0 l := by
  obtain ⟨h0, h1, h2⟩ := index12 t
  funext a
  apply Fin.ext
  fin_cases a <;> blk_simp
  · exact h0
  · rw [h1]
  · rw [h2]; exact (Nat.zero_add _)

variable (c : Dev nD) (t : Fin cfg0.N)

theorem q_apply (s : Fin 1024) (d : Fin 64) : (inp m c t).q (ix4 0 0 s d) = (dat m c (grid0.coords t 1) (grid0.coords t 0)).q s d := by
  show V m c main_v5 ((win0_5.blk t).view.emb (ix4 0 0 s d)) = _
  rw [emb5, V_v5]
  exact swap_apply _ _ _ _ _
theorem k_apply (s : Fin 1024) (d : Fin 64) : (inp m c t).k (ix4 0 0 s d) = (dat m c (grid0.coords t 1) (grid0.coords t 0)).k s d := by
  show V m c main_v6 ((win0_6.blk t).view.emb (ix4 0 0 s d)) = _
  rw [emb6, V_v6]
  exact swap_apply _ _ _ _ _
theorem v_apply (s : Fin 1024) (d : Fin 64) : (inp m c t).v (ix4 0 0 s d) = (dat m c (grid0.coords t 1) (grid0.coords t 0)).v s d := by
  show V m c main_v7 ((win0_7.blk t).view.emb (ix4 0 0 s d)) = _
  rw [emb7, V_v7]
  exact swap_apply _ _ _ _ _
theorem o_apply (s : Fin 1024) (d : Fin 64) : (inp m c t).o (ix4 0 0 s d) = (dat m c (grid0.coords t 1) (grid0.coords t 0)).o s d := by
  show V m c main_v8 ((win0_8.blk t).view.emb (ix4 0 0 s d)) = _
  rw [emb8, V_v8]
  exact swap_apply _ _ _ _ _
theorem qs_apply (j : Fin 8) (r : Fin 128) : qsv (grid0.coords t) (inp m c t) j = (dat m c (grid0.coords t 1) (grid0.coords t 0)).qs (tok j r) := by
  have e : (dat m c (grid0.coords t 1) (grid0.coords t 0)).qs (tok j r) = m ((c.tc : Thread nD τ).loc main_arg1) (ix3 (grid0.coords t 1) j (grid0.coords t 0)) :=
    congrArg (fun b : Fin 8 => m ((c.tc : Thread nD τ).loc main_arg1) (ix3 (grid0.coords t 1) b (grid0.coords t 0))) (blkOf_tok j r)
  rw [e]
  refine Eq.trans ?_ (flat_scale (m ((c.tc : Thread nD τ).loc main_arg1)) (grid0.coords t 1) j (grid0.coords t 0))
  rw [← V_v0, ← emb0 t]
  refine congrArg (fun z => V m c main_v0 ((win0_0.blk t).view.emb z)) (funext fun a => Fin.ext ?_)
  fin_cases a
  exact off2_eq t j
theorem ks_apply (j : Fin 8) (r : Fin 128) : ksv (grid0.coords t) (inp m c t) j = (dat m c (grid0.coords t 1) (grid0.coords t 0)).ks (tok j r) := by
  have e : (dat m c (grid0.coords t 1) (grid0.coords t 0)).ks (tok j r) = m ((c.tc : Thread nD τ).loc main_arg3) (ix3 (grid0.coords t 1) j (grid0.coords t 0)) :=
    congrArg (fun b : Fin 8 => m ((c.tc : Thread nD τ).loc main_arg3) (ix3 (grid0.coords t 1) b (grid0.coords t 0))) (blkOf_tok j r)
  rw [e]
  refine Eq.trans ?_ (flat_scale (m ((c.tc : Thread nD τ).loc main_arg3)) (grid0.coords t 1) j (grid0.coords t 0))
  rw [← V_v1, ← emb1 t]
  refine congrArg (fun z => V m c main_v1 ((win0_1.blk t).view.emb z)) (funext fun a => Fin.ext ?_)
  fin_cases a
  exact off2_eq t j
theorem vs_apply (j : Fin 8) (r : Fin 128) : vsv (grid0.coords t) (inp m c t) j = (dat m c (grid0.coords t 1) (grid0.coords t 0)).vs (tok j r) := by
  have e : (dat m c (grid0.coords t 1) (grid0.coords t 0)).vs (tok j r) = m ((c.tc : Thread nD τ).loc main_arg5) (ix3 (grid0.coords t 1) j (grid0.coords t 0)) :=
    congrArg (fun b : Fin 8 => m ((c.tc : Thread nD τ).loc main_arg5) (ix3 (grid0.coords t 1) b (grid0.coords t 0))) (blkOf_tok j r)
  rw [e]
  refine Eq.trans ?_ (flat_scale (m ((c.tc : Thread nD τ).loc main_arg5)) (grid0.coords t 1) j (grid0.coords t 0))
  rw [← V_v2, ← emb2 t]
  refine congrArg (fun z => V m c main_v2 ((win0_2.blk t).view.emb z)) (funext fun a => Fin.ext ?_)
  fin_cases a
  exact off2_eq t j
theorem os_apply (j : Fin 8) (r : Fin 128) : dosv (grid0.coords t) (inp m c t) j = (dat m c (grid0.coords t 1) (grid0.coords t 0)).os (tok j r) := by
  have e : (dat m c (grid0.coords t 1) (grid0.coords t 0)).os (tok j r) = m ((c.tc : Thread nD τ).loc main_arg7) (ix3 (grid0.coords t 1) j (grid0.coords t 0)) :=
    congrArg (fun b : Fin 8 => m ((c.tc : Thread nD τ).loc main_arg7) (ix3 (grid0.coords t 1) b (grid0.coords t 0))) (blkOf_tok j r)
  rw [e]
  refine Eq.trans ?_ (flat_scale (m ((c.tc : Thread nD τ).loc main_arg7)) (grid0.coords t 1) j (grid0.coords t 0))
  rw [← V_v3, ← emb3 t]
  refine congrArg (fun z => V m c main_v3 ((win0_3.blk t).view.emb z)) (funext fun a => Fin.ext ?_)
  fin_cases a
  exact off2_eq t j

/-- A word of the table. -/
theorem tbv_apply (off : Fin 1 → ℕ) (hin : ∀ a, off a + S1.size a ≤ S640.size a) (u : Fin 32) (ho : off 0 = (grid0.coords t 0).val * 32 + u.val) :
    tbv (inp m c t).W.b off hin = m ((c.tc : Thread nD τ).loc main_arg8) (ix2 (grid0.coords t 0) u) := by
  refine Eq.trans ?_ (flat_table (m ((c.tc : Thread nD τ).loc main_arg8)) (grid0.coords t 0) u)
  rw [← V_v4, ← emb4 t]
  refine congrArg (fun z => V m c main_v4 ((win0_4.blk t).view.emb z)) (funext fun a => Fin.ext ?_)
  fin_cases a
  exact ho

/-- The strip of biases that a point finds or makes. -/
def biasStrip : FVec I S128x512 .f32 := (outsAt0 m c t.val t.isLt).2.2.2.2.1

theorem coords_odd : ∀ t : Fin cfg0.N, t.val % 2 ≠ 0 → grid0.coords ⟨t.val - 1, Nat.lt_of_le_of_lt (Nat.sub_le _ _) t.isLt⟩ 0 = grid0.coords t 0 := by
  decide +kernel

theorem bias_even (t : Fin cfg0.N) (h : t.val % 2 = 0) (r : Fin 128) (l : Fin 512) :
    biasStrip m c t (ix2 r l)
      = biasOf (fun u => m ((c.tc : Thread nD τ).loc main_arg8) (ix2 (grid0.coords t 0) u)) (bkt (laneRel ((l.val + 512 - r.val) % 512))) * (L : EReal) := by
  have h1 : k0_cond1 (grid0.coords t) = 1#1 := (hcond0_0 t).mpr h
  unfold biasStrip
  rw [outsAt0_A m c t h (constant S1x1x128 .f32 0x00000000#32) k0_pay29 k0_pay29]
  show biasAt (grid0.coords t) (inp m c t) _ (ix2 r l) = _
  unfold biasAt
  rw [dif_pos h1]
  exact biasV_apply _ _ h1 _ (fun u => tbv_apply m c t _ _ u (off1_eq t u)) r l

theorem bias_point (t : Fin cfg0.N) (r : Fin 128) (l : Fin 512) :
    biasStrip m c t (ix2 r l)
      = biasOf (fun u => m ((c.tc : Thread nD τ).loc main_arg8) (ix2 (grid0.coords t 0) u)) (bkt (laneRel ((l.val + 512 - r.val) % 512))) * (L : EReal) := by
  by_cases h : t.val % 2 = 0
  · exact bias_even m c t h r l
  · have h1 : ¬k0_cond1 (grid0.coords t) = 1#1 := fun e => h ((hcond0_0 t).mp e)
    have e := bias_even m c ⟨t.val - 1, Nat.lt_of_le_of_lt (Nat.sub_le _ _) t.isLt⟩ (by show (t.val - 1) % 2 = 0; omega) r l
    rw [coords_odd t h] at e
    rw [← e]
    unfold biasStrip
    rw [outsAt0_B m c t (by omega)]
    show biasAt (grid0.coords t) (inp m c t) _ (ix2 r l) = _
    unfold biasAt
    rw [dif_neg h1]

/-- A point finds its head's data. -/
theorem rel : Rel (grid0.coords t) (inp m c t) (biasStrip m c t) (dat m c (grid0.coords t 1) (grid0.coords t 0)) where
  q := q_apply m c t
  k := k_apply m c t
  v := v_apply m c t
  o := o_apply m c t
  qs := qs_apply m c t
  ks := ks_apply m c t
  vs := vs_apply m c t
  os := os_apply m c t
  nr kb q h r l := near_bias _ _ _ (fun _ _ => rfl) (bias_point m c t) kb q h r l
  lo kb q h hl r l := lo_bias _ _ _ (fun u => m ((c.tc : Thread nD τ).loc main_arg8) (ix2 (grid0.coords t 0) u)) (fun _ _ => rfl) (tbv_apply m c t _ _ 15 (off3_eq t).1) kb q h hl r l
  hi kb q h hl r l := hi_bias _ _ _ (fun u => m ((c.tc : Thread nD τ).loc main_arg8) (ix2 (grid0.coords t 0) u)) (fun _ _ => rfl) (tbv_apply m c t _ _ 31 (off3_eq t).2) kb q h hl r l

/-- What a point leaves, from the strip. -/
theorem outs_eq (t : Fin cfg0.N) : (outsAt0 m c t.val t.isLt).1 = dqV (grid0.coords t) (inp m c t) (biasStrip m c t)
    ∧ (outsAt0 m c t.val t.isLt).2.1 = dkV (grid0.coords t) (inp m c t) (biasStrip m c t)
    ∧ (outsAt0 m c t.val t.isLt).2.2.1 = dvV (grid0.coords t) (inp m c t) (biasStrip m c t) := by
  obtain ⟨n, hn⟩ := t
  cases n with
  | zero => exact ⟨rfl, rfl, rfl⟩
  | succ n => exact ⟨rfl, rfl, rfl⟩

/-! ## The output arrays -/

theorem arr9 (hA : ∀ n h, (dat m c n h).Ok) :
    (dats m 0 c).arrAt 9 (cfgs 0).N = fun z : S2x20x1024x64.Idx => (dat m c (z 0) (z 1)).dq (z 2) (z 3) := by
  refine (dats m 0 c).arrAt_eq_of_covers 9 _ (by decide +kernel) fun t hf y => ?_
  blk_simp
  rw [after0_9, (outs_eq m c t).1]
  obtain ⟨s, d, rfl⟩ : ∃ (s : Fin 1024) (d : Fin 64), y = ix4 0 0 s d := by
    refine ⟨y 2, y 3, ?_⟩
    funext a; fin_cases a
    · exact Subsingleton.elim (α := Fin 1) _ _
    · exact Subsingleton.elim (α := Fin 1) _ _
    · rfl
    · rfl
  exact (dqV_apply (rel m c t) (hA _ _) s d).trans (congrArg (fun z : S2x20x1024x64.Idx => (dat m c (z 0) (z 1)).dq (z 2) (z 3)) (emb9 t s d)).symm

theorem arr10 (hA : ∀ n h, (dat m c n h).Ok) :
    (dats m 0 c).arrAt 10 (cfgs 0).N = fun z : S2x20x1024x64.Idx => (dat m c (z 0) (z 1)).dk (z 2) (z 3) := by
  refine (dats m 0 c).arrAt_eq_of_covers 10 _ (by decide +kernel) fun t hf y => ?_
  blk_simp
  rw [after0_10, (outs_eq m c t).2.1]
  obtain ⟨s, d, rfl⟩ : ∃ (s : Fin 1024) (d : Fin 64), y = ix4 0 0 s d := by
    refine ⟨y 2, y 3, ?_⟩
    funext a; fin_cases a
    · exact Subsingleton.elim (α := Fin 1) _ _
    · exact Subsingleton.elim (α := Fin 1) _ _
    · rfl
    · rfl
  exact (dkV_apply (rel m c t) (hA _ _) s d).trans (congrArg (fun z : S2x20x1024x64.Idx => (dat m c (z 0) (z 1)).dk (z 2) (z 3)) (emb10 t s d)).symm

theorem arr11 (hA : ∀ n h, (dat m c n h).Ok) :
    (dats m 0 c).arrAt 11 (cfgs 0).N = fun z : S2x20x1024x64.Idx => (dat m c (z 0) (z 1)).dv (z 2) (z 3) := by
  refine (dats m 0 c).arrAt_eq_of_covers 11 _ (by decide +kernel) fun t hf y => ?_
  blk_simp
  rw [after0_11, (outs_eq m c t).2.2]
  obtain ⟨s, d, rfl⟩ : ∃ (s : Fin 1024) (d : Fin 64), y = ix4 0 0 s d := by
    refine ⟨y 2, y 3, ?_⟩
    funext a; fin_cases a
    · exact Subsingleton.elim (α := Fin 1) _ _
    · exact Subsingleton.elim (α := Fin 1) _ _
    · rfl
    · rfl
  exact (dvV_apply (rel m c t) (hA _ _) s d).trans (congrArg (fun z : S2x20x1024x64.Idx => (dat m c (z 0) (z 1)).dv (z 2) (z 3)) (emb11 t s d)).symm

/-! ## The table's gradient -/

/-- The second of a head's two points. -/
def odd (h : Fin 20) : Fin cfg0.N := ⟨2 * h.val + 1, by have : cfg0.N = 40 := by decide
                                                        omega⟩
/-- The first of a head's two points. -/
def even (h : Fin 20) : Fin cfg0.N := ⟨2 * h.val, by have : cfg0.N = 40 := by decide
                                                     omega⟩

theorem odd_coords : ∀ t : Fin cfg0.N, t.val % 2 = 1 → odd (grid0.coords t 0) = t := by decide +kernel
theorem coords_pair : ∀ h : Fin 20, (grid0.coords (even h) 0).val = h.val ∧ (grid0.coords (even h) 1).val = 0 ∧ (grid0.coords (odd h) 0).val = h.val ∧ (grid0.coords (odd h) 1).val = 1 := by
  decide +kernel

/-- What a head's second point leaves as the gradient of the head's biases. -/
def dbOut (h : Fin 20) : FVec I S1x1x128 .f32 := (outsAt0 m c (odd h).val (odd h).isLt).2.2.2.1

theorem arr12 : (dats m 0 c).arrAt 12 (cfgs 0).N = fun z : S20x1x128.Idx => dbOut m c (z 0) (ix3 0 0 (z 2)) := by
  refine (dats m 0 c).arrAt_eq_of_covers 12 _ (by decide +kernel) fun t hf y => ?_
  blk_simp
  rw [after0_12]
  have ht : odd (grid0.coords t 0) = t := odd_coords t ((flush0_12 t).mp hf)
  obtain ⟨l, rfl⟩ : ∃ l : Fin 128, y = ix3 0 0 l := by
    refine ⟨y 2, ?_⟩
    funext a; fin_cases a
    · exact Subsingleton.elim (α := Fin 1) _ _
    · exact Subsingleton.elim (α := Fin 1) _ _
    · rfl
  refine Eq.trans ?_ (congrArg (fun z : S20x1x128.Idx => dbOut m c (z 0) (ix3 0 0 (z 2))) (emb12 t l)).symm
  show _ = (outsAt0 m c (odd (grid0.coords t 0)).val (odd (grid0.coords t 0)).isLt).2.2.2.1 (ix3 0 0 l)
  rw [ht]

theorem dbOut_apply (hA : ∀ n h, (dat m c n h).Ok) (h : Fin 20) (u : Fin 32) :
    dbOut m c h (ix3 0 0 ⟨u.val, by omega⟩) = ∑ n : Fin 2, (dat m c n h).db u := by
  obtain ⟨c0, c1, c2, c3⟩ := coords_pair h
  have p0 : grid0.coords (even h) 0 = h := Fin.ext c0
  have p1 : grid0.coords (even h) 1 = (0 : Fin 2) := Fin.ext c1
  have p2 : grid0.coords (odd h) 0 = h := Fin.ext c2
  have p3 : grid0.coords (odd h) 1 = (1 : Fin 2) := Fin.ext c3
  have e0 := outsAt0_A m c (even h) (by show 2 * h.val % 2 = 0; omega) (constant S1x1x128 .f32 0x00000000#32) k0_pay29 k0_pay29
  have e1 := outsAt0_B m c (odd h) (by show 2 * h.val + 1 ≠ 0; omega)
  have r0 := rel m c (even h)
  have r1 := rel m c (odd h)
  rw [p0, p1] at r0
  rw [p2, p3] at r1
  have v0 : (even h).val % 2 = 0 := by show 2 * h.val % 2 = 0; omega
  have v1 : (odd h).val % 2 = 1 := by show (2 * h.val + 1) % 2 = 1; omega
  have w0 : ¬(even h).val % 2 = 1 := by omega
  have w1 : ¬(odd h).val % 2 = 0 := by omega
  have b0 : biasStrip m c (even h) = biasAt (grid0.coords (even h)) (inp m c (even h)) k0_pay29 := by
    unfold biasStrip; rw [e0]; rfl
  have b1 : biasStrip m c (odd h) = biasAt (grid0.coords (odd h)) (inp m c (odd h)) (outsAt0 m c (even h).val (even h).isLt).2.2.2.2.1 := by
    unfold biasStrip; rw [e1]; rfl
  have g := db_two r0 r1 (hA 0 h) (hA 1 h) k0_pay29 (constant S1x1x128 .f32 0x00000000#32)
    ((hcond0_0 _).mpr v0) ((hcond0_1 _).mpr v0) (fun e => w0 ((hcond0_2 _).mp e)) (fun e => w0 ((hcond0_3 _).mp e))
    (fun e => w1 ((hcond0_0 _).mp e)) (fun e => w1 ((hcond0_1 _).mp e)) ((hcond0_2 _).mpr v1) ((hcond0_3 _).mpr v1)
    (outsAt0 m c (even h).val (even h).isLt).2.2.2.2.2 (outsAt0 m c (even h).val (even h).isLt).2.2.2.1
    (by rw [b0, e0]; rfl) (by rw [b0, e0]; rfl) u
  rw [Fin.sum_univ_two, ← g]
  unfold dbOut
  rw [e1, b1]
  rfl

theorem res10 : Pipeline.afterTail₀ cfgs (dats m) 0 (V0 m) [hostOps1] c main_v10
    = transpose S2x1024x20x64 [0, 2, 1, 3] ((dats m 0 c).arrAt 9 (cfgs 0).N) transposes_S2x20x1024x64_S2x1024x20x64_0_2_1_3 := by
  unfold Pipeline.afterTail₀
  simp only [List.flatten_cons, List.flatten_nil, List.append_nil]
  unfold_abbrev_sides
  after_results
  rw [← Pipeline.withArrays_arr (cfgs 0).spec (by decide) c (V0 m c) (fun w => (dats m 0 c).arrAt w (cfgs 0).N) 9]
theorem res11 : Pipeline.afterTail₀ cfgs (dats m) 0 (V0 m) [hostOps1] c main_v11
    = transpose S2x1024x20x64 [0, 2, 1, 3] ((dats m 0 c).arrAt 10 (cfgs 0).N) transposes_S2x20x1024x64_S2x1024x20x64_0_2_1_3 := by
  unfold Pipeline.afterTail₀
  simp only [List.flatten_cons, List.flatten_nil, List.append_nil]
  unfold_abbrev_sides
  after_results
  rw [← Pipeline.withArrays_arr (cfgs 0).spec (by decide) c (V0 m c) (fun w => (dats m 0 c).arrAt w (cfgs 0).N) 10]
theorem res12 : Pipeline.afterTail₀ cfgs (dats m) 0 (V0 m) [hostOps1] c main_v12
    = transpose S2x1024x20x64 [0, 2, 1, 3] ((dats m 0 c).arrAt 11 (cfgs 0).N) transposes_S2x20x1024x64_S2x1024x20x64_0_2_1_3 := by
  unfold Pipeline.afterTail₀
  simp only [List.flatten_cons, List.flatten_nil, List.append_nil]
  unfold_abbrev_sides
  after_results
  rw [← Pipeline.withArrays_arr (cfgs 0).spec (by decide) c (V0 m c) (fun w => (dats m 0 c).arrAt w (cfgs 0).N) 11]
theorem res14 : Pipeline.afterTail₀ cfgs (dats m) 0 (V0 m) [hostOps1] c main_v14
    = shapeCast S20x32 (extractStridedSlice S20x1x32 ![0, 0, 0] ((dats m 0 c).arrAt 12 (cfgs 0).N) slices_S20x1x128_S20x1x32_0_0_0) shapeCasts_S20x1x32_S20x32 := by
  unfold Pipeline.afterTail₀
  simp only [List.flatten_cons, List.flatten_nil, List.append_nil]
  unfold_abbrev_sides
  after_results
  rw [← Pipeline.withArrays_arr (cfgs 0).spec (by decide) c (V0 m c) (fun w => (dats m 0 c).arrAt w (cfgs 0).N) 12]
  rfl

/-- The first lanes, one row for each head. -/
theorem lanes_back (x : FVec I S20x1x128 .f32) (h : Fin 20) (u : Fin 32) :
    shapeCast S20x32 (extractStridedSlice S20x1x32 ![0, 0, 0] x slices_S20x1x128_S20x1x32_0_0_0) shapeCasts_S20x1x32_S20x32 (ix2 h u)
      = x (ix3 h 0 ⟨u.val, by omega⟩) := by
  pointwise
  refine congrArg x (funext fun a => Fin.ext ?_)
  fin_cases a
  · rfl
  · rfl
  · rfl

/-- The heads' axis after the tokens'. -/
theorem swap_back {α : Type} (f : Fin 2 → Fin 20 → Fin 1024 → Fin 64 → α) :
    transpose S2x1024x20x64 [0, 2, 1, 3] (fun z : S2x20x1024x64.Idx => f (z 0) (z 1) (z 2) (z 3)) transposes_S2x20x1024x64_S2x1024x20x64_0_2_1_3
      = fun z => f (z 0) (z 2) (z 1) (z 3) := by
  funext z
  rw [ValueIdx.eq_ix4 z]
  pointwise

/-- The run, with the gradients that it leaves. -/
theorem values (hA : ∀ c n h, (dat m c n h).Ok) : θ_run defs (onTc (τ := τ) (main (F := I))) ⟨m, fun _ => 0, ρ⟩ (fun r => ∀ c : Dev nD,
      r.2.mem ((c.tc : Thread nD τ).loc main_v10) = (fun z : S2x1024x20x64.Idx => (dat m c (z 0) (z 2)).dq (z 1) (z 3))
      ∧ r.2.mem ((c.tc : Thread nD τ).loc main_v11) = (fun z : S2x1024x20x64.Idx => (dat m c (z 0) (z 2)).dk (z 1) (z 3))
      ∧ r.2.mem ((c.tc : Thread nD τ).loc main_v12) = (fun z : S2x1024x20x64.Idx => (dat m c (z 0) (z 2)).dv (z 1) (z 3))
      ∧ r.2.mem ((c.tc : Thread nD τ).loc main_v14) = (fun z : S20x32.Idx => ∑ n : Fin 2, (dat m c n (z 0)).db (z 1))) := by
  run_from run_main m ρ
  · rw [res10, arr9 m c (hA c)]; exact swap_back (fun n h => (dat m c n h).dq)
  · rw [res11, arr10 m c (hA c)]; exact swap_back (fun n h => (dat m c n h).dk)
  · rw [res12, arr11 m c (hA c)]; exact swap_back (fun n h => (dat m c n h).dv)
  · rw [res14, arr12 m c]
    funext z
    refine (congrArg _ (ValueIdx.eq_ix2 z)).trans ((lanes_back _ (z 0) (z 1)).trans ?_)
    exact dbOut_apply m c (hA c) (z 0) (z 1)

end Cert.KernelIdeal.Launch
end
-- ==== Proof.RChunk.lean ====
module

public import proofs.«01_k».proof.Proof.Gen.ReferenceIdeal.Frame
public import proofs.«01_k».proof.Proof.Out
public import Idealize.ShloMosaic.Lib.Claim
public import Idealize.ShloMosaic.Lib.StableHlo.RunRead
public import Idealize.ShloMosaic.Lib.IdealHost

@[expose] public section

set_option maxRecDepth 16384

/-! # The reference's host operations, by stretches

Each stretch at an index of what it leaves, over any contents before it. -/

noncomputable section

namespace Cert.ReferenceIdeal.RefValue

open Idealize.ShloMosaic hiding ix1 ix2 ix3 ix4 ix5
open Idealize.ShloMosaic.TcCoe Idealize.ShloMosaic.Tactic Idealize.SL.Sem Idealize.ShloMosaic.StableHlo
open Cert.ReferenceIdeal Cert.ReferenceIdeal.Gen Cert.Attn
open ValueIdx
open Cert.KernelIdeal.Folded (ofBits_eighth_f32 ofBits_ninf_f32)
abbrev I := Idealize.ShloMosaic.Ideal

/-- An array of one entry for each query and key, at an index. -/
abbrev sq (f : S2x20x1024x1024.Idx → EReal) (n : Fin 2) (h : Fin 20) (q k : Fin 1024) : EReal := f (ix4 n h q k)
/-- An array of one entry for each token of a head, at an index. -/
abbrev st (f : S2x20x1024.Idx → EReal) (n : Fin 2) (h : Fin 20) (t : Fin 1024) : EReal := f (ix3 n h t)
/-- An array of tokens' rows, at an index. -/
abbrev tk (f : S2x1024x20x64.Idx → EReal) (n : Fin 2) (h : Fin 20) (t : Fin 1024) (d : Fin 64) : EReal := f (ix4 n t h d)
/-- An array of blocks' scales, at the block of a token. -/
abbrev bs (f : S2x8x20.Idx → EReal) (n : Fin 2) (h : Fin 20) (t : Fin 1024) : EReal := f (ix3 n (blkOf t) h)

variable (V : Valuation τ sig (Elt I)) (n : Fin 2) (h : Fin 20) (q k t : Fin 1024) (d : Fin 64)

/-- The stretches. -/
abbrev L0 : List (HloOp τ sig (Elt I)) := hostOps1
@[inherit_doc L0] abbrev L1 : List (HloOp τ sig (Elt I)) := hostOps1_1 ++ (hostOps1_2 ++ (hostOps1_3 ++ hostOps1_4.take 11))
@[inherit_doc L0] abbrev L2 : List (HloOp τ sig (Elt I)) := (hostOps1_4.drop 11).take 12
@[inherit_doc L0] abbrev L3 : List (HloOp τ sig (Elt I)) := (hostOps1_4.drop 23).take 14
@[inherit_doc L0] abbrev L4 : List (HloOp τ sig (Elt I)) := (hostOps1_4.drop 37).take 7
@[inherit_doc L0] abbrev L5 : List (HloOp τ sig (Elt I)) := (hostOps1_4.drop 44).take 9
@[inherit_doc L0] abbrev L6 : List (HloOp τ sig (Elt I)) := hostOps1_4.drop 53

theorem split : ([hostOps1, hostOps1_1, hostOps1_2, hostOps1_3, hostOps1_4].flatten : List (HloOp τ sig (Elt I)))
    = L0 ++ (L1 ++ (L2 ++ (L3 ++ (L4 ++ (L5 ++ L6))))) := rfl

set_option maxHeartbeats 4000000

/-- The blocks' scales, given to the blocks' tokens. -/
theorem tokens (x : S2x8x20.Idx → EReal) : shapeCast S2x20x1024 (broadcastInDim S2x20x8x128 ![0, 1, 2, 3] bcast_S2x20x8x1_S2x20x8x128_0_1_2_3
      (broadcastInDim S2x20x8x1 ![0, 1, 2] bcast_S2x20x8_S2x20x8x1_0_1_2 (transpose S2x20x8 [0, 2, 1] x transposes_S2x8x20_S2x20x8_0_2_1)))
      shapeCasts_S2x20x8x128_S2x20x1024 (ix3 n h t) = bs x n h t := by
  pointwise
  simp only [ix2_eq_valueIdx, ix3_eq_valueIdx, ix4_eq_valueIdx]
  rfl

/-- A row that is 1 at the bucket and 0 elsewhere takes the bucket's entry of a table. -/
theorem oneHot (b : Fin 32 → EReal) (w : BitVec 32) :
    ∑ x : Fin 32, b x * (FloatOps.uitofp (F := I) FTy.f32 (IntOp.cmpi .eq w (BitVec.ofNat 32 x.val)) : EReal) = biasOf b w := by
  have one : (FloatOps.uitofp (F := I) FTy.f32 1#1 : EReal) = 1 := by
    show ((((1#1 : BitVec 1).toNat : ℕ) : ℝ) : EReal) = 1
    norm_num
  have zero : (FloatOps.uitofp (F := I) FTy.f32 0#1 : EReal) = 0 := by
    show ((((0#1 : BitVec 1).toNat : ℕ) : ℝ) : EReal) = 0
    norm_num
  have ne : ∀ u : Fin 32, w ≠ BitVec.ofNat 32 u.val → b u * (FloatOps.uitofp (F := I) FTy.f32 (IntOp.cmpi .eq w (BitVec.ofNat 32 u.val)) : EReal) = 0 := by
    intro u hu
    have : IntOp.cmpi .eq w (BitVec.ofNat 32 u.val) = 0#1 := by
      show BitVec.ofBool (w == BitVec.ofNat 32 u.val) = 0#1
      rw [beq_false_of_ne hu]; rfl
    rw [this, zero, mul_zero]
  by_cases hw : ∃ u : Fin 32, w = BitVec.ofNat 32 u.val
  · obtain ⟨u, rfl⟩ := hw
    rw [biasOf_ofNat, Finset.sum_eq_single u _ (fun h => absurd (Finset.mem_univ u) h)]
    · have : IntOp.cmpi .eq (BitVec.ofNat 32 u.val) (BitVec.ofNat 32 u.val) = 1#1 := by
        show BitVec.ofBool (BitVec.ofNat 32 u.val == BitVec.ofNat 32 u.val) = 1#1
        rw [beq_self_eq_true]; rfl
      rw [this, one, mul_one]
    · intro x _ hx
      apply ne
      intro he
      apply hx
      have := congrArg BitVec.toNat he
      simp only [BitVec.toNat_ofNat] at this
      ext; omega
  · rw [biasOf_ne b w (fun u hu => hw ⟨u, hu⟩)]
    exact Finset.sum_eq_zero fun u _ => ne u fun hu => hw ⟨u, hu⟩

/-- A fold of maxima from −∞ is the largest. -/
theorem fold_max (f : Fin 1024 → EReal) : Finset.fold max (Ideal.ofBits FTy.f32 0xFF800000#32) f Finset.univ = ⨆ x, f x := by
  rw [ofBits_ninf_f32]
  exact Finset.sup_univ_eq_iSup f

theorem e4 : st (after L0 V (Proc.devRef .tc main_v4)) n h t = bs (V (Proc.devRef .tc main_arg1)) n h t := by
  after_reads_simp
  exact tokens n h t _
theorem e8 : st (after L0 V (Proc.devRef .tc main_v8)) n h t = bs (V (Proc.devRef .tc main_arg3)) n h t := by
  after_reads_simp
  exact tokens n h t _
theorem e12 : st (after L0 V (Proc.devRef .tc main_v12)) n h t = bs (V (Proc.devRef .tc main_arg5)) n h t := by
  after_reads_simp
  exact tokens n h t _
theorem e16 : st (after L0 V (Proc.devRef .tc main_v16)) n h t = bs (V (Proc.devRef .tc main_arg7)) n h t := by
  after_reads_simp
  exact tokens n h t _

theorem e22 : (after L0 V (Proc.devRef .tc main_v22) : S1024x1024.Idx → BitVec 32) (ix2 q k) = relOf q k := by
  after_reads_simp
  pointwise
  rfl
theorem e23 : (after L0 V (Proc.devRef .tc main_v23) : S1024x1024.Idx → BitVec 32) (ix2 q k) = IntOp.absi (relOf q k) := by
  after_reads_simp
  pointwise
  rfl
theorem e54 : (after L0 V (Proc.devRef .tc main_v54) : S1024x1024.Idx → BitVec 1) (ix2 q k) = IntOp.cmpi .slt (IntOp.absi (relOf q k)) 8#32 := by
  after_reads_simp
  pointwise
  rfl
theorem e56 : (after L0 V (Proc.devRef .tc main_v56) : S1024x1024.Idx → BitVec 32) (ix2 q k) = IntOp.addi 8#32 (above (IntOp.absi (relOf q k))) := by
  after_reads_simp
  pointwise
  rfl

theorem e70 : sq (after L1 V (Proc.devRef .tc main_v70)) n h q k = ∑ d : Fin 64, tk (V (Proc.devRef .tc main_v0_0)) n h q d * tk (V (Proc.devRef .tc main_v0_1)) n h k d := by
  after_reads_simp
  dsimp only [sq]
  pointwise
  rfl

theorem e71 (h22 : (V (Proc.devRef .tc main_v22) : S1024x1024.Idx → BitVec 32) (ix2 q k) = relOf q k)
    (h23 : (V (Proc.devRef .tc main_v23) : S1024x1024.Idx → BitVec 32) (ix2 q k) = IntOp.absi (relOf q k))
    (h54 : (V (Proc.devRef .tc main_v54) : S1024x1024.Idx → BitVec 1) (ix2 q k) = IntOp.cmpi .slt (IntOp.absi (relOf q k)) 8#32)
    (h56 : (V (Proc.devRef .tc main_v56) : S1024x1024.Idx → BitVec 32) (ix2 q k) = IntOp.addi 8#32 (above (IntOp.absi (relOf q k)))) :
    (after L1 V (Proc.devRef .tc main_v71) : S20x1024x1024.Idx → EReal) (ix3 h q k)
      = biasOf (fun u => (V (Proc.devRef .tc main_arg8) : S20x32.Idx → EReal) (ix2 h u)) (bkt (relOf q k)) := by
  after_reads_simp
  pointwise
  simp only [ix2_eq_valueIdx, ix3_eq_valueIdx, ix4_eq_valueIdx]
  refine (oneHot _ _).trans (congrArg (biasOf _) ?_)
  show IntOp.addi (if ((V (Proc.devRef .tc main_v54) : S1024x1024.Idx → BitVec 1) (ix2 q k) : BitVec 1) = 1#1 then (V (Proc.devRef .tc main_v23) : S1024x1024.Idx → BitVec 32) (ix2 q k)
      else (V (Proc.devRef .tc main_v56) : S1024x1024.Idx → BitVec 32) (ix2 q k))
    (if IntOp.cmpi .sgt ((V (Proc.devRef .tc main_v22) : S1024x1024.Idx → BitVec 32) (ix2 q k)) 0#32 = 1 then 16#32 else 0#32) = _
  rw [h22, h23, h54, h56]
  rfl

/-- The row that is 1 at a pair's bucket. -/
theorem e69 (h22 : (V (Proc.devRef .tc main_v22) : S1024x1024.Idx → BitVec 32) (ix2 q k) = relOf q k)
    (h23 : (V (Proc.devRef .tc main_v23) : S1024x1024.Idx → BitVec 32) (ix2 q k) = IntOp.absi (relOf q k))
    (h54 : (V (Proc.devRef .tc main_v54) : S1024x1024.Idx → BitVec 1) (ix2 q k) = IntOp.cmpi .slt (IntOp.absi (relOf q k)) 8#32)
    (h56 : (V (Proc.devRef .tc main_v56) : S1024x1024.Idx → BitVec 32) (ix2 q k) = IntOp.addi 8#32 (above (IntOp.absi (relOf q k)))) (u : Fin 32) :
    (after L1 V (Proc.devRef .tc main_v69) : S1024x1024x32.Idx → EReal) (ix3 q k u)
      = (FloatOps.uitofp (F := I) FTy.f32 (IntOp.cmpi .eq (bkt (relOf q k)) (BitVec.ofNat 32 u.val)) : EReal) := by
  after_reads_simp
  pointwise
  simp only [ix2_eq_valueIdx, ix3_eq_valueIdx, ix4_eq_valueIdx]
  refine congrArg (fun w => (FloatOps.uitofp (F := I) FTy.f32 (IntOp.cmpi .eq w (BitVec.ofNat 32 u.val)) : EReal)) ?_
  show IntOp.addi (if ((V (Proc.devRef .tc main_v54) : S1024x1024.Idx → BitVec 1) (ix2 q k) : BitVec 1) = 1#1 then (V (Proc.devRef .tc main_v23) : S1024x1024.Idx → BitVec 32) (ix2 q k)
      else (V (Proc.devRef .tc main_v56) : S1024x1024.Idx → BitVec 32) (ix2 q k))
    (if IntOp.cmpi .sgt ((V (Proc.devRef .tc main_v22) : S1024x1024.Idx → BitVec 32) (ix2 q k)) 0#32 = 1 then 16#32 else 0#32) = _
  rw [h22, h23, h54, h56]
  rfl

/-- A product with such a row's entry. -/
theorem mul_hot (x : EReal) (w v : BitVec 32) : x * (FloatOps.uitofp (F := I) FTy.f32 (IntOp.cmpi .eq w v) : EReal) = if w = v then x else 0 := by
  split
  · rename_i e
    have : IntOp.cmpi .eq w v = 1#1 := by
      show BitVec.ofBool (w == v) = 1#1
      rw [e, beq_self_eq_true]; rfl
    rw [this]
    have one : (FloatOps.uitofp (F := I) FTy.f32 1#1 : EReal) = 1 := by
      show ((((1#1 : BitVec 1).toNat : ℕ) : ℝ) : EReal) = 1
      norm_num
    rw [one, mul_one]
  · rename_i e
    have : IntOp.cmpi .eq w v = 0#1 := by
      show BitVec.ofBool (w == v) = 0#1
      rw [beq_false_of_ne e]; rfl
    rw [this]
    have zero : (FloatOps.uitofp (F := I) FTy.f32 0#1 : EReal) = 0 := by
      show ((((0#1 : BitVec 1).toNat : ℕ) : ℝ) : EReal) = 0
      norm_num
    rw [zero, mul_zero]

theorem e82 : sq (after L2 V (Proc.devRef .tc main_v82)) n h q k
    = sq (V (Proc.devRef .tc main_v70)) n h q k * (((1 / 8 : ℝ) : EReal) * st (V (Proc.devRef .tc main_v4)) n h q) * st (V (Proc.devRef .tc main_v8)) n h k
      + (V (Proc.devRef .tc main_v71) : S20x1024x1024.Idx → EReal) (ix3 h q k) := by
  after_reads_simp
  pointwise
  simp only [ix2_eq_valueIdx, ix3_eq_valueIdx, ix4_eq_valueIdx]
  rw [ofBits_eighth_f32]

theorem e93 : sq (after L3 V (Proc.devRef .tc main_v93)) n h q k
    = Ideal.exp (sq (V (Proc.devRef .tc main_v82)) n h q k - ⨆ x, sq (V (Proc.devRef .tc main_v82)) n h q x)
      * Ideal.div 1 (∑ y, Ideal.exp (sq (V (Proc.devRef .tc main_v82)) n h q y - ⨆ x, sq (V (Proc.devRef .tc main_v82)) n h q x)) := by
  after_reads_simp
  pointwise
  simp only [ix2_eq_valueIdx, ix3_eq_valueIdx, ix4_eq_valueIdx]
  simp only [fold_max]

theorem e100 : sq (after L4 V (Proc.devRef .tc main_v100)) n h q k
    = (∑ d : Fin 64, tk (V (Proc.devRef .tc main_v0_3)) n h q d * tk (V (Proc.devRef .tc main_v0_2)) n h k d)
      * st (V (Proc.devRef .tc main_v16)) n h q * st (V (Proc.devRef .tc main_v12)) n h k := by
  after_reads_simp
  pointwise
  simp only [ix2_eq_valueIdx, ix3_eq_valueIdx, ix4_eq_valueIdx]

theorem e107 : sq (after L5 V (Proc.devRef .tc main_v107)) n h q k
    = sq (V (Proc.devRef .tc main_v93)) n h q k * (sq (V (Proc.devRef .tc main_v100)) n h q k
      - ∑ y, sq (V (Proc.devRef .tc main_v93)) n h q y * sq (V (Proc.devRef .tc main_v100)) n h q y) := by
  after_reads_simp
  pointwise
  simp only [ix2_eq_valueIdx, ix3_eq_valueIdx, ix4_eq_valueIdx]

theorem e106 : sq (after L5 V (Proc.devRef .tc main_v106)) n h q k
    = sq (V (Proc.devRef .tc main_v93)) n h q k * (sq (V (Proc.devRef .tc main_v100)) n h q k
      - ∑ y, sq (V (Proc.devRef .tc main_v93)) n h q y * sq (V (Proc.devRef .tc main_v100)) n h q y) := by
  after_reads_simp
  pointwise
  simp only [ix2_eq_valueIdx, ix3_eq_valueIdx, ix4_eq_valueIdx]

theorem e108 : sq (after L5 V (Proc.devRef .tc main_v108)) n h q k = sq (V (Proc.devRef .tc main_v93)) n h q k := by
  after_reads_simp
  pointwise

theorem e138 (u : Fin 32) : (after L6 V (Proc.devRef .tc main_v138) : S20x32.Idx → EReal) (ix2 h u)
    = ∑ q : Fin 1024, ∑ k : Fin 1024, (∑ n : Fin 2, sq (V (Proc.devRef .tc main_v106)) n h q k)
      * (V (Proc.devRef .tc main_v69) : S1024x1024x32.Idx → EReal) (ix3 q k u) := by
  after_reads_simp
  pointwise
  simp only [ix2_eq_valueIdx, ix3_eq_valueIdx, ix4_eq_valueIdx]
  have swap : ∀ f : Fin 1024 → Fin 1024 → EReal, (∑ k, ∑ q, f q k) = ∑ q, ∑ k, f q k := fun f => Finset.sum_comm
  exact swap fun q k => (∑ n : Fin 2, sq (V (Proc.devRef .tc main_v106)) n h q k)
    * (V (Proc.devRef .tc main_v69) : S1024x1024x32.Idx → EReal) (ix3 q k u)
theorem e136 : tk (after L6 V (Proc.devRef .tc main_v136)) n h t d
    = ∑ q, tk (V (Proc.devRef .tc main_v0_3)) n h q d * bs (V (Proc.devRef .tc main_arg7)) n h q * sq (V (Proc.devRef .tc main_v108)) n h q t := by
  after_reads_simp
  pointwise
  simp only [ix2_eq_valueIdx, ix3_eq_valueIdx, ix4_eq_valueIdx]
  rfl
theorem e135 : tk (after L6 V (Proc.devRef .tc main_v135)) n h t d
    = ((1 / 8 : ℝ) : EReal) * ∑ q, tk (V (Proc.devRef .tc main_v0_0)) n h q d * bs (V (Proc.devRef .tc main_arg1)) n h q * sq (V (Proc.devRef .tc main_v107)) n h q t := by
  after_reads_simp
  pointwise
  simp only [ix2_eq_valueIdx, ix3_eq_valueIdx, ix4_eq_valueIdx]
  rw [ofBits_eighth_f32]
  rfl
theorem e134 : tk (after L6 V (Proc.devRef .tc main_v134)) n h t d
    = ((1 / 8 : ℝ) : EReal) * ∑ k, tk (V (Proc.devRef .tc main_v0_1)) n h k d * bs (V (Proc.devRef .tc main_arg3)) n h k * sq (V (Proc.devRef .tc main_v107)) n h t k := by
  after_reads_simp
  pointwise
  simp only [ix2_eq_valueIdx, ix3_eq_valueIdx, ix4_eq_valueIdx]
  rw [ofBits_eighth_f32]
  rfl
end Cert.ReferenceIdeal.RefValue
end
-- ==== Proof.RRun.lean ====
module

public import proofs.«01_k».proof.Proof.RChunk
public import proofs.«01_k».proof.Proof.DBias
public import Idealize.ShloMosaic.Lib.Pipeline.ValueKit

@[expose] public section

set_option maxRecDepth 16384

/-! # What the reference computes

The stretches of host operations one after the other, over the decoded codes. -/

noncomputable section

namespace Cert.ReferenceIdeal.RefValue

open Idealize.ShloMosaic hiding ix1 ix2 ix3 ix4 ix5
open Idealize.ShloMosaic.TcCoe Idealize.ShloMosaic.Tactic Idealize.SL.Sem Idealize.ShloMosaic.StableHlo
open Cert.ReferenceIdeal Cert.ReferenceIdeal.Gen Cert.Attn
open ValueIdx

variable (V : Valuation τ sig (Elt I)) (n : Fin 2) (h : Fin 20) (q k t : Fin 1024) (d : Fin 64)

/-! ## What a stretch leaves alone -/

set_option maxHeartbeats 4000000

/-- A stretch leaves these as they were. -/
theorem keep0 : ∀ r ∈ [main_arg1, main_arg3, main_arg7, main_arg8, main_v0_0, main_v0_1, main_v0_2, main_v0_3], after L0 V (Proc.devRef .tc r) = V (Proc.devRef .tc r) := by
  simp only [List.forall_mem_cons, List.not_mem_nil, false_imp_iff, implies_true, and_true]
  refine ⟨?_, ?_, ?_, ?_, ?_, ?_, ?_, ?_⟩ <;> after_reads_simp
@[inherit_doc keep0] theorem keep1 : ∀ r ∈ [main_v4, main_v8, main_v12, main_v16, main_arg1, main_arg3, main_arg7, main_v0_0, main_v0_1, main_v0_2, main_v0_3], after L1 V (Proc.devRef .tc r) = V (Proc.devRef .tc r) := by
  simp only [List.forall_mem_cons, List.not_mem_nil, false_imp_iff, implies_true, and_true]
  refine ⟨?_, ?_, ?_, ?_, ?_, ?_, ?_, ?_, ?_, ?_, ?_⟩ <;> after_reads_simp
@[inherit_doc keep0] theorem keep2 : ∀ r ∈ [main_v69, main_v12, main_v16, main_arg1, main_arg3, main_arg7, main_v0_0, main_v0_1, main_v0_2, main_v0_3], after L2 V (Proc.devRef .tc r) = V (Proc.devRef .tc r) := by
  simp only [List.forall_mem_cons, List.not_mem_nil, false_imp_iff, implies_true, and_true]
  refine ⟨?_, ?_, ?_, ?_, ?_, ?_, ?_, ?_, ?_, ?_⟩ <;> after_reads_simp
@[inherit_doc keep0] theorem keep3 : ∀ r ∈ [main_v69, main_v12, main_v16, main_arg1, main_arg3, main_arg7, main_v0_0, main_v0_1, main_v0_2, main_v0_3], after L3 V (Proc.devRef .tc r) = V (Proc.devRef .tc r) := by
  simp only [List.forall_mem_cons, List.not_mem_nil, false_imp_iff, implies_true, and_true]
  refine ⟨?_, ?_, ?_, ?_, ?_, ?_, ?_, ?_, ?_, ?_⟩ <;> after_reads_simp
@[inherit_doc keep0] theorem keep4 : ∀ r ∈ [main_v69, main_v93, main_arg1, main_arg3, main_arg7, main_v0_0, main_v0_1, main_v0_3], after L4 V (Proc.devRef .tc r) = V (Proc.devRef .tc r) := by
  simp only [List.forall_mem_cons, List.not_mem_nil, false_imp_iff, implies_true, and_true]
  refine ⟨?_, ?_, ?_, ?_, ?_, ?_, ?_, ?_⟩ <;> after_reads_simp
@[inherit_doc keep0] theorem keep5 : ∀ r ∈ [main_v69, main_arg1, main_arg3, main_arg7, main_v0_0, main_v0_1, main_v0_3], after L5 V (Proc.devRef .tc r) = V (Proc.devRef .tc r) := by
  simp only [List.forall_mem_cons, List.not_mem_nil, false_imp_iff, implies_true, and_true]
  refine ⟨?_, ?_, ?_, ?_, ?_, ?_, ?_⟩ <;> after_reads_simp

/-- The contents after the stretches. -/
def S1 : Valuation τ sig (Elt I) := after L0 V
@[inherit_doc S1] def S2 : Valuation τ sig (Elt I) := after L1 (S1 V)
@[inherit_doc S1] def S3 : Valuation τ sig (Elt I) := after L2 (S2 V)
@[inherit_doc S1] def S4 : Valuation τ sig (Elt I) := after L3 (S3 V)
@[inherit_doc S1] def S5 : Valuation τ sig (Elt I) := after L4 (S4 V)
@[inherit_doc S1] def S6 : Valuation τ sig (Elt I) := after L5 (S5 V)
@[inherit_doc S1] def S7 : Valuation τ sig (Elt I) := after L6 (S6 V)

theorem S_all : after [hostOps1, hostOps1_1, hostOps1_2, hostOps1_3, hostOps1_4].flatten V = S7 V := by
  rw [split]
  simp only [after_append]
  rfl

/-- What the stretches leave alone, from the first contents. -/
theorem c_arg1_1 : S1 V (Proc.devRef .tc main_arg1) = V (Proc.devRef .tc main_arg1) := (keep0 V main_arg1 (by simp))
theorem c_arg1_2 : S2 V (Proc.devRef .tc main_arg1) = V (Proc.devRef .tc main_arg1) := (keep1 (S1 V) main_arg1 (by simp)).trans (c_arg1_1 V)
theorem c_arg1_3 : S3 V (Proc.devRef .tc main_arg1) = V (Proc.devRef .tc main_arg1) := (keep2 (S2 V) main_arg1 (by simp)).trans (c_arg1_2 V)
theorem c_arg1_4 : S4 V (Proc.devRef .tc main_arg1) = V (Proc.devRef .tc main_arg1) := (keep3 (S3 V) main_arg1 (by simp)).trans (c_arg1_3 V)
theorem c_arg1_5 : S5 V (Proc.devRef .tc main_arg1) = V (Proc.devRef .tc main_arg1) := (keep4 (S4 V) main_arg1 (by simp)).trans (c_arg1_4 V)
theorem c_arg1_6 : S6 V (Proc.devRef .tc main_arg1) = V (Proc.devRef .tc main_arg1) := (keep5 (S5 V) main_arg1 (by simp)).trans (c_arg1_5 V)
theorem c_arg3_1 : S1 V (Proc.devRef .tc main_arg3) = V (Proc.devRef .tc main_arg3) := (keep0 V main_arg3 (by simp))
theorem c_arg3_2 : S2 V (Proc.devRef .tc main_arg3) = V (Proc.devRef .tc main_arg3) := (keep1 (S1 V) main_arg3 (by simp)).trans (c_arg3_1 V)
theorem c_arg3_3 : S3 V (Proc.devRef .tc main_arg3) = V (Proc.devRef .tc main_arg3) := (keep2 (S2 V) main_arg3 (by simp)).trans (c_arg3_2 V)
theorem c_arg3_4 : S4 V (Proc.devRef .tc main_arg3) = V (Proc.devRef .tc main_arg3) := (keep3 (S3 V) main_arg3 (by simp)).trans (c_arg3_3 V)
theorem c_arg3_5 : S5 V (Proc.devRef .tc main_arg3) = V (Proc.devRef .tc main_arg3) := (keep4 (S4 V) main_arg3 (by simp)).trans (c_arg3_4 V)
theorem c_arg3_6 : S6 V (Proc.devRef .tc main_arg3) = V (Proc.devRef .tc main_arg3) := (keep5 (S5 V) main_arg3 (by simp)).trans (c_arg3_5 V)
theorem c_arg7_1 : S1 V (Proc.devRef .tc main_arg7) = V (Proc.devRef .tc main_arg7) := (keep0 V main_arg7 (by simp))
theorem c_arg7_2 : S2 V (Proc.devRef .tc main_arg7) = V (Proc.devRef .tc main_arg7) := (keep1 (S1 V) main_arg7 (by simp)).trans (c_arg7_1 V)
theorem c_arg7_3 : S3 V (Proc.devRef .tc main_arg7) = V (Proc.devRef .tc main_arg7) := (keep2 (S2 V) main_arg7 (by simp)).trans (c_arg7_2 V)
theorem c_arg7_4 : S4 V (Proc.devRef .tc main_arg7) = V (Proc.devRef .tc main_arg7) := (keep3 (S3 V) main_arg7 (by simp)).trans (c_arg7_3 V)
theorem c_arg7_5 : S5 V (Proc.devRef .tc main_arg7) = V (Proc.devRef .tc main_arg7) := (keep4 (S4 V) main_arg7 (by simp)).trans (c_arg7_4 V)
theorem c_arg7_6 : S6 V (Proc.devRef .tc main_arg7) = V (Proc.devRef .tc main_arg7) := (keep5 (S5 V) main_arg7 (by simp)).trans (c_arg7_5 V)
theorem c_v0_0_1 : S1 V (Proc.devRef .tc main_v0_0) = V (Proc.devRef .tc main_v0_0) := (keep0 V main_v0_0 (by simp))
theorem c_v0_0_2 : S2 V (Proc.devRef .tc main_v0_0) = V (Proc.devRef .tc main_v0_0) := (keep1 (S1 V) main_v0_0 (by simp)).trans (c_v0_0_1 V)
theorem c_v0_0_3 : S3 V (Proc.devRef .tc main_v0_0) = V (Proc.devRef .tc main_v0_0) := (keep2 (S2 V) main_v0_0 (by simp)).trans (c_v0_0_2 V)
theorem c_v0_0_4 : S4 V (Proc.devRef .tc main_v0_0) = V (Proc.devRef .tc main_v0_0) := (keep3 (S3 V) main_v0_0 (by simp)).trans (c_v0_0_3 V)
theorem c_v0_0_5 : S5 V (Proc.devRef .tc main_v0_0) = V (Proc.devRef .tc main_v0_0) := (keep4 (S4 V) main_v0_0 (by simp)).trans (c_v0_0_4 V)
theorem c_v0_0_6 : S6 V (Proc.devRef .tc main_v0_0) = V (Proc.devRef .tc main_v0_0) := (keep5 (S5 V) main_v0_0 (by simp)).trans (c_v0_0_5 V)
theorem c_v0_1_1 : S1 V (Proc.devRef .tc main_v0_1) = V (Proc.devRef .tc main_v0_1) := (keep0 V main_v0_1 (by simp))
theorem c_v0_1_2 : S2 V (Proc.devRef .tc main_v0_1) = V (Proc.devRef .tc main_v0_1) := (keep1 (S1 V) main_v0_1 (by simp)).trans (c_v0_1_1 V)
theorem c_v0_1_3 : S3 V (Proc.devRef .tc main_v0_1) = V (Proc.devRef .tc main_v0_1) := (keep2 (S2 V) main_v0_1 (by simp)).trans (c_v0_1_2 V)
theorem c_v0_1_4 : S4 V (Proc.devRef .tc main_v0_1) = V (Proc.devRef .tc main_v0_1) := (keep3 (S3 V) main_v0_1 (by simp)).trans (c_v0_1_3 V)
theorem c_v0_1_5 : S5 V (Proc.devRef .tc main_v0_1) = V (Proc.devRef .tc main_v0_1) := (keep4 (S4 V) main_v0_1 (by simp)).trans (c_v0_1_4 V)
theorem c_v0_1_6 : S6 V (Proc.devRef .tc main_v0_1) = V (Proc.devRef .tc main_v0_1) := (keep5 (S5 V) main_v0_1 (by simp)).trans (c_v0_1_5 V)
theorem c_v0_3_1 : S1 V (Proc.devRef .tc main_v0_3) = V (Proc.devRef .tc main_v0_3) := (keep0 V main_v0_3 (by simp))
theorem c_v0_3_2 : S2 V (Proc.devRef .tc main_v0_3) = V (Proc.devRef .tc main_v0_3) := (keep1 (S1 V) main_v0_3 (by simp)).trans (c_v0_3_1 V)
theorem c_v0_3_3 : S3 V (Proc.devRef .tc main_v0_3) = V (Proc.devRef .tc main_v0_3) := (keep2 (S2 V) main_v0_3 (by simp)).trans (c_v0_3_2 V)
theorem c_v0_3_4 : S4 V (Proc.devRef .tc main_v0_3) = V (Proc.devRef .tc main_v0_3) := (keep3 (S3 V) main_v0_3 (by simp)).trans (c_v0_3_3 V)
theorem c_v0_3_5 : S5 V (Proc.devRef .tc main_v0_3) = V (Proc.devRef .tc main_v0_3) := (keep4 (S4 V) main_v0_3 (by simp)).trans (c_v0_3_4 V)
theorem c_v0_3_6 : S6 V (Proc.devRef .tc main_v0_3) = V (Proc.devRef .tc main_v0_3) := (keep5 (S5 V) main_v0_3 (by simp)).trans (c_v0_3_5 V)
theorem c_v0_2_1 : S1 V (Proc.devRef .tc main_v0_2) = V (Proc.devRef .tc main_v0_2) := (keep0 V main_v0_2 (by simp))
theorem c_v0_2_2 : S2 V (Proc.devRef .tc main_v0_2) = V (Proc.devRef .tc main_v0_2) := (keep1 (S1 V) main_v0_2 (by simp)).trans (c_v0_2_1 V)
theorem c_v0_2_3 : S3 V (Proc.devRef .tc main_v0_2) = V (Proc.devRef .tc main_v0_2) := (keep2 (S2 V) main_v0_2 (by simp)).trans (c_v0_2_2 V)
theorem c_v0_2_4 : S4 V (Proc.devRef .tc main_v0_2) = V (Proc.devRef .tc main_v0_2) := (keep3 (S3 V) main_v0_2 (by simp)).trans (c_v0_2_3 V)
theorem c_v4_2 : S2 V (Proc.devRef .tc main_v4) = S1 V (Proc.devRef .tc main_v4) := (keep1 (S1 V) main_v4 (by simp))
theorem c_v8_2 : S2 V (Proc.devRef .tc main_v8) = S1 V (Proc.devRef .tc main_v8) := (keep1 (S1 V) main_v8 (by simp))
theorem c_v12_2 : S2 V (Proc.devRef .tc main_v12) = S1 V (Proc.devRef .tc main_v12) := (keep1 (S1 V) main_v12 (by simp))
theorem c_v12_3 : S3 V (Proc.devRef .tc main_v12) = S1 V (Proc.devRef .tc main_v12) := (keep2 (S2 V) main_v12 (by simp)).trans (c_v12_2 V)
theorem c_v12_4 : S4 V (Proc.devRef .tc main_v12) = S1 V (Proc.devRef .tc main_v12) := (keep3 (S3 V) main_v12 (by simp)).trans (c_v12_3 V)
theorem c_v16_2 : S2 V (Proc.devRef .tc main_v16) = S1 V (Proc.devRef .tc main_v16) := (keep1 (S1 V) main_v16 (by simp))
theorem c_v16_3 : S3 V (Proc.devRef .tc main_v16) = S1 V (Proc.devRef .tc main_v16) := (keep2 (S2 V) main_v16 (by simp)).trans (c_v16_2 V)
theorem c_v16_4 : S4 V (Proc.devRef .tc main_v16) = S1 V (Proc.devRef .tc main_v16) := (keep3 (S3 V) main_v16 (by simp)).trans (c_v16_3 V)
theorem c_v93_5 : S5 V (Proc.devRef .tc main_v93) = S4 V (Proc.devRef .tc main_v93) := keep4 (S4 V) main_v93 (by simp)
theorem c_v69_3 : S3 V (Proc.devRef .tc main_v69) = S2 V (Proc.devRef .tc main_v69) := (keep2 (S2 V) main_v69 (by simp))
theorem c_v69_4 : S4 V (Proc.devRef .tc main_v69) = S2 V (Proc.devRef .tc main_v69) := (keep3 (S3 V) main_v69 (by simp)).trans (c_v69_3 V)
theorem c_v69_5 : S5 V (Proc.devRef .tc main_v69) = S2 V (Proc.devRef .tc main_v69) := (keep4 (S4 V) main_v69 (by simp)).trans (c_v69_4 V)
theorem c_v69_6 : S6 V (Proc.devRef .tc main_v69) = S2 V (Proc.devRef .tc main_v69) := (keep5 (S5 V) main_v69 (by simp)).trans (c_v69_5 V)

/-- The data that the contents hold. -/
def dat (n : Fin 2) (h : Fin 20) : Data where
  q := tk (V (Proc.devRef .tc main_v0_0)) n h
  k := tk (V (Proc.devRef .tc main_v0_1)) n h
  v := tk (V (Proc.devRef .tc main_v0_2)) n h
  o := tk (V (Proc.devRef .tc main_v0_3)) n h
  qs := bs (V (Proc.devRef .tc main_arg1)) n h
  ks := bs (V (Proc.devRef .tc main_arg3)) n h
  vs := bs (V (Proc.devRef .tc main_arg5)) n h
  os := bs (V (Proc.devRef .tc main_arg7)) n h
  b q k := biasOf (fun u => (V (Proc.devRef .tc main_arg8) : S20x32.Idx → EReal) (ix2 h u)) (bkt (relOf q k))

theorem s_eq : sq (S3 V (Proc.devRef .tc main_v82)) n h q k = (dat V n h).s q k := by
  refine (e82 (S2 V) n h q k).trans ?_
  have h1 : sq (S2 V (Proc.devRef .tc main_v70)) n h q k = (dat V n h).raw q k := by
    refine (e70 (S1 V) n h q k).trans ?_
    rw [c_v0_0_1, c_v0_1_1]; rfl
  have h2 : st (S2 V (Proc.devRef .tc main_v4)) n h q = (dat V n h).qs q := by
    rw [c_v4_2]; exact e4 V n h q
  have h3 : st (S2 V (Proc.devRef .tc main_v8)) n h k = (dat V n h).ks k := by
    rw [c_v8_2]; exact e8 V n h k
  have h4 : (S2 V (Proc.devRef .tc main_v71) : S20x1024x1024.Idx → EReal) (ix3 h q k) = (dat V n h).b q k := by
    refine (e71 (S1 V) h q k (e22 V q k) (e23 V q k) (e54 V q k) (e56 V q k)).trans ?_
    have : S1 V (Proc.devRef .tc main_arg8) = V (Proc.devRef .tc main_arg8) := keep0 V main_arg8 (by simp)
    rw [this]; rfl
  rw [h1, h2, h3, h4]; rfl

theorem P_eq : sq (S4 V (Proc.devRef .tc main_v93)) n h q k = (dat V n h).P q k := by
  refine (e93 (S3 V) n h q k).trans ?_
  have hs : sq (S3 V (Proc.devRef .tc main_v82)) n h q = (dat V n h).s q := funext fun k => s_eq V n h q k
  generalize sq (S3 V (Proc.devRef .tc main_v82)) n h q = f at hs
  subst hs
  rfl

theorem dp_eq : sq (S5 V (Proc.devRef .tc main_v100)) n h q k = (dat V n h).dp q k := by
  refine (e100 (S4 V) n h q k).trans ?_
  rw [c_v0_3_4, c_v0_2_4, c_v16_4, c_v12_4]
  rw [show st (S1 V (Proc.devRef .tc main_v16)) n h q = (dat V n h).os q from e16 V n h q,
    show st (S1 V (Proc.devRef .tc main_v12)) n h k = (dat V n h).vs k from e12 V n h k]
  rfl

theorem ds_eq : sq (S6 V (Proc.devRef .tc main_v107)) n h q k = (dat V n h).ds q k := by
  refine (e107 (S5 V) n h q k).trans ?_
  rw [c_v93_5]
  have hP : sq (S4 V (Proc.devRef .tc main_v93)) n h q = (dat V n h).P q := funext fun k => P_eq V n h q k
  have hd : sq (S5 V (Proc.devRef .tc main_v100)) n h q = (dat V n h).dp q := funext fun k => dp_eq V n h q k
  generalize sq (S4 V (Proc.devRef .tc main_v93)) n h q = f at hP
  generalize sq (S5 V (Proc.devRef .tc main_v100)) n h q = g at hd
  subst hP hd
  rfl

theorem ds_eq' : sq (S6 V (Proc.devRef .tc main_v106)) n h q k = (dat V n h).ds q k := by
  refine (e106 (S5 V) n h q k).trans ?_
  rw [c_v93_5]
  have hP : sq (S4 V (Proc.devRef .tc main_v93)) n h q = (dat V n h).P q := funext fun k => P_eq V n h q k
  have hd : sq (S5 V (Proc.devRef .tc main_v100)) n h q = (dat V n h).dp q := funext fun k => dp_eq V n h q k
  generalize sq (S4 V (Proc.devRef .tc main_v93)) n h q = f at hP
  generalize sq (S5 V (Proc.devRef .tc main_v100)) n h q = g at hd
  subst hP hd
  rfl

theorem P_eq' : sq (S6 V (Proc.devRef .tc main_v108)) n h q k = (dat V n h).P q k := by
  refine (e108 (S5 V) n h q k).trans ?_
  rw [c_v93_5, P_eq]

theorem dv_eq : tk (S7 V (Proc.devRef .tc main_v136)) n h t d = (dat V n h).dv t d := by
  refine (e136 (S6 V) n h t d).trans ?_
  rw [c_v0_3_6, c_arg7_6]
  refine Finset.sum_congr rfl fun q _ => ?_
  rw [P_eq', mul_comm]; rfl
theorem dk_eq : tk (S7 V (Proc.devRef .tc main_v135)) n h t d = (dat V n h).dk t d := by
  refine (e135 (S6 V) n h t d).trans (congrArg _ ?_)
  rw [c_v0_0_6, c_arg1_6]
  refine Finset.sum_congr rfl fun q _ => ?_
  rw [ds_eq, mul_comm]; rfl
theorem dq_eq : tk (S7 V (Proc.devRef .tc main_v134)) n h t d = (dat V n h).dq t d := by
  refine (e134 (S6 V) n h t d).trans (congrArg _ ?_)
  rw [c_v0_1_6, c_arg3_6]
  refine Finset.sum_congr rfl fun q _ => ?_
  rw [ds_eq, mul_comm]; rfl

theorem hot_eq (u : Fin 32) : (S6 V (Proc.devRef .tc main_v69) : S1024x1024x32.Idx → EReal) (ix3 q k u)
    = (FloatOps.uitofp (F := I) FTy.f32 (IntOp.cmpi .eq (bkt (relOf q k)) (BitVec.ofNat 32 u.val)) : EReal) := by
  rw [c_v69_6]
  exact e69 (S1 V) q k (e22 V q k) (e23 V q k) (e54 V q k) (e56 V q k) u

/-- Two sums over the pairs agree where their terms do. -/
theorem sum_pairs (f g : Fin 1024 → Fin 1024 → EReal) (e : ∀ q k, f q k = g q k) : (∑ q, ∑ k, f q k) = ∑ q, ∑ k, g q k :=
  Finset.sum_congr rfl fun q _ => Finset.sum_congr rfl fun k _ => e q k

theorem db_eq (u : Fin 32) : (S7 V (Proc.devRef .tc main_v138) : S20x32.Idx → EReal) (ix2 h u) = ∑ n : Fin 2, (dat V n h).db u := by
  refine (e138 (S6 V) h u).trans ?_
  have e : ∀ q k : Fin 1024, ((∑ n : Fin 2, sq (S6 V (Proc.devRef .tc main_v106)) n h q k) * (S6 V (Proc.devRef .tc main_v69) : S1024x1024x32.Idx → EReal) (ix3 q k u) : EReal)
      = (if bkt (relOf q k) = BitVec.ofNat 32 u.val then (dat V 0 h).ds q k else 0) + if bkt (relOf q k) = BitVec.ofNat 32 u.val then (dat V 1 h).ds q k else 0 := by
    intro q k
    rw [hot_eq, mul_hot, Fin.sum_univ_two, ds_eq', ds_eq']
    split
    · rfl
    · exact (add_zero _).symm
  rw [Fin.sum_univ_two]
  unfold Data.db
  simp only [← Finset.sum_add_distrib]
  exact sum_pairs _ _ e

/-! ## The decoded codes -/

variable (m : (ℓ : Loc nD τ sig) → Buf (Elt I) ℓ) (ρ : Dev nD → PrngReg) (c : Dev nD)

theorem arr4 : (dats m 0 c).arrAt 4 (cfgs 0).N = fun z : S2x1024x20x64.Idx => (m ((c.tc : Thread nD τ).loc main_arg0) : S2x1024x20x64.Idx → EReal) z := by
  refine (dats m 0 c).arrAt_eq_of_covers 4 _ (by decide +kernel) fun t hf y => ?_
  blk_simp
  rw [after0_4]
  unfold out0_4
  rw [View.canon_unit_zero (by funext a; fin_cases a <;> rfl)]
  rw [View.ld_unit_zero (by funext a; fin_cases a <;> rfl)]
  show V m c main_arg0 ((win0_0.blk t).view.emb y) = _
  exact congrArg (fun z : S2x1024x20x64.Idx => (m ((c.tc : Thread nD τ).loc main_arg0) : S2x1024x20x64.Idx → EReal) z) rfl
theorem arr5 : (dats m 0 c).arrAt 5 (cfgs 0).N = fun z : S2x1024x20x64.Idx => (m ((c.tc : Thread nD τ).loc main_arg2) : S2x1024x20x64.Idx → EReal) z := by
  refine (dats m 0 c).arrAt_eq_of_covers 5 _ (by decide +kernel) fun t hf y => ?_
  blk_simp
  rw [after0_5]
  unfold out0_5
  rw [View.canon_unit_zero (by funext a; fin_cases a <;> rfl)]
  rw [View.ld_unit_zero (by funext a; fin_cases a <;> rfl)]
  show V m c main_arg2 ((win0_1.blk t).view.emb y) = _
  exact congrArg (fun z : S2x1024x20x64.Idx => (m ((c.tc : Thread nD τ).loc main_arg2) : S2x1024x20x64.Idx → EReal) z) rfl
theorem arr6 : (dats m 0 c).arrAt 6 (cfgs 0).N = fun z : S2x1024x20x64.Idx => (m ((c.tc : Thread nD τ).loc main_arg4) : S2x1024x20x64.Idx → EReal) z := by
  refine (dats m 0 c).arrAt_eq_of_covers 6 _ (by decide +kernel) fun t hf y => ?_
  blk_simp
  rw [after0_6]
  unfold out0_6
  rw [View.canon_unit_zero (by funext a; fin_cases a <;> rfl)]
  rw [View.ld_unit_zero (by funext a; fin_cases a <;> rfl)]
  show V m c main_arg4 ((win0_2.blk t).view.emb y) = _
  exact congrArg (fun z : S2x1024x20x64.Idx => (m ((c.tc : Thread nD τ).loc main_arg4) : S2x1024x20x64.Idx → EReal) z) rfl
theorem arr7 : (dats m 0 c).arrAt 7 (cfgs 0).N = fun z : S2x1024x20x64.Idx => (m ((c.tc : Thread nD τ).loc main_arg6) : S2x1024x20x64.Idx → EReal) z := by
  refine (dats m 0 c).arrAt_eq_of_covers 7 _ (by decide +kernel) fun t hf y => ?_
  blk_simp
  rw [after0_7]
  unfold out0_7
  rw [View.canon_unit_zero (by funext a; fin_cases a <;> rfl)]
  rw [View.ld_unit_zero (by funext a; fin_cases a <;> rfl)]
  show V m c main_arg6 ((win0_3.blk t).view.emb y) = _
  exact congrArg (fun z : S2x1024x20x64.Idx => (m ((c.tc : Thread nD τ).loc main_arg6) : S2x1024x20x64.Idx → EReal) z) rfl

/-- The contents after the decoding. -/
def W : Valuation τ sig (Elt I) := Pipeline.withArrays (cfgs 0).spec c (V0 m c) (fun w => (dats m 0 c).arrAt w (cfgs 0).N)

theorem W_v0_0 : W m c (Proc.devRef .tc main_v0_0) = fun z : S2x1024x20x64.Idx => (m ((c.tc : Thread nD τ).loc main_arg0) : S2x1024x20x64.Idx → EReal) z :=
  (Pipeline.withArrays_arr (cfgs 0).spec (by decide) c (V0 m c) (fun w => (dats m 0 c).arrAt w (cfgs 0).N) 4).trans (arr4 m c)
theorem W_v0_1 : W m c (Proc.devRef .tc main_v0_1) = fun z : S2x1024x20x64.Idx => (m ((c.tc : Thread nD τ).loc main_arg2) : S2x1024x20x64.Idx → EReal) z :=
  (Pipeline.withArrays_arr (cfgs 0).spec (by decide) c (V0 m c) (fun w => (dats m 0 c).arrAt w (cfgs 0).N) 5).trans (arr5 m c)
theorem W_v0_2 : W m c (Proc.devRef .tc main_v0_2) = fun z : S2x1024x20x64.Idx => (m ((c.tc : Thread nD τ).loc main_arg4) : S2x1024x20x64.Idx → EReal) z :=
  (Pipeline.withArrays_arr (cfgs 0).spec (by decide) c (V0 m c) (fun w => (dats m 0 c).arrAt w (cfgs 0).N) 6).trans (arr6 m c)
theorem W_v0_3 : W m c (Proc.devRef .tc main_v0_3) = fun z : S2x1024x20x64.Idx => (m ((c.tc : Thread nD τ).loc main_arg6) : S2x1024x20x64.Idx → EReal) z :=
  (Pipeline.withArrays_arr (cfgs 0).spec (by decide) c (V0 m c) (fun w => (dats m 0 c).arrAt w (cfgs 0).N) 7).trans (arr7 m c)
theorem W_arg1 : W m c (Proc.devRef .tc main_arg1) = m ((c.tc : Thread nD τ).loc main_arg1) :=
  Pipeline.withArrays_of_ne _ c (V0 m c) _ main_arg1 (by exact (by decide : ∀ w, Pipeline.arrRef spec0 w ≠ main_arg1))
theorem W_arg3 : W m c (Proc.devRef .tc main_arg3) = m ((c.tc : Thread nD τ).loc main_arg3) :=
  Pipeline.withArrays_of_ne _ c (V0 m c) _ main_arg3 (by exact (by decide : ∀ w, Pipeline.arrRef spec0 w ≠ main_arg3))
theorem W_arg5 : W m c (Proc.devRef .tc main_arg5) = m ((c.tc : Thread nD τ).loc main_arg5) :=
  Pipeline.withArrays_of_ne _ c (V0 m c) _ main_arg5 (by exact (by decide : ∀ w, Pipeline.arrRef spec0 w ≠ main_arg5))
theorem W_arg7 : W m c (Proc.devRef .tc main_arg7) = m ((c.tc : Thread nD τ).loc main_arg7) :=
  Pipeline.withArrays_of_ne _ c (V0 m c) _ main_arg7 (by exact (by decide : ∀ w, Pipeline.arrRef spec0 w ≠ main_arg7))
theorem W_arg8 : W m c (Proc.devRef .tc main_arg8) = m ((c.tc : Thread nD τ).loc main_arg8) :=
  Pipeline.withArrays_of_ne _ c (V0 m c) _ main_arg8 (by exact (by decide : ∀ w, Pipeline.arrRef spec0 w ≠ main_arg8))

theorem dat_W : dat (W m c) = dataOf (m ((c.tc : Thread nD τ).loc main_arg0)) (m ((c.tc : Thread nD τ).loc main_arg2)) (m ((c.tc : Thread nD τ).loc main_arg4)) (m ((c.tc : Thread nD τ).loc main_arg6))
    (m ((c.tc : Thread nD τ).loc main_arg1)) (m ((c.tc : Thread nD τ).loc main_arg3)) (m ((c.tc : Thread nD τ).loc main_arg5)) (m ((c.tc : Thread nD τ).loc main_arg7)) (m ((c.tc : Thread nD τ).loc main_arg8)) := by
  funext n h
  unfold dat dataOf
  rw [W_v0_0, W_v0_1, W_v0_2, W_v0_3, W_arg1, W_arg3, W_arg5, W_arg7, W_arg8]

/-- The run, with the gradients that it leaves. -/
theorem values : θ_run defs (onTc (τ := τ) (main (F := I))) ⟨m, fun _ => 0, ρ⟩ (fun r => ∀ c : Dev nD,
      r.2.mem ((c.tc : Thread nD τ).loc main_v134) = (fun z : S2x1024x20x64.Idx => (dat (W m c) (z 0) (z 2)).dq (z 1) (z 3))
      ∧ r.2.mem ((c.tc : Thread nD τ).loc main_v135) = (fun z : S2x1024x20x64.Idx => (dat (W m c) (z 0) (z 2)).dk (z 1) (z 3))
      ∧ r.2.mem ((c.tc : Thread nD τ).loc main_v136) = (fun z : S2x1024x20x64.Idx => (dat (W m c) (z 0) (z 2)).dv (z 1) (z 3))
      ∧ r.2.mem ((c.tc : Thread nD τ).loc main_v138) = (fun z : S20x32.Idx => ∑ n : Fin 2, (dat (W m c) n (z 0)).db (z 1))) := by
  run_from run_main m ρ
  all_goals
    unfold Pipeline.afterTail₀
    funext z
    refine (congrFun (congrFun (S_all (W m c)) _) z).trans ?_
  · exact (congrArg (S7 (W m c) (Proc.devRef .tc main_v134)) (ValueIdx.eq_ix4 z)).trans (dq_eq (W m c) (z 0) (z 2) (z 1) (z 3))
  · exact (congrArg (S7 (W m c) (Proc.devRef .tc main_v135)) (ValueIdx.eq_ix4 z)).trans (dk_eq (W m c) (z 0) (z 2) (z 1) (z 3))
  · exact (congrArg (S7 (W m c) (Proc.devRef .tc main_v136)) (ValueIdx.eq_ix4 z)).trans (dv_eq (W m c) (z 0) (z 2) (z 1) (z 3))
  · exact (congrArg (S7 (W m c) (Proc.devRef .tc main_v138)) (ValueIdx.eq_ix2 z)).trans (db_eq (W m c) (z 0) (z 1))

end Cert.ReferenceIdeal.RefValue
end
-- ==== Proof.Values.lean ====
module

public import proofs.«01_k».proof.Defs
public import proofs.«01_k».proof.Proof.Gen.KernelIdeal.Frame
public import proofs.«01_k».proof.Proof.KRun
public import proofs.«01_k».proof.Proof.RRun

@[expose] public section

/-! # The precondition, and the two programs' results

The scales that the precondition admits make every head's data what the arithmetic asks of it; the two programs then
leave the same gradients. -/

noncomputable section

namespace Cert.Proof

open Idealize.ShloMosaic hiding ix1 ix2 ix3 ix4 ix5
open Idealize.ShloMosaic.TcCoe Idealize.ShloMosaic.Tactic Idealize.SL.Sem
open Cert.Attn
open ValueIdx
abbrev I := Idealize.ShloMosaic.Ideal

/-- The shape relations that the precondition's operations take. -/
theorem preFacts : Cert.Pre_scales_real.Facts where
  bcast_S_S2x8x20 := by decide
  bcast_S_S20x32 := by decide

/-- The bound above is +∞. -/
theorem ofBits_pinf_f32 : Ideal.ofBits .f32 0x7F800000#32 = (⊤ : EReal) := by simp [Ideal.ofBits, Ideal.ieee]

theorem and_one {a b : BitVec 1} (h : IntOp.andi a b = 1#1) : a = 1#1 ∧ b = 1#1 := by
  revert a b; decide

theorem of_ofBool {p : Prop} [Decidable p] (h : BitVec.ofBool (decide p) = 1#1) : p := by
  by_contra hp
  rw [decide_eq_false hp] at h
  exact absurd h (by decide)

theorem ge_zero {x : EReal} (h : IntOp.andi (Ideal.cmp .oge x (Ideal.ofBits .f32 0x00000000#32)) (Ideal.cmp .olt x (Ideal.ofBits .f32 0x7F800000#32)) = 1#1) : 0 ≤ x ∧ x ≠ ⊤ := by
  obtain ⟨h1, h2⟩ := and_one h
  rw [Ideal.ofBits_zero_f32] at h1
  rw [ofBits_pinf_f32] at h2
  exact ⟨of_ofBool h1, (of_ofBool h2).ne⟩
theorem gt_zero {x : EReal} (h : IntOp.andi (Ideal.cmp .ogt x (Ideal.ofBits .f32 0x00000000#32)) (Ideal.cmp .olt x (Ideal.ofBits .f32 0x7F800000#32)) = 1#1) : 0 < x ∧ x ≠ ⊤ := by
  obtain ⟨h1, h2⟩ := and_one h
  rw [Ideal.ofBits_zero_f32] at h1
  rw [ofBits_pinf_f32] at h2
  exact ⟨of_ofBool h1, (of_ofBool h2).ne⟩
theorem gt_bot {x : EReal} (h : IntOp.andi (Ideal.cmp .ogt x (Ideal.ofBits .f32 0xFF800000#32)) (Ideal.cmp .olt x (Ideal.ofBits .f32 0x7F800000#32)) = 1#1) : x ≠ ⊥ ∧ x ≠ ⊤ := by
  obtain ⟨h1, h2⟩ := and_one h
  rw [Cert.KernelIdeal.Folded.ofBits_ninf_f32] at h1
  rw [ofBits_pinf_f32] at h2
  exact ⟨(of_ofBool h1).ne', (of_ofBool h2).ne⟩

variable (m : (ℓ : Loc Cert.KernelIdeal.nD Cert.KernelIdeal.τ Cert.KernelIdeal.sig) → Buf (Elt I) ℓ)

open Cert.KernelIdeal in
/-- The data of the argument arrays are what the arithmetic asks. -/
theorem ok_of_pre (hpre : @Cert.Pre_KernelIdeal_scales_real preFacts m) (c : Dev nD) (n : Fin 2) (h : Fin 20) : (Cert.KernelIdeal.Launch.dat m c n h).Ok := by
  obtain ⟨h1, h2, h3, h4, h5⟩ := hpre c
  have qs := fun t : Fin 1024 => ge_zero (x := m ((c.tc : Thread nD τ).loc main_arg1) (ix3 n (blkOf t) h)) (congrFun h1 (ix3 n (blkOf t) h))
  have ks := fun t : Fin 1024 => ge_zero (x := m ((c.tc : Thread nD τ).loc main_arg3) (ix3 n (blkOf t) h)) (congrFun h2 (ix3 n (blkOf t) h))
  have vs := fun t : Fin 1024 => gt_zero (x := m ((c.tc : Thread nD τ).loc main_arg5) (ix3 n (blkOf t) h)) (congrFun h3 (ix3 n (blkOf t) h))
  have os := fun t : Fin 1024 => ge_zero (x := m ((c.tc : Thread nD τ).loc main_arg7) (ix3 n (blkOf t) h)) (congrFun h4 (ix3 n (blkOf t) h))
  have b := fun u : Fin 32 => gt_bot (x := m ((c.tc : Thread nD τ).loc main_arg8) (ix2 h u)) (congrFun h5 (ix2 h u))
  have hb : ∀ w, biasOf (fun u => m ((c.tc : Thread nD τ).loc main_arg8) (ix2 h u)) w ≠ ⊥ ∧ biasOf (fun u => m ((c.tc : Thread nD τ).loc main_arg8) (ix2 h u)) w ≠ ⊤ := by
    intro w
    unfold biasOf
    split
    · exact b _
    · exact ⟨EReal.zero_ne_bot, EReal.zero_ne_top⟩
  exact ⟨fun t => (qs t).1, fun t => (qs t).2, fun t => (ks t).1, fun t => (ks t).2, fun t => (vs t).1, fun t => (vs t).2,
    fun t => (os t).1, fun t => (os t).2, fun t u => (hb _).1, fun t u => (hb _).2⟩

/-- From the same arguments the two programs end with the same four gradients, and with their arguments unchanged. -/
theorem algebraic : @Cert.algebraic_KernelIdeal_ReferenceIdeal_pre_scales_real Cert.KernelIdeal.Gen.facts Cert.ReferenceIdeal.Gen.facts preFacts := by
  intro m g m' g' hpre hagree
  have hA := ok_of_pre m hpre
  have hd : ∀ c, Cert.ReferenceIdeal.RefValue.dat (Cert.ReferenceIdeal.RefValue.W m' c) = Cert.KernelIdeal.Launch.dat m c := by
    intro c
    obtain ⟨e0, e1, e2, e3, e4, e5, e6, e7, e8⟩ := hagree c
    rw [Cert.ReferenceIdeal.RefValue.dat_W]
    unfold Cert.KernelIdeal.Launch.dat
    rw [e0, e1, e2, e3, e4, e5, e6, e7, e8]
  refine ⟨fun c => (fun z : Cert.KernelIdeal.S2x1024x20x64.Idx => (Cert.KernelIdeal.Launch.dat m c (z 0) (z 2)).dq (z 1) (z 3)),
    fun c => (fun z : Cert.KernelIdeal.S2x1024x20x64.Idx => (Cert.KernelIdeal.Launch.dat m c (z 0) (z 2)).dk (z 1) (z 3)),
    fun c => (fun z : Cert.KernelIdeal.S2x1024x20x64.Idx => (Cert.KernelIdeal.Launch.dat m c (z 0) (z 2)).dv (z 1) (z 3)),
    fun c => (fun z : Cert.KernelIdeal.S20x32.Idx => (∑ n : Fin 2, (Cert.KernelIdeal.Launch.dat m c n (z 0)).db (z 1) : EReal)), ?_, ?_⟩
  · exact θ_run_mono (θ_run_and (Cert.KernelIdeal.Launch.values m g hA) (Cert.KernelIdeal.Gen.unchanged m g)) fun r hr c =>
      ⟨(hr.1 c).1, (hr.1 c).2.1, (hr.1 c).2.2.1, (hr.1 c).2.2.2, hr.2 c⟩
  · exact θ_run_mono (θ_run_and (Cert.ReferenceIdeal.RefValue.values m' g') (Cert.ReferenceIdeal.Gen.unchanged m' g')) fun r hr c =>
      ⟨(hr.1 c).1.trans (congrArg (fun (X : Fin 2 → Fin 20 → Data) (z : Cert.KernelIdeal.S2x1024x20x64.Idx) => (X (z 0) (z 2)).dq (z 1) (z 3)) (hd c)),
        (hr.1 c).2.1.trans (congrArg (fun (X : Fin 2 → Fin 20 → Data) (z : Cert.KernelIdeal.S2x1024x20x64.Idx) => (X (z 0) (z 2)).dk (z 1) (z 3)) (hd c)),
        (hr.1 c).2.2.1.trans (congrArg (fun (X : Fin 2 → Fin 20 → Data) (z : Cert.KernelIdeal.S2x1024x20x64.Idx) => (X (z 0) (z 2)).dv (z 1) (z 3)) (hd c)),
        (hr.1 c).2.2.2.trans (congrArg (fun (X : Fin 2 → Fin 20 → Data) (z : Cert.KernelIdeal.S20x32.Idx) => (∑ n : Fin 2, (X n (z 0)).db (z 1) : EReal)) (hd c)), hr.2 c⟩

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Values
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  ⟨IdealRules.named_const.statement Cert.KernelIdeal.κ "log2e" .f32 0x3FB8AA3B#32 (((Real.log 2)⁻¹ : ℝ) : EReal) rfl,
    IdealRules.named_const.statement Cert.KernelIdeal.κ "sm_log2e" .f32 0x3E38AA3B#32 (((1 / 8) * (Real.log 2)⁻¹ : ℝ) : EReal) rfl⟩,
  algebraic⟩

end Cert.Proof

end
